-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S2x128x1024 : Shape := ⟨3, ![2, 128, 1024]⟩
abbrev S16x128x1024 : Shape := ⟨3, ![16, 128, 1024]⟩
abbrev S15x4 : Shape := ⟨2, ![15, 4]⟩
abbrev S_ : Shape := ⟨0, ![]⟩
abbrev S128x1024 : Shape := ⟨2, ![128, 1024]⟩
abbrev S1x128x1024 : Shape := ⟨3, ![1, 128, 1024]⟩
abbrev S1x1 : Shape := ⟨2, ![1, 1]⟩
abbrev S1x128x256 : Shape := ⟨3, ![1, 128, 256]⟩
abbrev S128x256 : Shape := ⟨2, ![128, 256]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .hbm, ⟨3, _⟩ => ⟨S2048x2048, .f32⟩
  | .local _ .vmem, ⟨0, _⟩ => ⟨S2048x2048, .f32⟩
  | .local _ .vmem, ⟨1, _⟩ => ⟨S2048x2048, .f32⟩
  | .local _ .vmem, ⟨2, _⟩ => ⟨S2x128x1024, .bf16⟩
  | .local _ .vmem, ⟨3, _⟩ => ⟨S2x128x1024, .bf16⟩
  | .local _ .vmem, ⟨4, _⟩ => ⟨S16x128x1024, .bf16⟩
  | .local _ .vmem, ⟨5, _⟩ => ⟨S16x128x1024, .bf16⟩
  | _, _ => ⟨S2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 242 → Bool
  | ⟨i, _⟩ => dmaSemScopedAt i

abbrev sig : RefSig :=
  (ofTc nBuf bufTy 1 242 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v13 : BitVec 32 := Scalar.addi v2 c64_i32
  let c16_i32_10 : BitVec 32 := 16#32
  let v14 : BitVec 32 := Scalar.remsi v13 c16_i32_10
  let c128_i32 : BitVec 32 := 128#32
  let v15 : BitVec 32 := Scalar.muli v14 c128_i32
  let v16 : Index := Scalar.indexCast v15
  let c0 : Index := 0#32
  ![v16.toNat, 0]
def k0_off2 (d0 : Dev nD) (c0_i32_14 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v23 : BitVec 32 := Scalar.addi v2 c0_i32_14
  let c64_i32_15 : BitVec 32 := 64#32
  let v24 : BitVec 32 := Scalar.addi v23 c64_i32_15
  let c16_i32_16 : BitVec 32 := 16#32
  let v25 : BitVec 32 := Scalar.remsi v24 c16_i32_16
  let c0_i32_24 : BitVec 32 := 0#32
  let c0_i32_25 : BitVec 32 := 0#32
  ![v25.toNat, 0, 0]
def k0_off2_at (r : Fin 29) : BitVec 32 :=
  if r.val < 14 then
    if r.val < 7 then
      if r.val < 3 then
        if r.val < 1 then
          0#32
        else
          if r.val < 2 then
            4294967295#32
          else
            1#32
      else
        if r.val < 5 then
          if r.val < 4 then
            4294967294#32
          else
            2#32
        else
          if r.val < 6 then
            4294967293#32
          else
            3#32
    else
      if r.val < 10 then
        if r.val < 8 then
          4294967292#32
        else
          if r.val < 9 then
            4#32
          else
            4294967291#32
      else
        if r.val < 12 then
          if r.val < 11 then
            5#32
          else
            4294967290#32
        else
          if r.val < 13 then
            6#32
          else
            4294967289#32
  else
    if r.val < 21 then
      if r.val < 17 then
        if r.val < 15 then
          7#32
        else
          if r.val < 16 then
            4294967288#32
          else
            8#32
      else
        if r.val < 19 then
          if r.val < 18 then
            4294967287#32
          else
            9#32
        else
          if r.val < 20 then
            4294967286#32
          else
            10#32
    else
      if r.val < 25 then
        if r.val < 23 then
          if r.val < 22 then
            4294967285#32
          else
            11#32
        else
          if r.val < 24 then
            4294967284#32
          else
            12#32
      else
        if r.val < 27 then
          if r.val < 26 then
            4294967283#32
          else
            13#32
        else
          if r.val < 28 then
            4294967282#32
          else
            14#32
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_22 : BitVec 32 := 1#32
  let v26 : BitVec 32 := Scalar.muli v7 c1_i32_22
  let v27 : BitVec 32 := Scalar.addi c0_i32_23 v26
  v27.toNat
def k0_off3 (d0 : Dev nD) (c0_i32_28 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v36 : BitVec 32 := Scalar.addi v2 c0_i32_28
  let c64_i32_29 : BitVec 32 := 64#32
  let v37 : BitVec 32 := Scalar.addi v36 c64_i32_29
  let c16_i32_30 : BitVec 32 := 16#32
  let v38 : BitVec 32 := Scalar.remsi v37 c16_i32_30
  let c0_i32_38 : BitVec 32 := 0#32
  let c256_i32 : BitVec 32 := 256#32
  ![v38.toNat, 0, 256]
def k0_off3_at (r : Fin 29) : BitVec 32 :=
  if r.val < 14 then
    if r.val < 7 then
      if r.val < 3 then
        if r.val < 1 then
          0#32
        else
          if r.val < 2 then
            4294967295#32
          else
            1#32
      else
        if r.val < 5 then
          if r.val < 4 then
            4294967294#32
          else
            2#32
        else
          if r.val < 6 then
            4294967293#32
          else
            3#32
    else
      if r.val < 10 then
        if r.val < 8 then
          4294967292#32
        else
          if r.val < 9 then
            4#32
          else
            4294967291#32
      else
        if r.val < 12 then
          if r.val < 11 then
            5#32
          else
            4294967290#32
        else
          if r.val < 13 then
            6#32
          else
            4294967289#32
  else
    if r.val < 21 then
      if r.val < 17 then
        if r.val < 15 then
          7#32
        else
          if r.val < 16 then
            4294967288#32
          else
            8#32
      else
        if r.val < 19 then
          if r.val < 18 then
            4294967287#32
          else
            9#32
        else
          if r.val < 20 then
            4294967286#32
          else
            10#32
    else
      if r.val < 25 then
        if r.val < 23 then
          if r.val < 22 then
            4294967285#32
          else
            11#32
        else
          if r.val < 24 then
            4294967284#32
          else
            12#32
      else
        if r.val < 27 then
          if r.val < 26 then
            4294967283#32
          else
            13#32
        else
          if r.val < 28 then
            4294967282#32
          else
            14#32
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_36 : BitVec 32 := 1#32
  let v39 : BitVec 32 := Scalar.muli v7 c1_i32_36
  let v40 : BitVec 32 := Scalar.addi c0_i32_37 v39
  v40.toNat
def k0_off4 (d0 : Dev nD) (c0_i32_41 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v49 : BitVec 32 := Scalar.addi v2 c0_i32_41
  let c64_i32_42 : BitVec 32 := 64#32
  let v50 : BitVec 32 := Scalar.addi v49 c64_i32_42
  let c16_i32_43 : BitVec 32 := 16#32
  let v51 : BitVec 32 := Scalar.remsi v50 c16_i32_43
  let c0_i32_51 : BitVec 32 := 0#32
  let c512_i32 : BitVec 32 := 512#32
  ![v51.toNat, 0, 512]
def k0_off4_at (r : Fin 29) : BitVec 32 :=
  if r.val < 14 then
    if r.val < 7 then
      if r.val < 3 then
        if r.val < 1 then
          0#32
        else
          if r.val < 2 then
            4294967295#32
          else
            1#32
      else
        if r.val < 5 then
          if r.val < 4 then
            4294967294#32
          else
            2#32
        else
          if r.val < 6 then
            4294967293#32
          else
            3#32
    else
      if r.val < 10 then
        if r.val < 8 then
          4294967292#32
        else
          if r.val < 9 then
            4#32
          else
            4294967291#32
      else
        if r.val < 12 then
          if r.val < 11 then
            5#32
          else
            4294967290#32
        else
          if r.val < 13 then
            6#32
          else
            4294967289#32
  else
    if r.val < 21 then
      if r.val < 17 then
        if r.val < 15 then
          7#32
        else
          if r.val < 16 then
            4294967288#32
          else
            8#32
      else
        if r.val < 19 then
          if r.val < 18 then
            4294967287#32
          else
            9#32
        else
          if r.val < 20 then
            4294967286#32
          else
            10#32
    else
      if r.val < 25 then
        if r.val < 23 then
          if r.val < 22 then
            4294967285#32
          else
            11#32
        else
          if r.val < 24 then
            4294967284#32
          else
            12#32
      else
        if r.val < 27 then
          if r.val < 26 then
            4294967283#32
          else
            13#32
        else
          if r.val < 28 then
            4294967282#32
          else
            14#32
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_49 : BitVec 32 := 1#32
  let v52 : BitVec 32 := Scalar.muli v7 c1_i32_49
  let v53 : BitVec 32 := Scalar.addi c0_i32_50 v52
  v53.toNat
def k0_off5 (d0 : Dev nD) (c0_i32_54 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v62 : BitVec 32 := Scalar.addi v2 c0_i32_54
  let c64_i32_55 : BitVec 32 := 64#32
  let v63 : BitVec 32 := Scalar.addi v62 c64_i32_55
  let c16_i32_56 : BitVec 32 := 16#32
  let v64 : BitVec 32 := Scalar.remsi v63 c16_i32_56
  let c0_i32_63 : BitVec 32 := 0#32
  let c768_i32 : BitVec 32 := 768#32
  ![v64.toNat, 0, 768]
def k0_off5_at (r : Fin 29) : BitVec 32 :=
  if r.val < 14 then
    if r.val < 7 then
      if r.val < 3 then
        if r.val < 1 then
          0#32
        else
          if r.val < 2 then
            4294967295#32
          else
            1#32
      else
        if r.val < 5 then
          if r.val < 4 then
            4294967294#32
          else
            2#32
        else
          if r.val < 6 then
            4294967293#32
          else
            3#32
    else
      if r.val < 10 then
        if r.val < 8 then
          4294967292#32
        else
          if r.val < 9 then
            4#32
          else
            4294967291#32
      else
        if r.val < 12 then
          if r.val < 11 then
            5#32
          else
            4294967290#32
        else
          if r.val < 13 then
            6#32
          else
            4294967289#32
  else
    if r.val < 21 then
      if r.val < 17 then
        if r.val < 15 then
          7#32
        else
          if r.val < 16 then
            4294967288#32
          else
            8#32
      else
        if r.val < 19 then
          if r.val < 18 then
            4294967287#32
          else
            9#32
        else
          if r.val < 20 then
            4294967286#32
          else
            10#32
    else
      if r.val < 25 then
        if r.val < 23 then
          if r.val < 22 then
            4294967285#32
          else
            11#32
        else
          if r.val < 24 then
            4294967284#32
          else
            12#32
      else
        if r.val < 27 then
          if r.val < 26 then
            4294967283#32
          else
            13#32
        else
          if r.val < 28 then
            4294967282#32
          else
            14#32
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_61 : BitVec 32 := 1#32
  let v65 : BitVec 32 := Scalar.muli v7 c1_i32_61
  let v66 : BitVec 32 := Scalar.addi c0_i32_62 v65
  v66.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_66 : BitVec 32 := 64#32
  let v75 : BitVec 32 := Scalar.addi v2 c64_i32_66
  let c16_i32_67 : BitVec 32 := 16#32
  let v76 : BitVec 32 := Scalar.remsi v75 c16_i32_67
  let c128_i32_68 : BitVec 32 := 128#32
  let v77 : BitVec 32 := Scalar.muli v76 c128_i32_68
  let v78 : Index := Scalar.indexCast v77
  let c1024 : Index := 1024#32
  ![v78.toNat, 1024]
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_80 : BitVec 32 := 1#32
  let v88 : BitVec 32 := Scalar.muli v5 c1_i32_80
  let v89 : BitVec 32 := Scalar.addi c0_i32_81 v88
  v89.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_94 : BitVec 32 := 1#32
  let v101 : BitVec 32 := Scalar.muli v5 c1_i32_94
  let v102 : BitVec 32 := Scalar.addi c0_i32_95 v101
  v102.toNat
def k0_dev9 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_108 : BitVec 32 := 1#32
  let v114 : BitVec 32 := Scalar.muli v5 c1_i32_108
  let v115 : BitVec 32 := Scalar.addi c0_i32_109 v114
  v115.toNat
def k0_dev10 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_122 : BitVec 32 := 1#32
  let v127 : BitVec 32 := Scalar.muli v5 c1_i32_122
  let v128 : BitVec 32 := Scalar.addi c0_i32_123 v127
  v128.toNat
def k0_off7 (d0 : Dev nD) (c_m1_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v137 : BitVec 32 := Scalar.addi v2 c_m1_i32
  let c64_i32_128 : BitVec 32 := 64#32
  let v138 : BitVec 32 := Scalar.addi v137 c64_i32_128
  let c16_i32_129 : BitVec 32 := 16#32
  let v139 : BitVec 32 := Scalar.remsi v138 c16_i32_129
  let c128_i32_141 : BitVec 32 := 128#32
  let v148 : BitVec 32 := Scalar.muli v139 c128_i32_141
  let v149 : Index := Scalar.indexCast v148
  let c0_142 : Index := 0#32
  ![v149.toNat, 0]
def k0_off7_at (r : Fin 16) : BitVec 32 :=
  if r.val < 8 then
    if r.val < 4 then
      if r.val < 2 then
        if r.val < 1 then
          4294967295#32
        else
          4294967294#32
      else
        if r.val < 3 then
          4294967293#32
        else
          4294967292#32
    else
      if r.val < 6 then
        if r.val < 5 then
          4294967291#32
        else
          4294967290#32
      else
        if r.val < 7 then
          4294967289#32
        else
          4294967288#32
  else
    if r.val < 12 then
      if r.val < 10 then
        if r.val < 9 then
          4294967287#32
        else
          4294967286#32
      else
        if r.val < 11 then
          4294967285#32
        else
          4294967284#32
    else
      if r.val < 14 then
        if r.val < 13 then
          4294967283#32
        else
          4294967282#32
      else
        if r.val < 15 then
          4294967281#32
        else
          0#32
def k0_off8 (d0 : Dev nD) (c_m1_i32 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v137 : BitVec 32 := Scalar.addi v2 c_m1_i32
  let c64_i32_128 : BitVec 32 := 64#32
  let v138 : BitVec 32 := Scalar.addi v137 c64_i32_128
  let c16_i32_129 : BitVec 32 := 16#32
  let v139 : BitVec 32 := Scalar.remsi v138 c16_i32_129
  let v152 : Index := Scalar.indexCast v139
  let c0_143 : Index := 0#32
  let c0_144 : Index := 0#32
  ![v152.toNat, 0, 0]
def k0_off8_at (r : Fin 31) : BitVec 32 :=
  if r.val < 15 then
    if r.val < 7 then
      if r.val < 3 then
        if r.val < 1 then
          4294967295#32
        else
          if r.val < 2 then
            1#32
          else
            4294967294#32
      else
        if r.val < 5 then
          if r.val < 4 then
            2#32
          else
            4294967293#32
        else
          if r.val < 6 then
            3#32
          else
            4294967292#32
    else
      if r.val < 11 then
        if r.val < 9 then
          if r.val < 8 then
            4#32
          else
            4294967291#32
        else
          if r.val < 10 then
            5#32
          else
            4294967290#32
      else
        if r.val < 13 then
          if r.val < 12 then
            6#32
          else
            4294967289#32
        else
          if r.val < 14 then
            7#32
          else
            4294967288#32
  else
    if r.val < 23 then
      if r.val < 19 then
        if r.val < 17 then
          if r.val < 16 then
            8#32
          else
            4294967287#32
        else
          if r.val < 18 then
            9#32
          else
            4294967286#32
      else
        if r.val < 21 then
          if r.val < 20 then
            10#32
          else
            4294967285#32
        else
          if r.val < 22 then
            11#32
          else
            4294967284#32
    else
      if r.val < 27 then
        if r.val < 25 then
          if r.val < 24 then
            12#32
          else
            4294967283#32
        else
          if r.val < 26 then
            13#32
          else
            4294967282#32
      else
        if r.val < 29 then
          if r.val < 28 then
            14#32
          else
            4294967281#32
        else
          if r.val < 30 then
            15#32
          else
            0#32
def k0_dev11 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_155 : BitVec 32 := 1#32
  let v164 : BitVec 32 := Scalar.muli v7 c1_i32_155
  let v165 : BitVec 32 := Scalar.addi c0_i32_156 v164
  v165.toNat
def k0_off9 (d0 : Dev nD) (c1_i32_163 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v177 : BitVec 32 := Scalar.addi v2 c1_i32_163
  let c64_i32_164 : BitVec 32 := 64#32
  let v178 : BitVec 32 := Scalar.addi v177 c64_i32_164
  let c16_i32_165 : BitVec 32 := 16#32
  let v179 : BitVec 32 := Scalar.remsi v178 c16_i32_165
  let c128_i32_177 : BitVec 32 := 128#32
  let v188 : BitVec 32 := Scalar.muli v179 c128_i32_177
  let v189 : Index := Scalar.indexCast v188
  let c1024_178 : Index := 1024#32
  ![v189.toNat, 1024]
def k0_dev12 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_192 : BitVec 32 := 1#32
  let v204 : BitVec 32 := Scalar.muli v5 c1_i32_192
  let v205 : BitVec 32 := Scalar.addi c0_i32_193 v204
  v205.toNat
def k0_off10 (d0 : Dev nD) (c_m1_i32_200 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v217 : BitVec 32 := Scalar.addi v2 c_m1_i32_200
  let c64_i32_201 : BitVec 32 := 64#32
  let v218 : BitVec 32 := Scalar.addi v217 c64_i32_201
  let c16_i32_202 : BitVec 32 := 16#32
  let v219 : BitVec 32 := Scalar.remsi v218 c16_i32_202
  let c128_i32_214 : BitVec 32 := 128#32
  let v228 : BitVec 32 := Scalar.muli v219 c128_i32_214
  let v229 : Index := Scalar.indexCast v228
  let c256 : Index := 256#32
  ![v229.toNat, 256]
def k0_off10_at (r : Fin 16) : BitVec 32 :=
  if r.val < 8 then
    if r.val < 4 then
      if r.val < 2 then
        if r.val < 1 then
          4294967295#32
        else
          4294967294#32
      else
        if r.val < 3 then
          4294967293#32
        else
          4294967292#32
    else
      if r.val < 6 then
        if r.val < 5 then
          4294967291#32
        else
          4294967290#32
      else
        if r.val < 7 then
          4294967289#32
        else
          4294967288#32
  else
    if r.val < 12 then
      if r.val < 10 then
        if r.val < 9 then
          4294967287#32
        else
          4294967286#32
      else
        if r.val < 11 then
          4294967285#32
        else
          4294967284#32
    else
      if r.val < 14 then
        if r.val < 13 then
          4294967283#32
        else
          4294967282#32
      else
        if r.val < 15 then
          4294967281#32
        else
          0#32
def k0_off11 (d0 : Dev nD) (c_m1_i32_200 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v217 : BitVec 32 := Scalar.addi v2 c_m1_i32_200
  let c64_i32_201 : BitVec 32 := 64#32
  let v218 : BitVec 32 := Scalar.addi v217 c64_i32_201
  let c16_i32_202 : BitVec 32 := 16#32
  let v219 : BitVec 32 := Scalar.remsi v218 c16_i32_202
  let v232 : Index := Scalar.indexCast v219
  let c0_215 : Index := 0#32
  let c256_216 : Index := 256#32
  ![v232.toNat, 0, 256]
def k0_off11_at (r : Fin 31) : BitVec 32 :=
  if r.val < 15 then
    if r.val < 7 then
      if r.val < 3 then
        if r.val < 1 then
          4294967295#32
        else
          if r.val < 2 then
            1#32
          else
            4294967294#32
      else
        if r.val < 5 then
          if r.val < 4 then
            2#32
          else
            4294967293#32
        else
          if r.val < 6 then
            3#32
          else
            4294967292#32
    else
      if r.val < 11 then
        if r.val < 9 then
          if r.val < 8 then
            4#32
          else
            4294967291#32
        else
          if r.val < 10 then
            5#32
          else
            4294967290#32
      else
        if r.val < 13 then
          if r.val < 12 then
            6#32
          else
            4294967289#32
        else
          if r.val < 14 then
            7#32
          else
            4294967288#32
  else
    if r.val < 23 then
      if r.val < 19 then
        if r.val < 17 then
          if r.val < 16 then
            8#32
          else
            4294967287#32
        else
          if r.val < 18 then
            9#32
          else
            4294967286#32
      else
        if r.val < 21 then
          if r.val < 20 then
            10#32
          else
            4294967285#32
        else
          if r.val < 22 then
            11#32
          else
            4294967284#32
    else
      if r.val < 27 then
        if r.val < 25 then
          if r.val < 24 then
            12#32
          else
            4294967283#32
        else
          if r.val < 26 then
            13#32
          else
            4294967282#32
      else
        if r.val < 29 then
          if r.val < 28 then
            14#32
          else
            4294967281#32
        else
          if r.val < 30 then
            15#32
          else
            0#32
def k0_dev13 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_228 : BitVec 32 := 1#32
  let v244 : BitVec 32 := Scalar.muli v7 c1_i32_228
  let v245 : BitVec 32 := Scalar.addi c0_i32_229 v244
  v245.toNat
def k0_off12 (d0 : Dev nD) (c1_i32_236 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v257 : BitVec 32 := Scalar.addi v2 c1_i32_236
  let c64_i32_237 : BitVec 32 := 64#32
  let v258 : BitVec 32 := Scalar.addi v257 c64_i32_237
  let c16_i32_238 : BitVec 32 := 16#32
  let v259 : BitVec 32 := Scalar.remsi v258 c16_i32_238
  let c128_i32_250 : BitVec 32 := 128#32
  let v268 : BitVec 32 := Scalar.muli v259 c128_i32_250
  let v269 : Index := Scalar.indexCast v268
  let c1280 : Index := 1280#32
  ![v269.toNat, 1280]
def k0_dev14 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_264 : BitVec 32 := 1#32
  let v284 : BitVec 32 := Scalar.muli v5 c1_i32_264
  let v285 : BitVec 32 := Scalar.addi c0_i32_265 v284
  v285.toNat
def k0_off13 (d0 : Dev nD) (c_m1_i32_272 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v297 : BitVec 32 := Scalar.addi v2 c_m1_i32_272
  let c64_i32_273 : BitVec 32 := 64#32
  let v298 : BitVec 32 := Scalar.addi v297 c64_i32_273
  let c16_i32_274 : BitVec 32 := 16#32
  let v299 : BitVec 32 := Scalar.remsi v298 c16_i32_274
  let c128_i32_286 : BitVec 32 := 128#32
  let v308 : BitVec 32 := Scalar.muli v299 c128_i32_286
  let v309 : Index := Scalar.indexCast v308
  let c512 : Index := 512#32
  ![v309.toNat, 512]
def k0_off13_at (r : Fin 16) : BitVec 32 :=
  if r.val < 8 then
    if r.val < 4 then
      if r.val < 2 then
        if r.val < 1 then
          4294967295#32
        else
          4294967294#32
      else
        if r.val < 3 then
          4294967293#32
        else
          4294967292#32
    else
      if r.val < 6 then
        if r.val < 5 then
          4294967291#32
        else
          4294967290#32
      else
        if r.val < 7 then
          4294967289#32
        else
          4294967288#32
  else
    if r.val < 12 then
      if r.val < 10 then
        if r.val < 9 then
          4294967287#32
        else
          4294967286#32
      else
        if r.val < 11 then
          4294967285#32
        else
          4294967284#32
    else
      if r.val < 14 then
        if r.val < 13 then
          4294967283#32
        else
          4294967282#32
      else
        if r.val < 15 then
          4294967281#32
        else
          0#32
def k0_off14 (d0 : Dev nD) (c_m1_i32_272 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v297 : BitVec 32 := Scalar.addi v2 c_m1_i32_272
  let c64_i32_273 : BitVec 32 := 64#32
  let v298 : BitVec 32 := Scalar.addi v297 c64_i32_273
  let c16_i32_274 : BitVec 32 := 16#32
  let v299 : BitVec 32 := Scalar.remsi v298 c16_i32_274
  let v312 : Index := Scalar.indexCast v299
  let c0_287 : Index := 0#32
  let c512_288 : Index := 512#32
  ![v312.toNat, 0, 512]
def k0_off14_at (r : Fin 31) : BitVec 32 :=
  if r.val < 15 then
    if r.val < 7 then
      if r.val < 3 then
        if r.val < 1 then
          4294967295#32
        else
          if r.val < 2 then
            1#32
          else
            4294967294#32
      else
        if r.val < 5 then
          if r.val < 4 then
            2#32
          else
            4294967293#32
        else
          if r.val < 6 then
            3#32
          else
            4294967292#32
    else
      if r.val < 11 then
        if r.val < 9 then
          if r.val < 8 then
            4#32
          else
            4294967291#32
        else
          if r.val < 10 then
            5#32
          else
            4294967290#32
      else
        if r.val < 13 then
          if r.val < 12 then
            6#32
          else
            4294967289#32
        else
          if r.val < 14 then
            7#32
          else
            4294967288#32
  else
    if r.val < 23 then
      if r.val < 19 then
        if r.val < 17 then
          if r.val < 16 then
            8#32
          else
            4294967287#32
        else
          if r.val < 18 then
            9#32
          else
            4294967286#32
      else
        if r.val < 21 then
          if r.val < 20 then
            10#32
          else
            4294967285#32
        else
          if r.val < 22 then
            11#32
          else
            4294967284#32
    else
      if r.val < 27 then
        if r.val < 25 then
          if r.val < 24 then
            12#32
          else
            4294967283#32
        else
          if r.val < 26 then
            13#32
          else
            4294967282#32
      else
        if r.val < 29 then
          if r.val < 28 then
            14#32
          else
            4294967281#32
        else
          if r.val < 30 then
            15#32
          else
            0#32
def k0_dev15 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_300 : BitVec 32 := 1#32
  let v324 : BitVec 32 := Scalar.muli v7 c1_i32_300
  let v325 : BitVec 32 := Scalar.addi c0_i32_301 v324
  v325.toNat
def k0_off15 (d0 : Dev nD) (c1_i32_308 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v337 : BitVec 32 := Scalar.addi v2 c1_i32_308
  let c64_i32_309 : BitVec 32 := 64#32
  let v338 : BitVec 32 := Scalar.addi v337 c64_i32_309
  let c16_i32_310 : BitVec 32 := 16#32
  let v339 : BitVec 32 := Scalar.remsi v338 c16_i32_310
  let c128_i32_322 : BitVec 32 := 128#32
  let v348 : BitVec 32 := Scalar.muli v339 c128_i32_322
  let v349 : Index := Scalar.indexCast v348
  let c1536 : Index := 1536#32
  ![v349.toNat, 1536]
def k0_dev16 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_336 : BitVec 32 := 1#32
  let v364 : BitVec 32 := Scalar.muli v5 c1_i32_336
  let v365 : BitVec 32 := Scalar.addi c0_i32_337 v364
  v365.toNat
def k0_off16 (d0 : Dev nD) (c_m1_i32_344 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v377 : BitVec 32 := Scalar.addi v2 c_m1_i32_344
  let c64_i32_345 : BitVec 32 := 64#32
  let v378 : BitVec 32 := Scalar.addi v377 c64_i32_345
  let c16_i32_346 : BitVec 32 := 16#32
  let v379 : BitVec 32 := Scalar.remsi v378 c16_i32_346
  let c128_i32_358 : BitVec 32 := 128#32
  let v388 : BitVec 32 := Scalar.muli v379 c128_i32_358
  let v389 : Index := Scalar.indexCast v388
  let c768 : Index := 768#32
  ![v389.toNat, 768]
def k0_off16_at (r : Fin 16) : BitVec 32 :=
  if r.val < 8 then
    if r.val < 4 then
      if r.val < 2 then
        if r.val < 1 then
          4294967295#32
        else
          4294967294#32
      else
        if r.val < 3 then
          4294967293#32
        else
          4294967292#32
    else
      if r.val < 6 then
        if r.val < 5 then
          4294967291#32
        else
          4294967290#32
      else
        if r.val < 7 then
          4294967289#32
        else
          4294967288#32
  else
    if r.val < 12 then
      if r.val < 10 then
        if r.val < 9 then
          4294967287#32
        else
          4294967286#32
      else
        if r.val < 11 then
          4294967285#32
        else
          4294967284#32
    else
      if r.val < 14 then
        if r.val < 13 then
          4294967283#32
        else
          4294967282#32
      else
        if r.val < 15 then
          4294967281#32
        else
          0#32
def k0_off17 (d0 : Dev nD) (c_m1_i32_344 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v377 : BitVec 32 := Scalar.addi v2 c_m1_i32_344
  let c64_i32_345 : BitVec 32 := 64#32
  let v378 : BitVec 32 := Scalar.addi v377 c64_i32_345
  let c16_i32_346 : BitVec 32 := 16#32
  let v379 : BitVec 32 := Scalar.remsi v378 c16_i32_346
  let v392 : Index := Scalar.indexCast v379
  let c0_359 : Index := 0#32
  let c768_360 : Index := 768#32
  ![v392.toNat, 0, 768]
def k0_off17_at (r : Fin 31) : BitVec 32 :=
  if r.val < 15 then
    if r.val < 7 then
      if r.val < 3 then
        if r.val < 1 then
          4294967295#32
        else
          if r.val < 2 then
            1#32
          else
            4294967294#32
      else
        if r.val < 5 then
          if r.val < 4 then
            2#32
          else
            4294967293#32
        else
          if r.val < 6 then
            3#32
          else
            4294967292#32
    else
      if r.val < 11 then
        if r.val < 9 then
          if r.val < 8 then
            4#32
          else
            4294967291#32
        else
          if r.val < 10 then
            5#32
          else
            4294967290#32
      else
        if r.val < 13 then
          if r.val < 12 then
            6#32
          else
            4294967289#32
        else
          if r.val < 14 then
            7#32
          else
            4294967288#32
  else
    if r.val < 23 then
      if r.val < 19 then
        if r.val < 17 then
          if r.val < 16 then
            8#32
          else
            4294967287#32
        else
          if r.val < 18 then
            9#32
          else
            4294967286#32
      else
        if r.val < 21 then
          if r.val < 20 then
            10#32
          else
            4294967285#32
        else
          if r.val < 22 then
            11#32
          else
            4294967284#32
    else
      if r.val < 27 then
        if r.val < 25 then
          if r.val < 24 then
            12#32
          else
            4294967283#32
        else
          if r.val < 26 then
            13#32
          else
            4294967282#32
      else
        if r.val < 29 then
          if r.val < 28 then
            14#32
          else
            4294967281#32
        else
          if r.val < 30 then
            15#32
          else
            0#32
def k0_dev17 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_372 : BitVec 32 := 1#32
  let v404 : BitVec 32 := Scalar.muli v7 c1_i32_372
  let v405 : BitVec 32 := Scalar.addi c0_i32_373 v404
  v405.toNat
def k0_off18 (d0 : Dev nD) (c1_i32_380 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v417 : BitVec 32 := Scalar.addi v2 c1_i32_380
  let c64_i32_381 : BitVec 32 := 64#32
  let v418 : BitVec 32 := Scalar.addi v417 c64_i32_381
  let c16_i32_382 : BitVec 32 := 16#32
  let v419 : BitVec 32 := Scalar.remsi v418 c16_i32_382
  let c128_i32_394 : BitVec 32 := 128#32
  let v428 : BitVec 32 := Scalar.muli v419 c128_i32_394
  let v429 : Index := Scalar.indexCast v428
  let c1792 : Index := 1792#32
  ![v429.toNat, 1792]
def k0_dev18 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_408 : BitVec 32 := 1#32
  let v444 : BitVec 32 := Scalar.muli v5 c1_i32_408
  let v445 : BitVec 32 := Scalar.addi c0_i32_409 v444
  v445.toNat
def k0_dev19 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_454 : BitVec 32 := 1#32
  let v490 : BitVec 32 := Scalar.muli v7 c1_i32_454
  let v491 : BitVec 32 := Scalar.addi c0_i32_455 v490
  v491.toNat
def k0_dev20 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_501 : BitVec 32 := 1#32
  let v536 : BitVec 32 := Scalar.muli v5 c1_i32_501
  let v537 : BitVec 32 := Scalar.addi c0_i32_502 v536
  v537.toNat
def k0_dev21 (d0 : Dev nD) : Nat :=
  let c0_i32_549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_548 : BitVec 32 := 1#32
  let v582 : BitVec 32 := Scalar.muli v7 c1_i32_548
  let v583 : BitVec 32 := Scalar.addi c0_i32_549 v582
  v583.toNat
def k0_dev22 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_595 : BitVec 32 := 1#32
  let v628 : BitVec 32 := Scalar.muli v5 c1_i32_595
  let v629 : BitVec 32 := Scalar.addi c0_i32_596 v628
  v629.toNat
def k0_dev23 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_642 : BitVec 32 := 1#32
  let v674 : BitVec 32 := Scalar.muli v7 c1_i32_642
  let v675 : BitVec 32 := Scalar.addi c0_i32_643 v674
  v675.toNat
def k0_dev24 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_689 : BitVec 32 := 1#32
  let v720 : BitVec 32 := Scalar.muli v5 c1_i32_689
  let v721 : BitVec 32 := Scalar.addi c0_i32_690 v720
  v721.toNat
def k0_dev25 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_736 : BitVec 32 := 1#32
  let v766 : BitVec 32 := Scalar.muli v7 c1_i32_736
  let v767 : BitVec 32 := Scalar.addi c0_i32_737 v766
  v767.toNat
def k0_dev26 (d0 : Dev nD) : Nat :=
  let c0_i32_784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_783 : BitVec 32 := 1#32
  let v812 : BitVec 32 := Scalar.muli v5 c1_i32_783
  let v813 : BitVec 32 := Scalar.addi c0_i32_784 v812
  v813.toNat
def k0_dev27 (d0 : Dev nD) : Nat :=
  let c0_i32_830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_829 : BitVec 32 := 1#32
  let v858 : BitVec 32 := Scalar.muli v7 c1_i32_829
  let v859 : BitVec 32 := Scalar.addi c0_i32_830 v858
  v859.toNat
def k0_dev28 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_876 : BitVec 32 := 1#32
  let v904 : BitVec 32 := Scalar.muli v5 c1_i32_876
  let v905 : BitVec 32 := Scalar.addi c0_i32_877 v904
  v905.toNat
def k0_dev29 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_923 : BitVec 32 := 1#32
  let v950 : BitVec 32 := Scalar.muli v7 c1_i32_923
  let v951 : BitVec 32 := Scalar.addi c0_i32_924 v950
  v951.toNat
def k0_dev30 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_970 : BitVec 32 := 1#32
  let v996 : BitVec 32 := Scalar.muli v5 c1_i32_970
  let v997 : BitVec 32 := Scalar.addi c0_i32_971 v996
  v997.toNat
def k0_dev31 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1017 : BitVec 32 := 1#32
  let v1042 : BitVec 32 := Scalar.muli v7 c1_i32_1017
  let v1043 : BitVec 32 := Scalar.addi c0_i32_1018 v1042
  v1043.toNat
def k0_dev32 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1064 : BitVec 32 := 1#32
  let v1088 : BitVec 32 := Scalar.muli v5 c1_i32_1064
  let v1089 : BitVec 32 := Scalar.addi c0_i32_1065 v1088
  v1089.toNat
def k0_dev33 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1111 : BitVec 32 := 1#32
  let v1134 : BitVec 32 := Scalar.muli v7 c1_i32_1111
  let v1135 : BitVec 32 := Scalar.addi c0_i32_1112 v1134
  v1135.toNat
def k0_dev34 (d0 : Dev nD) : Nat :=
  let c0_i32_1159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1158 : BitVec 32 := 1#32
  let v1180 : BitVec 32 := Scalar.muli v5 c1_i32_1158
  let v1181 : BitVec 32 := Scalar.addi c0_i32_1159 v1180
  v1181.toNat
def k0_dev35 (d0 : Dev nD) : Nat :=
  let c0_i32_1204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1203 : BitVec 32 := 1#32
  let v1226 : BitVec 32 := Scalar.muli v7 c1_i32_1203
  let v1227 : BitVec 32 := Scalar.addi c0_i32_1204 v1226
  v1227.toNat
def k0_dev36 (d0 : Dev nD) : Nat :=
  let c0_i32_1251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1250 : BitVec 32 := 1#32
  let v1272 : BitVec 32 := Scalar.muli v5 c1_i32_1250
  let v1273 : BitVec 32 := Scalar.addi c0_i32_1251 v1272
  v1273.toNat
def k0_dev37 (d0 : Dev nD) : Nat :=
  let c0_i32_1298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1297 : BitVec 32 := 1#32
  let v1318 : BitVec 32 := Scalar.muli v7 c1_i32_1297
  let v1319 : BitVec 32 := Scalar.addi c0_i32_1298 v1318
  v1319.toNat
def k0_dev38 (d0 : Dev nD) : Nat :=
  let c0_i32_1345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1344 : BitVec 32 := 1#32
  let v1364 : BitVec 32 := Scalar.muli v5 c1_i32_1344
  let v1365 : BitVec 32 := Scalar.addi c0_i32_1345 v1364
  v1365.toNat
def k0_dev39 (d0 : Dev nD) : Nat :=
  let c0_i32_1392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1391 : BitVec 32 := 1#32
  let v1410 : BitVec 32 := Scalar.muli v7 c1_i32_1391
  let v1411 : BitVec 32 := Scalar.addi c0_i32_1392 v1410
  v1411.toNat
def k0_dev40 (d0 : Dev nD) : Nat :=
  let c0_i32_1439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1438 : BitVec 32 := 1#32
  let v1456 : BitVec 32 := Scalar.muli v5 c1_i32_1438
  let v1457 : BitVec 32 := Scalar.addi c0_i32_1439 v1456
  v1457.toNat
def k0_dev41 (d0 : Dev nD) : Nat :=
  let c0_i32_1486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1485 : BitVec 32 := 1#32
  let v1502 : BitVec 32 := Scalar.muli v7 c1_i32_1485
  let v1503 : BitVec 32 := Scalar.addi c0_i32_1486 v1502
  v1503.toNat
def k0_dev42 (d0 : Dev nD) : Nat :=
  let c0_i32_1533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1532 : BitVec 32 := 1#32
  let v1548 : BitVec 32 := Scalar.muli v5 c1_i32_1532
  let v1549 : BitVec 32 := Scalar.addi c0_i32_1533 v1548
  v1549.toNat
def k0_dev43 (d0 : Dev nD) : Nat :=
  let c0_i32_1578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1577 : BitVec 32 := 1#32
  let v1594 : BitVec 32 := Scalar.muli v7 c1_i32_1577
  let v1595 : BitVec 32 := Scalar.addi c0_i32_1578 v1594
  v1595.toNat
def k0_dev44 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1624 : BitVec 32 := 1#32
  let v1640 : BitVec 32 := Scalar.muli v5 c1_i32_1624
  let v1641 : BitVec 32 := Scalar.addi c0_i32_1625 v1640
  v1641.toNat
def k0_dev45 (d0 : Dev nD) : Nat :=
  let c0_i32_1672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1671 : BitVec 32 := 1#32
  let v1686 : BitVec 32 := Scalar.muli v7 c1_i32_1671
  let v1687 : BitVec 32 := Scalar.addi c0_i32_1672 v1686
  v1687.toNat
def k0_dev46 (d0 : Dev nD) : Nat :=
  let c0_i32_1719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1718 : BitVec 32 := 1#32
  let v1732 : BitVec 32 := Scalar.muli v5 c1_i32_1718
  let v1733 : BitVec 32 := Scalar.addi c0_i32_1719 v1732
  v1733.toNat
def k0_dev47 (d0 : Dev nD) : Nat :=
  let c0_i32_1766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1765 : BitVec 32 := 1#32
  let v1778 : BitVec 32 := Scalar.muli v7 c1_i32_1765
  let v1779 : BitVec 32 := Scalar.addi c0_i32_1766 v1778
  v1779.toNat
def k0_dev48 (d0 : Dev nD) : Nat :=
  let c0_i32_1813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1812 : BitVec 32 := 1#32
  let v1824 : BitVec 32 := Scalar.muli v5 c1_i32_1812
  let v1825 : BitVec 32 := Scalar.addi c0_i32_1813 v1824
  v1825.toNat
def k0_dev49 (d0 : Dev nD) : Nat :=
  let c0_i32_1860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1859 : BitVec 32 := 1#32
  let v1870 : BitVec 32 := Scalar.muli v7 c1_i32_1859
  let v1871 : BitVec 32 := Scalar.addi c0_i32_1860 v1870
  v1871.toNat
def k0_dev50 (d0 : Dev nD) : Nat :=
  let c0_i32_1907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1906 : BitVec 32 := 1#32
  let v1916 : BitVec 32 := Scalar.muli v5 c1_i32_1906
  let v1917 : BitVec 32 := Scalar.addi c0_i32_1907 v1916
  v1917.toNat
def k0_dev51 (d0 : Dev nD) : Nat :=
  let c0_i32_1952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1951 : BitVec 32 := 1#32
  let v1962 : BitVec 32 := Scalar.muli v7 c1_i32_1951
  let v1963 : BitVec 32 := Scalar.addi c0_i32_1952 v1962
  v1963.toNat
def k0_dev52 (d0 : Dev nD) : Nat :=
  let c0_i32_1999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1998 : BitVec 32 := 1#32
  let v2008 : BitVec 32 := Scalar.muli v5 c1_i32_1998
  let v2009 : BitVec 32 := Scalar.addi c0_i32_1999 v2008
  v2009.toNat
def k0_dev53 (d0 : Dev nD) : Nat :=
  let c0_i32_2046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2045 : BitVec 32 := 1#32
  let v2054 : BitVec 32 := Scalar.muli v7 c1_i32_2045
  let v2055 : BitVec 32 := Scalar.addi c0_i32_2046 v2054
  v2055.toNat
def k0_dev54 (d0 : Dev nD) : Nat :=
  let c0_i32_2093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2092 : BitVec 32 := 1#32
  let v2100 : BitVec 32 := Scalar.muli v5 c1_i32_2092
  let v2101 : BitVec 32 := Scalar.addi c0_i32_2093 v2100
  v2101.toNat
def k0_dev55 (d0 : Dev nD) : Nat :=
  let c0_i32_2140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2139 : BitVec 32 := 1#32
  let v2146 : BitVec 32 := Scalar.muli v7 c1_i32_2139
  let v2147 : BitVec 32 := Scalar.addi c0_i32_2140 v2146
  v2147.toNat
def k0_dev56 (d0 : Dev nD) : Nat :=
  let c0_i32_2187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2186 : BitVec 32 := 1#32
  let v2192 : BitVec 32 := Scalar.muli v5 c1_i32_2186
  let v2193 : BitVec 32 := Scalar.addi c0_i32_2187 v2192
  v2193.toNat
def k0_dev57 (d0 : Dev nD) : Nat :=
  let c0_i32_2234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2233 : BitVec 32 := 1#32
  let v2238 : BitVec 32 := Scalar.muli v7 c1_i32_2233
  let v2239 : BitVec 32 := Scalar.addi c0_i32_2234 v2238
  v2239.toNat
def k0_dev58 (d0 : Dev nD) : Nat :=
  let c0_i32_2281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2280 : BitVec 32 := 1#32
  let v2284 : BitVec 32 := Scalar.muli v5 c1_i32_2280
  let v2285 : BitVec 32 := Scalar.addi c0_i32_2281 v2284
  v2285.toNat
def k0_dev59 (d0 : Dev nD) : Nat :=
  let c0_i32_2326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2325 : BitVec 32 := 1#32
  let v2330 : BitVec 32 := Scalar.muli v7 c1_i32_2325
  let v2331 : BitVec 32 := Scalar.addi c0_i32_2326 v2330
  v2331.toNat
def k0_dev60 (d0 : Dev nD) : Nat :=
  let c0_i32_2373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2372 : BitVec 32 := 1#32
  let v2376 : BitVec 32 := Scalar.muli v5 c1_i32_2372
  let v2377 : BitVec 32 := Scalar.addi c0_i32_2373 v2376
  v2377.toNat
def k0_dev61 (d0 : Dev nD) : Nat :=
  let c0_i32_2420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2419 : BitVec 32 := 1#32
  let v2422 : BitVec 32 := Scalar.muli v7 c1_i32_2419
  let v2423 : BitVec 32 := Scalar.addi c0_i32_2420 v2422
  v2423.toNat
def k0_dev62 (d0 : Dev nD) : Nat :=
  let c0_i32_2467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2466 : BitVec 32 := 1#32
  let v2468 : BitVec 32 := Scalar.muli v5 c1_i32_2466
  let v2469 : BitVec 32 := Scalar.addi c0_i32_2467 v2468
  v2469.toNat
def k0_dev63 (d0 : Dev nD) : Nat :=
  let c0_i32_2514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2513 : BitVec 32 := 1#32
  let v2514 : BitVec 32 := Scalar.muli v7 c1_i32_2513
  let v2515 : BitVec 32 := Scalar.addi c0_i32_2514 v2514
  v2515.toNat
def k0_dev64 (d0 : Dev nD) : Nat :=
  let c0_i32_2561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2560 : BitVec 32 := 1#32
  let v2560 : BitVec 32 := Scalar.muli v5 c1_i32_2560
  let v2561 : BitVec 32 := Scalar.addi c0_i32_2561 v2560
  v2561.toNat
def k0_dev65 (d0 : Dev nD) : Nat :=
  let c0_i32_2608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2607 : BitVec 32 := 1#32
  let v2606 : BitVec 32 := Scalar.muli v7 c1_i32_2607
  let v2607 : BitVec 32 := Scalar.addi c0_i32_2608 v2606
  v2607.toNat
def k0_dev66 (d0 : Dev nD) : Nat :=
  let c0_i32_2655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2654 : BitVec 32 := 1#32
  let v2652 : BitVec 32 := Scalar.muli v5 c1_i32_2654
  let v2653 : BitVec 32 := Scalar.addi c0_i32_2655 v2652
  v2653.toNat
def k0_dev67 (d0 : Dev nD) : Nat :=
  let c0_i32_2700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2699 : BitVec 32 := 1#32
  let v2698 : BitVec 32 := Scalar.muli v7 c1_i32_2699
  let v2699 : BitVec 32 := Scalar.addi c0_i32_2700 v2698
  v2699.toNat
def k0_dev68 (d0 : Dev nD) : Nat :=
  let c0_i32_2747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2746 : BitVec 32 := 1#32
  let v2744 : BitVec 32 := Scalar.muli v5 c1_i32_2746
  let v2745 : BitVec 32 := Scalar.addi c0_i32_2747 v2744
  v2745.toNat
def k0_dev69 (d0 : Dev nD) : Nat :=
  let c0_i32_2794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2793 : BitVec 32 := 1#32
  let v2790 : BitVec 32 := Scalar.muli v7 c1_i32_2793
  let v2791 : BitVec 32 := Scalar.addi c0_i32_2794 v2790
  v2791.toNat
def k0_dev70 (d0 : Dev nD) : Nat :=
  let c0_i32_2841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2840 : BitVec 32 := 1#32
  let v2836 : BitVec 32 := Scalar.muli v5 c1_i32_2840
  let v2837 : BitVec 32 := Scalar.addi c0_i32_2841 v2836
  v2837.toNat
def k0_dev71 (d0 : Dev nD) : Nat :=
  let c0_i32_2888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2887 : BitVec 32 := 1#32
  let v2882 : BitVec 32 := Scalar.muli v7 c1_i32_2887
  let v2883 : BitVec 32 := Scalar.addi c0_i32_2888 v2882
  v2883.toNat
def k0_dev72 (d0 : Dev nD) : Nat :=
  let c0_i32_2935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2934 : BitVec 32 := 1#32
  let v2928 : BitVec 32 := Scalar.muli v5 c1_i32_2934
  let v2929 : BitVec 32 := Scalar.addi c0_i32_2935 v2928
  v2929.toNat
def k0_dev73 (d0 : Dev nD) : Nat :=
  let c0_i32_2982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2981 : BitVec 32 := 1#32
  let v2974 : BitVec 32 := Scalar.muli v7 c1_i32_2981
  let v2975 : BitVec 32 := Scalar.addi c0_i32_2982 v2974
  v2975.toNat
def k0_dev74 (d0 : Dev nD) : Nat :=
  let c0_i32_3029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3028 : BitVec 32 := 1#32
  let v3020 : BitVec 32 := Scalar.muli v5 c1_i32_3028
  let v3021 : BitVec 32 := Scalar.addi c0_i32_3029 v3020
  v3021.toNat
def k0_dev75 (d0 : Dev nD) : Nat :=
  let c0_i32_3074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3073 : BitVec 32 := 1#32
  let v3066 : BitVec 32 := Scalar.muli v7 c1_i32_3073
  let v3067 : BitVec 32 := Scalar.addi c0_i32_3074 v3066
  v3067.toNat
def k0_dev76 (d0 : Dev nD) : Nat :=
  let c0_i32_3121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3120 : BitVec 32 := 1#32
  let v3112 : BitVec 32 := Scalar.muli v5 c1_i32_3120
  let v3113 : BitVec 32 := Scalar.addi c0_i32_3121 v3112
  v3113.toNat
def k0_dev77 (d0 : Dev nD) : Nat :=
  let c0_i32_3168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3167 : BitVec 32 := 1#32
  let v3158 : BitVec 32 := Scalar.muli v7 c1_i32_3167
  let v3159 : BitVec 32 := Scalar.addi c0_i32_3168 v3158
  v3159.toNat
def k0_dev78 (d0 : Dev nD) : Nat :=
  let c0_i32_3215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3214 : BitVec 32 := 1#32
  let v3204 : BitVec 32 := Scalar.muli v5 c1_i32_3214
  let v3205 : BitVec 32 := Scalar.addi c0_i32_3215 v3204
  v3205.toNat
def k0_dev79 (d0 : Dev nD) : Nat :=
  let c0_i32_3262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3261 : BitVec 32 := 1#32
  let v3250 : BitVec 32 := Scalar.muli v7 c1_i32_3261
  let v3251 : BitVec 32 := Scalar.addi c0_i32_3262 v3250
  v3251.toNat
def k0_dev80 (d0 : Dev nD) : Nat :=
  let c0_i32_3309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3308 : BitVec 32 := 1#32
  let v3296 : BitVec 32 := Scalar.muli v5 c1_i32_3308
  let v3297 : BitVec 32 := Scalar.addi c0_i32_3309 v3296
  v3297.toNat
def k0_dev81 (d0 : Dev nD) : Nat :=
  let c0_i32_3356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3355 : BitVec 32 := 1#32
  let v3342 : BitVec 32 := Scalar.muli v7 c1_i32_3355
  let v3343 : BitVec 32 := Scalar.addi c0_i32_3356 v3342
  v3343.toNat
def k0_dev82 (d0 : Dev nD) : Nat :=
  let c0_i32_3403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3402 : BitVec 32 := 1#32
  let v3388 : BitVec 32 := Scalar.muli v5 c1_i32_3402
  let v3389 : BitVec 32 := Scalar.addi c0_i32_3403 v3388
  v3389.toNat
def k0_dev83 (d0 : Dev nD) : Nat :=
  let c0_i32_3448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3447 : BitVec 32 := 1#32
  let v3434 : BitVec 32 := Scalar.muli v7 c1_i32_3447
  let v3435 : BitVec 32 := Scalar.addi c0_i32_3448 v3434
  v3435.toNat
def k0_dev84 (d0 : Dev nD) : Nat :=
  let c0_i32_3495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3494 : BitVec 32 := 1#32
  let v3480 : BitVec 32 := Scalar.muli v5 c1_i32_3494
  let v3481 : BitVec 32 := Scalar.addi c0_i32_3495 v3480
  v3481.toNat
def k0_dev85 (d0 : Dev nD) : Nat :=
  let c0_i32_3542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3541 : BitVec 32 := 1#32
  let v3526 : BitVec 32 := Scalar.muli v7 c1_i32_3541
  let v3527 : BitVec 32 := Scalar.addi c0_i32_3542 v3526
  v3527.toNat
def k0_dev86 (d0 : Dev nD) : Nat :=
  let c0_i32_3589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3588 : BitVec 32 := 1#32
  let v3572 : BitVec 32 := Scalar.muli v5 c1_i32_3588
  let v3573 : BitVec 32 := Scalar.addi c0_i32_3589 v3572
  v3573.toNat
def k0_dev87 (d0 : Dev nD) : Nat :=
  let c0_i32_3636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3635 : BitVec 32 := 1#32
  let v3618 : BitVec 32 := Scalar.muli v7 c1_i32_3635
  let v3619 : BitVec 32 := Scalar.addi c0_i32_3636 v3618
  v3619.toNat
def k0_dev88 (d0 : Dev nD) : Nat :=
  let c0_i32_3683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3682 : BitVec 32 := 1#32
  let v3664 : BitVec 32 := Scalar.muli v5 c1_i32_3682
  let v3665 : BitVec 32 := Scalar.addi c0_i32_3683 v3664
  v3665.toNat
def k0_dev89 (d0 : Dev nD) : Nat :=
  let c0_i32_3730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3729 : BitVec 32 := 1#32
  let v3710 : BitVec 32 := Scalar.muli v7 c1_i32_3729
  let v3711 : BitVec 32 := Scalar.addi c0_i32_3730 v3710
  v3711.toNat
def k0_dev90 (d0 : Dev nD) : Nat :=
  let c0_i32_3777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3776 : BitVec 32 := 1#32
  let v3756 : BitVec 32 := Scalar.muli v5 c1_i32_3776
  let v3757 : BitVec 32 := Scalar.addi c0_i32_3777 v3756
  v3757.toNat
def k0_dev91 (d0 : Dev nD) : Nat :=
  let c0_i32_3822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3821 : BitVec 32 := 1#32
  let v3802 : BitVec 32 := Scalar.muli v7 c1_i32_3821
  let v3803 : BitVec 32 := Scalar.addi c0_i32_3822 v3802
  v3803.toNat
def k0_dev92 (d0 : Dev nD) : Nat :=
  let c0_i32_3869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3868 : BitVec 32 := 1#32
  let v3848 : BitVec 32 := Scalar.muli v5 c1_i32_3868
  let v3849 : BitVec 32 := Scalar.addi c0_i32_3869 v3848
  v3849.toNat
def k0_dev93 (d0 : Dev nD) : Nat :=
  let c0_i32_3916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3915 : BitVec 32 := 1#32
  let v3894 : BitVec 32 := Scalar.muli v7 c1_i32_3915
  let v3895 : BitVec 32 := Scalar.addi c0_i32_3916 v3894
  v3895.toNat
def k0_dev94 (d0 : Dev nD) : Nat :=
  let c0_i32_3963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3962 : BitVec 32 := 1#32
  let v3940 : BitVec 32 := Scalar.muli v5 c1_i32_3962
  let v3941 : BitVec 32 := Scalar.addi c0_i32_3963 v3940
  v3941.toNat
def k0_dev95 (d0 : Dev nD) : Nat :=
  let c0_i32_4010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4009 : BitVec 32 := 1#32
  let v3986 : BitVec 32 := Scalar.muli v7 c1_i32_4009
  let v3987 : BitVec 32 := Scalar.addi c0_i32_4010 v3986
  v3987.toNat
def k0_dev96 (d0 : Dev nD) : Nat :=
  let c0_i32_4057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4056 : BitVec 32 := 1#32
  let v4032 : BitVec 32 := Scalar.muli v5 c1_i32_4056
  let v4033 : BitVec 32 := Scalar.addi c0_i32_4057 v4032
  v4033.toNat
def k0_dev97 (d0 : Dev nD) : Nat :=
  let c0_i32_4104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4103 : BitVec 32 := 1#32
  let v4078 : BitVec 32 := Scalar.muli v7 c1_i32_4103
  let v4079 : BitVec 32 := Scalar.addi c0_i32_4104 v4078
  v4079.toNat
def k0_dev98 (d0 : Dev nD) : Nat :=
  let c0_i32_4151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4150 : BitVec 32 := 1#32
  let v4124 : BitVec 32 := Scalar.muli v5 c1_i32_4150
  let v4125 : BitVec 32 := Scalar.addi c0_i32_4151 v4124
  v4125.toNat
def k0_dev99 (d0 : Dev nD) : Nat :=
  let c0_i32_4196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4195 : BitVec 32 := 1#32
  let v4170 : BitVec 32 := Scalar.muli v7 c1_i32_4195
  let v4171 : BitVec 32 := Scalar.addi c0_i32_4196 v4170
  v4171.toNat
def k0_dev100 (d0 : Dev nD) : Nat :=
  let c0_i32_4243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4242 : BitVec 32 := 1#32
  let v4216 : BitVec 32 := Scalar.muli v5 c1_i32_4242
  let v4217 : BitVec 32 := Scalar.addi c0_i32_4243 v4216
  v4217.toNat
def k0_dev101 (d0 : Dev nD) : Nat :=
  let c0_i32_4290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4289 : BitVec 32 := 1#32
  let v4262 : BitVec 32 := Scalar.muli v7 c1_i32_4289
  let v4263 : BitVec 32 := Scalar.addi c0_i32_4290 v4262
  v4263.toNat
def k0_dev102 (d0 : Dev nD) : Nat :=
  let c0_i32_4337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4336 : BitVec 32 := 1#32
  let v4308 : BitVec 32 := Scalar.muli v5 c1_i32_4336
  let v4309 : BitVec 32 := Scalar.addi c0_i32_4337 v4308
  v4309.toNat
def k0_dev103 (d0 : Dev nD) : Nat :=
  let c0_i32_4384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4383 : BitVec 32 := 1#32
  let v4354 : BitVec 32 := Scalar.muli v7 c1_i32_4383
  let v4355 : BitVec 32 := Scalar.addi c0_i32_4384 v4354
  v4355.toNat
def k0_dev104 (d0 : Dev nD) : Nat :=
  let c0_i32_4431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4430 : BitVec 32 := 1#32
  let v4400 : BitVec 32 := Scalar.muli v5 c1_i32_4430
  let v4401 : BitVec 32 := Scalar.addi c0_i32_4431 v4400
  v4401.toNat
def k0_dev105 (d0 : Dev nD) : Nat :=
  let c0_i32_4478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4477 : BitVec 32 := 1#32
  let v4446 : BitVec 32 := Scalar.muli v7 c1_i32_4477
  let v4447 : BitVec 32 := Scalar.addi c0_i32_4478 v4446
  v4447.toNat
def k0_dev106 (d0 : Dev nD) : Nat :=
  let c0_i32_4525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4524 : BitVec 32 := 1#32
  let v4492 : BitVec 32 := Scalar.muli v5 c1_i32_4524
  let v4493 : BitVec 32 := Scalar.addi c0_i32_4525 v4492
  v4493.toNat
def k0_dev107 (d0 : Dev nD) : Nat :=
  let c0_i32_4570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4569 : BitVec 32 := 1#32
  let v4538 : BitVec 32 := Scalar.muli v7 c1_i32_4569
  let v4539 : BitVec 32 := Scalar.addi c0_i32_4570 v4538
  v4539.toNat
def k0_dev108 (d0 : Dev nD) : Nat :=
  let c0_i32_4617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4616 : BitVec 32 := 1#32
  let v4584 : BitVec 32 := Scalar.muli v5 c1_i32_4616
  let v4585 : BitVec 32 := Scalar.addi c0_i32_4617 v4584
  v4585.toNat
def k0_dev109 (d0 : Dev nD) : Nat :=
  let c0_i32_4664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4663 : BitVec 32 := 1#32
  let v4630 : BitVec 32 := Scalar.muli v7 c1_i32_4663
  let v4631 : BitVec 32 := Scalar.addi c0_i32_4664 v4630
  v4631.toNat
def k0_dev110 (d0 : Dev nD) : Nat :=
  let c0_i32_4711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4710 : BitVec 32 := 1#32
  let v4676 : BitVec 32 := Scalar.muli v5 c1_i32_4710
  let v4677 : BitVec 32 := Scalar.addi c0_i32_4711 v4676
  v4677.toNat
def k0_dev111 (d0 : Dev nD) : Nat :=
  let c0_i32_4758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4757 : BitVec 32 := 1#32
  let v4722 : BitVec 32 := Scalar.muli v7 c1_i32_4757
  let v4723 : BitVec 32 := Scalar.addi c0_i32_4758 v4722
  v4723.toNat
def k0_dev112 (d0 : Dev nD) : Nat :=
  let c0_i32_4805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4804 : BitVec 32 := 1#32
  let v4768 : BitVec 32 := Scalar.muli v5 c1_i32_4804
  let v4769 : BitVec 32 := Scalar.addi c0_i32_4805 v4768
  v4769.toNat
def k0_dev113 (d0 : Dev nD) : Nat :=
  let c0_i32_4852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4851 : BitVec 32 := 1#32
  let v4814 : BitVec 32 := Scalar.muli v7 c1_i32_4851
  let v4815 : BitVec 32 := Scalar.addi c0_i32_4852 v4814
  v4815.toNat
def k0_dev114 (d0 : Dev nD) : Nat :=
  let c0_i32_4899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4898 : BitVec 32 := 1#32
  let v4860 : BitVec 32 := Scalar.muli v5 c1_i32_4898
  let v4861 : BitVec 32 := Scalar.addi c0_i32_4899 v4860
  v4861.toNat
def k0_dev115 (d0 : Dev nD) : Nat :=
  let c0_i32_4944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4943 : BitVec 32 := 1#32
  let v4906 : BitVec 32 := Scalar.muli v7 c1_i32_4943
  let v4907 : BitVec 32 := Scalar.addi c0_i32_4944 v4906
  v4907.toNat
def k0_dev116 (d0 : Dev nD) : Nat :=
  let c0_i32_4991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4990 : BitVec 32 := 1#32
  let v4952 : BitVec 32 := Scalar.muli v5 c1_i32_4990
  let v4953 : BitVec 32 := Scalar.addi c0_i32_4991 v4952
  v4953.toNat
def k0_dev117 (d0 : Dev nD) : Nat :=
  let c0_i32_5038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5037 : BitVec 32 := 1#32
  let v4998 : BitVec 32 := Scalar.muli v7 c1_i32_5037
  let v4999 : BitVec 32 := Scalar.addi c0_i32_5038 v4998
  v4999.toNat
def k0_dev118 (d0 : Dev nD) : Nat :=
  let c0_i32_5085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5084 : BitVec 32 := 1#32
  let v5044 : BitVec 32 := Scalar.muli v5 c1_i32_5084
  let v5045 : BitVec 32 := Scalar.addi c0_i32_5085 v5044
  v5045.toNat
def k0_dev119 (d0 : Dev nD) : Nat :=
  let c0_i32_5132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5131 : BitVec 32 := 1#32
  let v5090 : BitVec 32 := Scalar.muli v7 c1_i32_5131
  let v5091 : BitVec 32 := Scalar.addi c0_i32_5132 v5090
  v5091.toNat
def k0_dev120 (d0 : Dev nD) : Nat :=
  let c0_i32_5179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5178 : BitVec 32 := 1#32
  let v5136 : BitVec 32 := Scalar.muli v5 c1_i32_5178
  let v5137 : BitVec 32 := Scalar.addi c0_i32_5179 v5136
  v5137.toNat
def k0_dev121 (d0 : Dev nD) : Nat :=
  let c0_i32_5226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5225 : BitVec 32 := 1#32
  let v5182 : BitVec 32 := Scalar.muli v7 c1_i32_5225
  let v5183 : BitVec 32 := Scalar.addi c0_i32_5226 v5182
  v5183.toNat
def k0_dev122 (d0 : Dev nD) : Nat :=
  let c0_i32_5273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5272 : BitVec 32 := 1#32
  let v5228 : BitVec 32 := Scalar.muli v5 c1_i32_5272
  let v5229 : BitVec 32 := Scalar.addi c0_i32_5273 v5228
  v5229.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_5598 : BitVec 32 := 4294967295#32
  let v5521 : BitVec 32 := Scalar.subi v2 c_m1_i32_5598
  let c64_i32_5599 : BitVec 32 := 64#32
  let v5522 : BitVec 32 := Scalar.addi v5521 c64_i32_5599
  let c16_i32_5600 : BitVec 32 := 16#32
  let v5523 : BitVec 32 := Scalar.remsi v5522 c16_i32_5600
  let c128_i32_5601 : BitVec 32 := 128#32
  let v5524 : BitVec 32 := Scalar.muli v5523 c128_i32_5601
  let v5525 : Index := Scalar.indexCast v5524
  let c0_5602 : Index := 0#32
  ![v5525.toNat, 0]
def k0_off20 (d0 : Dev nD) (c_m1_i32_5598 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v5521 : BitVec 32 := Scalar.subi v2 c_m1_i32_5598
  let c64_i32_5599 : BitVec 32 := 64#32
  let v5522 : BitVec 32 := Scalar.addi v5521 c64_i32_5599
  let c16_i32_5600 : BitVec 32 := 16#32
  let v5523 : BitVec 32 := Scalar.remsi v5522 c16_i32_5600
  let v5529 : Index := Scalar.indexCast v5523
  let c0_5603 : Index := 0#32
  let c0_5604 : Index := 0#32
  ![v5529.toNat, 0, 0]
def k0_off21 (d0 : Dev nD) (c_m1_i32_5605 : BitVec 32) (c0_i32_5606 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v5533 : BitVec 32 := Scalar.subi v2 c_m1_i32_5605
  let v5534 : BitVec 32 := Scalar.addi v5533 c0_i32_5606
  let c64_i32_5607 : BitVec 32 := 64#32
  let v5535 : BitVec 32 := Scalar.addi v5534 c64_i32_5607
  let c16_i32_5608 : BitVec 32 := 16#32
  let v5536 : BitVec 32 := Scalar.remsi v5535 c16_i32_5608
  let c0_i32_5615 : BitVec 32 := 0#32
  let c0_i32_5616 : BitVec 32 := 0#32
  ![v5536.toNat, 0, 0]
def k0_off21_at (r : Fin 30) : BitVec 32 × BitVec 32 :=
  if r.val < 15 then
    if r.val < 7 then
      if r.val < 3 then
        if r.val < 1 then
          (4294967295#32, 0#32)
        else
          if r.val < 2 then
            (1#32, 0#32)
          else
            (4294967295#32, 4294967295#32)
      else
        if r.val < 5 then
          if r.val < 4 then
            (1#32, 1#32)
          else
            (4294967295#32, 4294967294#32)
        else
          if r.val < 6 then
            (1#32, 2#32)
          else
            (4294967295#32, 4294967293#32)
    else
      if r.val < 11 then
        if r.val < 9 then
          if r.val < 8 then
            (1#32, 3#32)
          else
            (4294967295#32, 4294967292#32)
        else
          if r.val < 10 then
            (1#32, 4#32)
          else
            (4294967295#32, 4294967291#32)
      else
        if r.val < 13 then
          if r.val < 12 then
            (1#32, 5#32)
          else
            (4294967295#32, 4294967290#32)
        else
          if r.val < 14 then
            (1#32, 6#32)
          else
            (4294967295#32, 4294967289#32)
  else
    if r.val < 22 then
      if r.val < 18 then
        if r.val < 16 then
          (1#32, 7#32)
        else
          if r.val < 17 then
            (4294967295#32, 4294967288#32)
          else
            (1#32, 8#32)
      else
        if r.val < 20 then
          if r.val < 19 then
            (4294967295#32, 4294967287#32)
          else
            (1#32, 9#32)
        else
          if r.val < 21 then
            (4294967295#32, 4294967286#32)
          else
            (1#32, 10#32)
    else
      if r.val < 26 then
        if r.val < 24 then
          if r.val < 23 then
            (4294967295#32, 4294967285#32)
          else
            (1#32, 11#32)
        else
          if r.val < 25 then
            (4294967295#32, 4294967284#32)
          else
            (1#32, 12#32)
      else
        if r.val < 28 then
          if r.val < 27 then
            (4294967295#32, 4294967283#32)
          else
            (1#32, 13#32)
        else
          if r.val < 29 then
            (4294967295#32, 4294967282#32)
          else
            (1#32, 14#32)
def k0_dev123 (d0 : Dev nD) : Nat :=
  let c0_i32_5614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5613 : BitVec 32 := 1#32
  let v5537 : BitVec 32 := Scalar.muli v7 c1_i32_5613
  let v5538 : BitVec 32 := Scalar.addi c0_i32_5614 v5537
  v5538.toNat
def k0_off22 (d0 : Dev nD) (c_m1_i32_5619 : BitVec 32) (c0_i32_5620 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v5547 : BitVec 32 := Scalar.subi v2 c_m1_i32_5619
  let v5548 : BitVec 32 := Scalar.addi v5547 c0_i32_5620
  let c64_i32_5621 : BitVec 32 := 64#32
  let v5549 : BitVec 32 := Scalar.addi v5548 c64_i32_5621
  let c16_i32_5622 : BitVec 32 := 16#32
  let v5550 : BitVec 32 := Scalar.remsi v5549 c16_i32_5622
  let c0_i32_5629 : BitVec 32 := 0#32
  let c256_i32_5630 : BitVec 32 := 256#32
  ![v5550.toNat, 0, 256]
def k0_off22_at (r : Fin 30) : BitVec 32 × BitVec 32 :=
  if r.val < 15 then
    if r.val < 7 then
      if r.val < 3 then
        if r.val < 1 then
          (4294967295#32, 0#32)
        else
          if r.val < 2 then
            (1#32, 0#32)
          else
            (4294967295#32, 4294967295#32)
      else
        if r.val < 5 then
          if r.val < 4 then
            (1#32, 1#32)
          else
            (4294967295#32, 4294967294#32)
        else
          if r.val < 6 then
            (1#32, 2#32)
          else
            (4294967295#32, 4294967293#32)
    else
      if r.val < 11 then
        if r.val < 9 then
          if r.val < 8 then
            (1#32, 3#32)
          else
            (4294967295#32, 4294967292#32)
        else
          if r.val < 10 then
            (1#32, 4#32)
          else
            (4294967295#32, 4294967291#32)
      else
        if r.val < 13 then
          if r.val < 12 then
            (1#32, 5#32)
          else
            (4294967295#32, 4294967290#32)
        else
          if r.val < 14 then
            (1#32, 6#32)
          else
            (4294967295#32, 4294967289#32)
  else
    if r.val < 22 then
      if r.val < 18 then
        if r.val < 16 then
          (1#32, 7#32)
        else
          if r.val < 17 then
            (4294967295#32, 4294967288#32)
          else
            (1#32, 8#32)
      else
        if r.val < 20 then
          if r.val < 19 then
            (4294967295#32, 4294967287#32)
          else
            (1#32, 9#32)
        else
          if r.val < 21 then
            (4294967295#32, 4294967286#32)
          else
            (1#32, 10#32)
    else
      if r.val < 26 then
        if r.val < 24 then
          if r.val < 23 then
            (4294967295#32, 4294967285#32)
          else
            (1#32, 11#32)
        else
          if r.val < 25 then
            (4294967295#32, 4294967284#32)
          else
            (1#32, 12#32)
      else
        if r.val < 28 then
          if r.val < 27 then
            (4294967295#32, 4294967283#32)
          else
            (1#32, 13#32)
        else
          if r.val < 29 then
            (4294967295#32, 4294967282#32)
          else
            (1#32, 14#32)
def k0_dev124 (d0 : Dev nD) : Nat :=
  let c0_i32_5628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5627 : BitVec 32 := 1#32
  let v5551 : BitVec 32 := Scalar.muli v7 c1_i32_5627
  let v5552 : BitVec 32 := Scalar.addi c0_i32_5628 v5551
  v5552.toNat
def k0_off23 (d0 : Dev nD) (c_m1_i32_5633 : BitVec 32) (c0_i32_5634 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v5561 : BitVec 32 := Scalar.subi v2 c_m1_i32_5633
  let v5562 : BitVec 32 := Scalar.addi v5561 c0_i32_5634
  let c64_i32_5635 : BitVec 32 := 64#32
  let v5563 : BitVec 32 := Scalar.addi v5562 c64_i32_5635
  let c16_i32_5636 : BitVec 32 := 16#32
  let v5564 : BitVec 32 := Scalar.remsi v5563 c16_i32_5636
  let c0_i32_5643 : BitVec 32 := 0#32
  let c512_i32_5644 : BitVec 32 := 512#32
  ![v5564.toNat, 0, 512]
def k0_off23_at (r : Fin 30) : BitVec 32 × BitVec 32 :=
  if r.val < 15 then
    if r.val < 7 then
      if r.val < 3 then
        if r.val < 1 then
          (4294967295#32, 0#32)
        else
          if r.val < 2 then
            (1#32, 0#32)
          else
            (4294967295#32, 4294967295#32)
      else
        if r.val < 5 then
          if r.val < 4 then
            (1#32, 1#32)
          else
            (4294967295#32, 4294967294#32)
        else
          if r.val < 6 then
            (1#32, 2#32)
          else
            (4294967295#32, 4294967293#32)
    else
      if r.val < 11 then
        if r.val < 9 then
          if r.val < 8 then
            (1#32, 3#32)
          else
            (4294967295#32, 4294967292#32)
        else
          if r.val < 10 then
            (1#32, 4#32)
          else
            (4294967295#32, 4294967291#32)
      else
        if r.val < 13 then
          if r.val < 12 then
            (1#32, 5#32)
          else
            (4294967295#32, 4294967290#32)
        else
          if r.val < 14 then
            (1#32, 6#32)
          else
            (4294967295#32, 4294967289#32)
  else
    if r.val < 22 then
      if r.val < 18 then
        if r.val < 16 then
          (1#32, 7#32)
        else
          if r.val < 17 then
            (4294967295#32, 4294967288#32)
          else
            (1#32, 8#32)
      else
        if r.val < 20 then
          if r.val < 19 then
            (4294967295#32, 4294967287#32)
          else
            (1#32, 9#32)
        else
          if r.val < 21 then
            (4294967295#32, 4294967286#32)
          else
            (1#32, 10#32)
    else
      if r.val < 26 then
        if r.val < 24 then
          if r.val < 23 then
            (4294967295#32, 4294967285#32)
          else
            (1#32, 11#32)
        else
          if r.val < 25 then
            (4294967295#32, 4294967284#32)
          else
            (1#32, 12#32)
      else
        if r.val < 28 then
          if r.val < 27 then
            (4294967295#32, 4294967283#32)
          else
            (1#32, 13#32)
        else
          if r.val < 29 then
            (4294967295#32, 4294967282#32)
          else
            (1#32, 14#32)
def k0_dev125 (d0 : Dev nD) : Nat :=
  let c0_i32_5642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5641 : BitVec 32 := 1#32
  let v5565 : BitVec 32 := Scalar.muli v7 c1_i32_5641
  let v5566 : BitVec 32 := Scalar.addi c0_i32_5642 v5565
  v5566.toNat
def k0_off24 (d0 : Dev nD) (c_m1_i32_5647 : BitVec 32) (c0_i32_5648 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v5575 : BitVec 32 := Scalar.subi v2 c_m1_i32_5647
  let v5576 : BitVec 32 := Scalar.addi v5575 c0_i32_5648
  let c64_i32_5649 : BitVec 32 := 64#32
  let v5577 : BitVec 32 := Scalar.addi v5576 c64_i32_5649
  let c16_i32_5650 : BitVec 32 := 16#32
  let v5578 : BitVec 32 := Scalar.remsi v5577 c16_i32_5650
  let c0_i32_5657 : BitVec 32 := 0#32
  let c768_i32_5658 : BitVec 32 := 768#32
  ![v5578.toNat, 0, 768]
def k0_off24_at (r : Fin 30) : BitVec 32 × BitVec 32 :=
  if r.val < 15 then
    if r.val < 7 then
      if r.val < 3 then
        if r.val < 1 then
          (4294967295#32, 0#32)
        else
          if r.val < 2 then
            (1#32, 0#32)
          else
            (4294967295#32, 4294967295#32)
      else
        if r.val < 5 then
          if r.val < 4 then
            (1#32, 1#32)
          else
            (4294967295#32, 4294967294#32)
        else
          if r.val < 6 then
            (1#32, 2#32)
          else
            (4294967295#32, 4294967293#32)
    else
      if r.val < 11 then
        if r.val < 9 then
          if r.val < 8 then
            (1#32, 3#32)
          else
            (4294967295#32, 4294967292#32)
        else
          if r.val < 10 then
            (1#32, 4#32)
          else
            (4294967295#32, 4294967291#32)
      else
        if r.val < 13 then
          if r.val < 12 then
            (1#32, 5#32)
          else
            (4294967295#32, 4294967290#32)
        else
          if r.val < 14 then
            (1#32, 6#32)
          else
            (4294967295#32, 4294967289#32)
  else
    if r.val < 22 then
      if r.val < 18 then
        if r.val < 16 then
          (1#32, 7#32)
        else
          if r.val < 17 then
            (4294967295#32, 4294967288#32)
          else
            (1#32, 8#32)
      else
        if r.val < 20 then
          if r.val < 19 then
            (4294967295#32, 4294967287#32)
          else
            (1#32, 9#32)
        else
          if r.val < 21 then
            (4294967295#32, 4294967286#32)
          else
            (1#32, 10#32)
    else
      if r.val < 26 then
        if r.val < 24 then
          if r.val < 23 then
            (4294967295#32, 4294967285#32)
          else
            (1#32, 11#32)
        else
          if r.val < 25 then
            (4294967295#32, 4294967284#32)
          else
            (1#32, 12#32)
      else
        if r.val < 28 then
          if r.val < 27 then
            (4294967295#32, 4294967283#32)
          else
            (1#32, 13#32)
        else
          if r.val < 29 then
            (4294967295#32, 4294967282#32)
          else
            (1#32, 14#32)
def k0_dev126 (d0 : Dev nD) : Nat :=
  let c0_i32_5656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5655 : BitVec 32 := 1#32
  let v5579 : BitVec 32 := Scalar.muli v7 c1_i32_5655
  let v5580 : BitVec 32 := Scalar.addi c0_i32_5656 v5579
  v5580.toNat
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5661 : BitVec 32 := 1#32
  let v5589 : BitVec 32 := Scalar.subi v2 c1_i32_5661
  let c64_i32_5662 : BitVec 32 := 64#32
  let v5590 : BitVec 32 := Scalar.addi v5589 c64_i32_5662
  let c16_i32_5663 : BitVec 32 := 16#32
  let v5591 : BitVec 32 := Scalar.remsi v5590 c16_i32_5663
  let c128_i32_5664 : BitVec 32 := 128#32
  let v5592 : BitVec 32 := Scalar.muli v5591 c128_i32_5664
  let v5593 : Index := Scalar.indexCast v5592
  let c1024_5665 : Index := 1024#32
  ![v5593.toNat, 1024]
def k0_dev127 (d0 : Dev nD) : Nat :=
  let c0_i32_5677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5676 : BitVec 32 := 1#32
  let v5605 : BitVec 32 := Scalar.muli v5 c1_i32_5676
  let v5606 : BitVec 32 := Scalar.addi c0_i32_5677 v5605
  v5606.toNat
def k0_dev128 (d0 : Dev nD) : Nat :=
  let c0_i32_5691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5690 : BitVec 32 := 1#32
  let v5619 : BitVec 32 := Scalar.muli v5 c1_i32_5690
  let v5620 : BitVec 32 := Scalar.addi c0_i32_5691 v5619
  v5620.toNat
def k0_dev129 (d0 : Dev nD) : Nat :=
  let c0_i32_5705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5704 : BitVec 32 := 1#32
  let v5633 : BitVec 32 := Scalar.muli v5 c1_i32_5704
  let v5634 : BitVec 32 := Scalar.addi c0_i32_5705 v5633
  v5634.toNat
def k0_dev130 (d0 : Dev nD) : Nat :=
  let c0_i32_5719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5718 : BitVec 32 := 1#32
  let v5647 : BitVec 32 := Scalar.muli v5 c1_i32_5718
  let v5648 : BitVec 32 := Scalar.addi c0_i32_5719 v5647
  v5648.toNat
def k0_dev131 (d0 : Dev nD) : Nat :=
  let c0_i32_5746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5745 : BitVec 32 := 1#32
  let v5672 : BitVec 32 := Scalar.muli v7 c1_i32_5745
  let v5673 : BitVec 32 := Scalar.addi c0_i32_5746 v5672
  v5673.toNat
def k0_dev132 (d0 : Dev nD) : Nat :=
  let c0_i32_5777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5776 : BitVec 32 := 1#32
  let v5704 : BitVec 32 := Scalar.muli v5 c1_i32_5776
  let v5705 : BitVec 32 := Scalar.addi c0_i32_5777 v5704
  v5705.toNat
def k0_dev133 (d0 : Dev nD) : Nat :=
  let c0_i32_5808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5807 : BitVec 32 := 1#32
  let v5736 : BitVec 32 := Scalar.muli v7 c1_i32_5807
  let v5737 : BitVec 32 := Scalar.addi c0_i32_5808 v5736
  v5737.toNat
def k0_dev134 (d0 : Dev nD) : Nat :=
  let c0_i32_5839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5838 : BitVec 32 := 1#32
  let v5768 : BitVec 32 := Scalar.muli v5 c1_i32_5838
  let v5769 : BitVec 32 := Scalar.addi c0_i32_5839 v5768
  v5769.toNat
def k0_dev135 (d0 : Dev nD) : Nat :=
  let c0_i32_5870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5869 : BitVec 32 := 1#32
  let v5800 : BitVec 32 := Scalar.muli v7 c1_i32_5869
  let v5801 : BitVec 32 := Scalar.addi c0_i32_5870 v5800
  v5801.toNat
def k0_dev136 (d0 : Dev nD) : Nat :=
  let c0_i32_5901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5900 : BitVec 32 := 1#32
  let v5832 : BitVec 32 := Scalar.muli v5 c1_i32_5900
  let v5833 : BitVec 32 := Scalar.addi c0_i32_5901 v5832
  v5833.toNat
def k0_dev137 (d0 : Dev nD) : Nat :=
  let c0_i32_5932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5931 : BitVec 32 := 1#32
  let v5864 : BitVec 32 := Scalar.muli v7 c1_i32_5931
  let v5865 : BitVec 32 := Scalar.addi c0_i32_5932 v5864
  v5865.toNat
def k0_dev138 (d0 : Dev nD) : Nat :=
  let c0_i32_5963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5962 : BitVec 32 := 1#32
  let v5896 : BitVec 32 := Scalar.muli v5 c1_i32_5962
  let v5897 : BitVec 32 := Scalar.addi c0_i32_5963 v5896
  v5897.toNat
def k0_dev139 (d0 : Dev nD) : Nat :=
  let c0_i32_5994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5993 : BitVec 32 := 1#32
  let v5928 : BitVec 32 := Scalar.muli v7 c1_i32_5993
  let v5929 : BitVec 32 := Scalar.addi c0_i32_5994 v5928
  v5929.toNat
def k0_dev140 (d0 : Dev nD) : Nat :=
  let c0_i32_6025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6024 : BitVec 32 := 1#32
  let v5960 : BitVec 32 := Scalar.muli v5 c1_i32_6024
  let v5961 : BitVec 32 := Scalar.addi c0_i32_6025 v5960
  v5961.toNat
def k0_dev141 (d0 : Dev nD) : Nat :=
  let c0_i32_6056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6055 : BitVec 32 := 1#32
  let v5992 : BitVec 32 := Scalar.muli v7 c1_i32_6055
  let v5993 : BitVec 32 := Scalar.addi c0_i32_6056 v5992
  v5993.toNat
def k0_dev142 (d0 : Dev nD) : Nat :=
  let c0_i32_6087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6086 : BitVec 32 := 1#32
  let v6024 : BitVec 32 := Scalar.muli v5 c1_i32_6086
  let v6025 : BitVec 32 := Scalar.addi c0_i32_6087 v6024
  v6025.toNat
def k0_dev143 (d0 : Dev nD) : Nat :=
  let c0_i32_6118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6117 : BitVec 32 := 1#32
  let v6056 : BitVec 32 := Scalar.muli v7 c1_i32_6117
  let v6057 : BitVec 32 := Scalar.addi c0_i32_6118 v6056
  v6057.toNat
def k0_dev144 (d0 : Dev nD) : Nat :=
  let c0_i32_6149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6148 : BitVec 32 := 1#32
  let v6088 : BitVec 32 := Scalar.muli v5 c1_i32_6148
  let v6089 : BitVec 32 := Scalar.addi c0_i32_6149 v6088
  v6089.toNat
def k0_dev145 (d0 : Dev nD) : Nat :=
  let c0_i32_6180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6179 : BitVec 32 := 1#32
  let v6120 : BitVec 32 := Scalar.muli v7 c1_i32_6179
  let v6121 : BitVec 32 := Scalar.addi c0_i32_6180 v6120
  v6121.toNat
def k0_dev146 (d0 : Dev nD) : Nat :=
  let c0_i32_6211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6210 : BitVec 32 := 1#32
  let v6152 : BitVec 32 := Scalar.muli v5 c1_i32_6210
  let v6153 : BitVec 32 := Scalar.addi c0_i32_6211 v6152
  v6153.toNat
def k0_dev147 (d0 : Dev nD) : Nat :=
  let c0_i32_6242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6241 : BitVec 32 := 1#32
  let v6184 : BitVec 32 := Scalar.muli v7 c1_i32_6241
  let v6185 : BitVec 32 := Scalar.addi c0_i32_6242 v6184
  v6185.toNat
def k0_dev148 (d0 : Dev nD) : Nat :=
  let c0_i32_6273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6272 : BitVec 32 := 1#32
  let v6216 : BitVec 32 := Scalar.muli v5 c1_i32_6272
  let v6217 : BitVec 32 := Scalar.addi c0_i32_6273 v6216
  v6217.toNat
def k0_dev149 (d0 : Dev nD) : Nat :=
  let c0_i32_6304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6303 : BitVec 32 := 1#32
  let v6248 : BitVec 32 := Scalar.muli v7 c1_i32_6303
  let v6249 : BitVec 32 := Scalar.addi c0_i32_6304 v6248
  v6249.toNat
def k0_dev150 (d0 : Dev nD) : Nat :=
  let c0_i32_6335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6334 : BitVec 32 := 1#32
  let v6280 : BitVec 32 := Scalar.muli v5 c1_i32_6334
  let v6281 : BitVec 32 := Scalar.addi c0_i32_6335 v6280
  v6281.toNat
def k0_dev151 (d0 : Dev nD) : Nat :=
  let c0_i32_6366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6365 : BitVec 32 := 1#32
  let v6312 : BitVec 32 := Scalar.muli v7 c1_i32_6365
  let v6313 : BitVec 32 := Scalar.addi c0_i32_6366 v6312
  v6313.toNat
def k0_dev152 (d0 : Dev nD) : Nat :=
  let c0_i32_6397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6396 : BitVec 32 := 1#32
  let v6344 : BitVec 32 := Scalar.muli v5 c1_i32_6396
  let v6345 : BitVec 32 := Scalar.addi c0_i32_6397 v6344
  v6345.toNat
def k0_dev153 (d0 : Dev nD) : Nat :=
  let c0_i32_6428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6427 : BitVec 32 := 1#32
  let v6376 : BitVec 32 := Scalar.muli v7 c1_i32_6427
  let v6377 : BitVec 32 := Scalar.addi c0_i32_6428 v6376
  v6377.toNat
def k0_dev154 (d0 : Dev nD) : Nat :=
  let c0_i32_6459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6458 : BitVec 32 := 1#32
  let v6408 : BitVec 32 := Scalar.muli v5 c1_i32_6458
  let v6409 : BitVec 32 := Scalar.addi c0_i32_6459 v6408
  v6409.toNat
def k0_dev155 (d0 : Dev nD) : Nat :=
  let c0_i32_6490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6489 : BitVec 32 := 1#32
  let v6440 : BitVec 32 := Scalar.muli v7 c1_i32_6489
  let v6441 : BitVec 32 := Scalar.addi c0_i32_6490 v6440
  v6441.toNat
def k0_dev156 (d0 : Dev nD) : Nat :=
  let c0_i32_6521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6520 : BitVec 32 := 1#32
  let v6472 : BitVec 32 := Scalar.muli v5 c1_i32_6520
  let v6473 : BitVec 32 := Scalar.addi c0_i32_6521 v6472
  v6473.toNat
def k0_dev157 (d0 : Dev nD) : Nat :=
  let c0_i32_6552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6551 : BitVec 32 := 1#32
  let v6504 : BitVec 32 := Scalar.muli v7 c1_i32_6551
  let v6505 : BitVec 32 := Scalar.addi c0_i32_6552 v6504
  v6505.toNat
def k0_dev158 (d0 : Dev nD) : Nat :=
  let c0_i32_6583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6582 : BitVec 32 := 1#32
  let v6536 : BitVec 32 := Scalar.muli v5 c1_i32_6582
  let v6537 : BitVec 32 := Scalar.addi c0_i32_6583 v6536
  v6537.toNat
def k0_dev159 (d0 : Dev nD) : Nat :=
  let c0_i32_6614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6613 : BitVec 32 := 1#32
  let v6568 : BitVec 32 := Scalar.muli v7 c1_i32_6613
  let v6569 : BitVec 32 := Scalar.addi c0_i32_6614 v6568
  v6569.toNat
def k0_dev160 (d0 : Dev nD) : Nat :=
  let c0_i32_6645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6644 : BitVec 32 := 1#32
  let v6600 : BitVec 32 := Scalar.muli v5 c1_i32_6644
  let v6601 : BitVec 32 := Scalar.addi c0_i32_6645 v6600
  v6601.toNat
def k0_dev161 (d0 : Dev nD) : Nat :=
  let c0_i32_6676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6675 : BitVec 32 := 1#32
  let v6632 : BitVec 32 := Scalar.muli v7 c1_i32_6675
  let v6633 : BitVec 32 := Scalar.addi c0_i32_6676 v6632
  v6633.toNat
def k0_dev162 (d0 : Dev nD) : Nat :=
  let c0_i32_6707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6706 : BitVec 32 := 1#32
  let v6664 : BitVec 32 := Scalar.muli v5 c1_i32_6706
  let v6665 : BitVec 32 := Scalar.addi c0_i32_6707 v6664
  v6665.toNat
def k0_dev163 (d0 : Dev nD) : Nat :=
  let c0_i32_6738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6737 : BitVec 32 := 1#32
  let v6696 : BitVec 32 := Scalar.muli v7 c1_i32_6737
  let v6697 : BitVec 32 := Scalar.addi c0_i32_6738 v6696
  v6697.toNat
def k0_dev164 (d0 : Dev nD) : Nat :=
  let c0_i32_6769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6768 : BitVec 32 := 1#32
  let v6728 : BitVec 32 := Scalar.muli v5 c1_i32_6768
  let v6729 : BitVec 32 := Scalar.addi c0_i32_6769 v6728
  v6729.toNat
def k0_dev165 (d0 : Dev nD) : Nat :=
  let c0_i32_6800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6799 : BitVec 32 := 1#32
  let v6760 : BitVec 32 := Scalar.muli v7 c1_i32_6799
  let v6761 : BitVec 32 := Scalar.addi c0_i32_6800 v6760
  v6761.toNat
def k0_dev166 (d0 : Dev nD) : Nat :=
  let c0_i32_6831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6830 : BitVec 32 := 1#32
  let v6792 : BitVec 32 := Scalar.muli v5 c1_i32_6830
  let v6793 : BitVec 32 := Scalar.addi c0_i32_6831 v6792
  v6793.toNat
def k0_dev167 (d0 : Dev nD) : Nat :=
  let c0_i32_6862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6861 : BitVec 32 := 1#32
  let v6824 : BitVec 32 := Scalar.muli v7 c1_i32_6861
  let v6825 : BitVec 32 := Scalar.addi c0_i32_6862 v6824
  v6825.toNat
def k0_dev168 (d0 : Dev nD) : Nat :=
  let c0_i32_6893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6892 : BitVec 32 := 1#32
  let v6856 : BitVec 32 := Scalar.muli v5 c1_i32_6892
  let v6857 : BitVec 32 := Scalar.addi c0_i32_6893 v6856
  v6857.toNat
def k0_dev169 (d0 : Dev nD) : Nat :=
  let c0_i32_6924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6923 : BitVec 32 := 1#32
  let v6888 : BitVec 32 := Scalar.muli v7 c1_i32_6923
  let v6889 : BitVec 32 := Scalar.addi c0_i32_6924 v6888
  v6889.toNat
def k0_dev170 (d0 : Dev nD) : Nat :=
  let c0_i32_6955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6954 : BitVec 32 := 1#32
  let v6920 : BitVec 32 := Scalar.muli v5 c1_i32_6954
  let v6921 : BitVec 32 := Scalar.addi c0_i32_6955 v6920
  v6921.toNat
def k0_dev171 (d0 : Dev nD) : Nat :=
  let c0_i32_6986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6985 : BitVec 32 := 1#32
  let v6952 : BitVec 32 := Scalar.muli v7 c1_i32_6985
  let v6953 : BitVec 32 := Scalar.addi c0_i32_6986 v6952
  v6953.toNat
def k0_dev172 (d0 : Dev nD) : Nat :=
  let c0_i32_7017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7016 : BitVec 32 := 1#32
  let v6984 : BitVec 32 := Scalar.muli v5 c1_i32_7016
  let v6985 : BitVec 32 := Scalar.addi c0_i32_7017 v6984
  v6985.toNat
def k0_dev173 (d0 : Dev nD) : Nat :=
  let c0_i32_7048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7047 : BitVec 32 := 1#32
  let v7016 : BitVec 32 := Scalar.muli v7 c1_i32_7047
  let v7017 : BitVec 32 := Scalar.addi c0_i32_7048 v7016
  v7017.toNat
def k0_dev174 (d0 : Dev nD) : Nat :=
  let c0_i32_7079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7078 : BitVec 32 := 1#32
  let v7048 : BitVec 32 := Scalar.muli v5 c1_i32_7078
  let v7049 : BitVec 32 := Scalar.addi c0_i32_7079 v7048
  v7049.toNat
def k0_dev175 (d0 : Dev nD) : Nat :=
  let c0_i32_7110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7109 : BitVec 32 := 1#32
  let v7080 : BitVec 32 := Scalar.muli v7 c1_i32_7109
  let v7081 : BitVec 32 := Scalar.addi c0_i32_7110 v7080
  v7081.toNat
def k0_dev176 (d0 : Dev nD) : Nat :=
  let c0_i32_7141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7140 : BitVec 32 := 1#32
  let v7112 : BitVec 32 := Scalar.muli v5 c1_i32_7140
  let v7113 : BitVec 32 := Scalar.addi c0_i32_7141 v7112
  v7113.toNat
def k0_dev177 (d0 : Dev nD) : Nat :=
  let c0_i32_7172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7171 : BitVec 32 := 1#32
  let v7144 : BitVec 32 := Scalar.muli v7 c1_i32_7171
  let v7145 : BitVec 32 := Scalar.addi c0_i32_7172 v7144
  v7145.toNat
def k0_dev178 (d0 : Dev nD) : Nat :=
  let c0_i32_7203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7202 : BitVec 32 := 1#32
  let v7176 : BitVec 32 := Scalar.muli v5 c1_i32_7202
  let v7177 : BitVec 32 := Scalar.addi c0_i32_7203 v7176
  v7177.toNat
def k0_dev179 (d0 : Dev nD) : Nat :=
  let c0_i32_7234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7233 : BitVec 32 := 1#32
  let v7208 : BitVec 32 := Scalar.muli v7 c1_i32_7233
  let v7209 : BitVec 32 := Scalar.addi c0_i32_7234 v7208
  v7209.toNat
def k0_dev180 (d0 : Dev nD) : Nat :=
  let c0_i32_7265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7264 : BitVec 32 := 1#32
  let v7240 : BitVec 32 := Scalar.muli v5 c1_i32_7264
  let v7241 : BitVec 32 := Scalar.addi c0_i32_7265 v7240
  v7241.toNat
def k0_dev181 (d0 : Dev nD) : Nat :=
  let c0_i32_7296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7295 : BitVec 32 := 1#32
  let v7272 : BitVec 32 := Scalar.muli v7 c1_i32_7295
  let v7273 : BitVec 32 := Scalar.addi c0_i32_7296 v7272
  v7273.toNat
def k0_dev182 (d0 : Dev nD) : Nat :=
  let c0_i32_7327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7326 : BitVec 32 := 1#32
  let v7304 : BitVec 32 := Scalar.muli v5 c1_i32_7326
  let v7305 : BitVec 32 := Scalar.addi c0_i32_7327 v7304
  v7305.toNat
def k0_dev183 (d0 : Dev nD) : Nat :=
  let c0_i32_7358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7357 : BitVec 32 := 1#32
  let v7336 : BitVec 32 := Scalar.muli v7 c1_i32_7357
  let v7337 : BitVec 32 := Scalar.addi c0_i32_7358 v7336
  v7337.toNat
def k0_dev184 (d0 : Dev nD) : Nat :=
  let c0_i32_7389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7388 : BitVec 32 := 1#32
  let v7368 : BitVec 32 := Scalar.muli v5 c1_i32_7388
  let v7369 : BitVec 32 := Scalar.addi c0_i32_7389 v7368
  v7369.toNat
def k0_dev185 (d0 : Dev nD) : Nat :=
  let c0_i32_7420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7419 : BitVec 32 := 1#32
  let v7400 : BitVec 32 := Scalar.muli v7 c1_i32_7419
  let v7401 : BitVec 32 := Scalar.addi c0_i32_7420 v7400
  v7401.toNat
def k0_dev186 (d0 : Dev nD) : Nat :=
  let c0_i32_7451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7450 : BitVec 32 := 1#32
  let v7432 : BitVec 32 := Scalar.muli v5 c1_i32_7450
  let v7433 : BitVec 32 := Scalar.addi c0_i32_7451 v7432
  v7433.toNat
def k0_dev187 (d0 : Dev nD) : Nat :=
  let c0_i32_7482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7481 : BitVec 32 := 1#32
  let v7464 : BitVec 32 := Scalar.muli v7 c1_i32_7481
  let v7465 : BitVec 32 := Scalar.addi c0_i32_7482 v7464
  v7465.toNat
def k0_dev188 (d0 : Dev nD) : Nat :=
  let c0_i32_7513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7512 : BitVec 32 := 1#32
  let v7496 : BitVec 32 := Scalar.muli v5 c1_i32_7512
  let v7497 : BitVec 32 := Scalar.addi c0_i32_7513 v7496
  v7497.toNat
def k0_dev189 (d0 : Dev nD) : Nat :=
  let c0_i32_7544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7543 : BitVec 32 := 1#32
  let v7528 : BitVec 32 := Scalar.muli v7 c1_i32_7543
  let v7529 : BitVec 32 := Scalar.addi c0_i32_7544 v7528
  v7529.toNat
def k0_dev190 (d0 : Dev nD) : Nat :=
  let c0_i32_7575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7574 : BitVec 32 := 1#32
  let v7560 : BitVec 32 := Scalar.muli v5 c1_i32_7574
  let v7561 : BitVec 32 := Scalar.addi c0_i32_7575 v7560
  v7561.toNat
def k0_dev191 (d0 : Dev nD) : Nat :=
  let c0_i32_7606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7605 : BitVec 32 := 1#32
  let v7592 : BitVec 32 := Scalar.muli v7 c1_i32_7605
  let v7593 : BitVec 32 := Scalar.addi c0_i32_7606 v7592
  v7593.toNat
def k0_dev192 (d0 : Dev nD) : Nat :=
  let c0_i32_7637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7636 : BitVec 32 := 1#32
  let v7624 : BitVec 32 := Scalar.muli v5 c1_i32_7636
  let v7625 : BitVec 32 := Scalar.addi c0_i32_7637 v7624
  v7625.toNat
def k0_dev193 (d0 : Dev nD) : Nat :=
  let c0_i32_7668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7667 : BitVec 32 := 1#32
  let v7656 : BitVec 32 := Scalar.muli v7 c1_i32_7667
  let v7657 : BitVec 32 := Scalar.addi c0_i32_7668 v7656
  v7657.toNat
def k0_dev194 (d0 : Dev nD) : Nat :=
  let c0_i32_7699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7698 : BitVec 32 := 1#32
  let v7688 : BitVec 32 := Scalar.muli v5 c1_i32_7698
  let v7689 : BitVec 32 := Scalar.addi c0_i32_7699 v7688
  v7689.toNat
def k0_dev195 (d0 : Dev nD) : Nat :=
  let c0_i32_7730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7729 : BitVec 32 := 1#32
  let v7720 : BitVec 32 := Scalar.muli v7 c1_i32_7729
  let v7721 : BitVec 32 := Scalar.addi c0_i32_7730 v7720
  v7721.toNat
def k0_dev196 (d0 : Dev nD) : Nat :=
  let c0_i32_7761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7760 : BitVec 32 := 1#32
  let v7752 : BitVec 32 := Scalar.muli v5 c1_i32_7760
  let v7753 : BitVec 32 := Scalar.addi c0_i32_7761 v7752
  v7753.toNat
def k0_dev197 (d0 : Dev nD) : Nat :=
  let c0_i32_7792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7791 : BitVec 32 := 1#32
  let v7784 : BitVec 32 := Scalar.muli v7 c1_i32_7791
  let v7785 : BitVec 32 := Scalar.addi c0_i32_7792 v7784
  v7785.toNat
def k0_dev198 (d0 : Dev nD) : Nat :=
  let c0_i32_7823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7822 : BitVec 32 := 1#32
  let v7816 : BitVec 32 := Scalar.muli v5 c1_i32_7822
  let v7817 : BitVec 32 := Scalar.addi c0_i32_7823 v7816
  v7817.toNat
def k0_dev199 (d0 : Dev nD) : Nat :=
  let c0_i32_7854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7853 : BitVec 32 := 1#32
  let v7848 : BitVec 32 := Scalar.muli v7 c1_i32_7853
  let v7849 : BitVec 32 := Scalar.addi c0_i32_7854 v7848
  v7849.toNat
def k0_dev200 (d0 : Dev nD) : Nat :=
  let c0_i32_7885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7884 : BitVec 32 := 1#32
  let v7880 : BitVec 32 := Scalar.muli v5 c1_i32_7884
  let v7881 : BitVec 32 := Scalar.addi c0_i32_7885 v7880
  v7881.toNat
def k0_dev201 (d0 : Dev nD) : Nat :=
  let c0_i32_7916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7915 : BitVec 32 := 1#32
  let v7912 : BitVec 32 := Scalar.muli v7 c1_i32_7915
  let v7913 : BitVec 32 := Scalar.addi c0_i32_7916 v7912
  v7913.toNat
def k0_dev202 (d0 : Dev nD) : Nat :=
  let c0_i32_7947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7946 : BitVec 32 := 1#32
  let v7944 : BitVec 32 := Scalar.muli v5 c1_i32_7946
  let v7945 : BitVec 32 := Scalar.addi c0_i32_7947 v7944
  v7945.toNat
def k0_dev203 (d0 : Dev nD) : Nat :=
  let c0_i32_7978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7977 : BitVec 32 := 1#32
  let v7976 : BitVec 32 := Scalar.muli v7 c1_i32_7977
  let v7977 : BitVec 32 := Scalar.addi c0_i32_7978 v7976
  v7977.toNat
def k0_dev204 (d0 : Dev nD) : Nat :=
  let c0_i32_8009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8008 : BitVec 32 := 1#32
  let v8008 : BitVec 32 := Scalar.muli v5 c1_i32_8008
  let v8009 : BitVec 32 := Scalar.addi c0_i32_8009 v8008
  v8009.toNat
def k0_dev205 (d0 : Dev nD) : Nat :=
  let c0_i32_8040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8039 : BitVec 32 := 1#32
  let v8040 : BitVec 32 := Scalar.muli v7 c1_i32_8039
  let v8041 : BitVec 32 := Scalar.addi c0_i32_8040 v8040
  v8041.toNat
def k0_dev206 (d0 : Dev nD) : Nat :=
  let c0_i32_8071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8070 : BitVec 32 := 1#32
  let v8072 : BitVec 32 := Scalar.muli v5 c1_i32_8070
  let v8073 : BitVec 32 := Scalar.addi c0_i32_8071 v8072
  v8073.toNat
def k0_dev207 (d0 : Dev nD) : Nat :=
  let c0_i32_8102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8101 : BitVec 32 := 1#32
  let v8104 : BitVec 32 := Scalar.muli v7 c1_i32_8101
  let v8105 : BitVec 32 := Scalar.addi c0_i32_8102 v8104
  v8105.toNat
def k0_dev208 (d0 : Dev nD) : Nat :=
  let c0_i32_8133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8132 : BitVec 32 := 1#32
  let v8136 : BitVec 32 := Scalar.muli v5 c1_i32_8132
  let v8137 : BitVec 32 := Scalar.addi c0_i32_8133 v8136
  v8137.toNat
def k0_dev209 (d0 : Dev nD) : Nat :=
  let c0_i32_8164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8163 : BitVec 32 := 1#32
  let v8168 : BitVec 32 := Scalar.muli v7 c1_i32_8163
  let v8169 : BitVec 32 := Scalar.addi c0_i32_8164 v8168
  v8169.toNat
def k0_dev210 (d0 : Dev nD) : Nat :=
  let c0_i32_8195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8194 : BitVec 32 := 1#32
  let v8200 : BitVec 32 := Scalar.muli v5 c1_i32_8194
  let v8201 : BitVec 32 := Scalar.addi c0_i32_8195 v8200
  v8201.toNat
def k0_dev211 (d0 : Dev nD) : Nat :=
  let c0_i32_8226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8225 : BitVec 32 := 1#32
  let v8232 : BitVec 32 := Scalar.muli v7 c1_i32_8225
  let v8233 : BitVec 32 := Scalar.addi c0_i32_8226 v8232
  v8233.toNat
def k0_dev212 (d0 : Dev nD) : Nat :=
  let c0_i32_8257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8256 : BitVec 32 := 1#32
  let v8264 : BitVec 32 := Scalar.muli v5 c1_i32_8256
  let v8265 : BitVec 32 := Scalar.addi c0_i32_8257 v8264
  v8265.toNat
def k0_dev213 (d0 : Dev nD) : Nat :=
  let c0_i32_8288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8287 : BitVec 32 := 1#32
  let v8296 : BitVec 32 := Scalar.muli v7 c1_i32_8287
  let v8297 : BitVec 32 := Scalar.addi c0_i32_8288 v8296
  v8297.toNat
def k0_dev214 (d0 : Dev nD) : Nat :=
  let c0_i32_8319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8318 : BitVec 32 := 1#32
  let v8328 : BitVec 32 := Scalar.muli v5 c1_i32_8318
  let v8329 : BitVec 32 := Scalar.addi c0_i32_8319 v8328
  v8329.toNat
def k0_dev215 (d0 : Dev nD) : Nat :=
  let c0_i32_8350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8349 : BitVec 32 := 1#32
  let v8360 : BitVec 32 := Scalar.muli v7 c1_i32_8349
  let v8361 : BitVec 32 := Scalar.addi c0_i32_8350 v8360
  v8361.toNat
def k0_dev216 (d0 : Dev nD) : Nat :=
  let c0_i32_8381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8380 : BitVec 32 := 1#32
  let v8392 : BitVec 32 := Scalar.muli v5 c1_i32_8380
  let v8393 : BitVec 32 := Scalar.addi c0_i32_8381 v8392
  v8393.toNat
def k0_dev217 (d0 : Dev nD) : Nat :=
  let c0_i32_8412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8411 : BitVec 32 := 1#32
  let v8424 : BitVec 32 := Scalar.muli v7 c1_i32_8411
  let v8425 : BitVec 32 := Scalar.addi c0_i32_8412 v8424
  v8425.toNat
def k0_dev218 (d0 : Dev nD) : Nat :=
  let c0_i32_8443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8442 : BitVec 32 := 1#32
  let v8456 : BitVec 32 := Scalar.muli v5 c1_i32_8442
  let v8457 : BitVec 32 := Scalar.addi c0_i32_8443 v8456
  v8457.toNat
def k0_dev219 (d0 : Dev nD) : Nat :=
  let c0_i32_8474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8473 : BitVec 32 := 1#32
  let v8488 : BitVec 32 := Scalar.muli v7 c1_i32_8473
  let v8489 : BitVec 32 := Scalar.addi c0_i32_8474 v8488
  v8489.toNat
def k0_dev220 (d0 : Dev nD) : Nat :=
  let c0_i32_8505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8504 : BitVec 32 := 1#32
  let v8520 : BitVec 32 := Scalar.muli v5 c1_i32_8504
  let v8521 : BitVec 32 := Scalar.addi c0_i32_8505 v8520
  v8521.toNat
def k0_dev221 (d0 : Dev nD) : Nat :=
  let c0_i32_8536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8535 : BitVec 32 := 1#32
  let v8552 : BitVec 32 := Scalar.muli v7 c1_i32_8535
  let v8553 : BitVec 32 := Scalar.addi c0_i32_8536 v8552
  v8553.toNat
def k0_dev222 (d0 : Dev nD) : Nat :=
  let c0_i32_8567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8566 : BitVec 32 := 1#32
  let v8584 : BitVec 32 := Scalar.muli v5 c1_i32_8566
  let v8585 : BitVec 32 := Scalar.addi c0_i32_8567 v8584
  v8585.toNat
def k0_dev223 (d0 : Dev nD) : Nat :=
  let c0_i32_8598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8597 : BitVec 32 := 1#32
  let v8616 : BitVec 32 := Scalar.muli v7 c1_i32_8597
  let v8617 : BitVec 32 := Scalar.addi c0_i32_8598 v8616
  v8617.toNat
def k0_dev224 (d0 : Dev nD) : Nat :=
  let c0_i32_8629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8628 : BitVec 32 := 1#32
  let v8648 : BitVec 32 := Scalar.muli v5 c1_i32_8628
  let v8649 : BitVec 32 := Scalar.addi c0_i32_8629 v8648
  v8649.toNat
def k0_dev225 (d0 : Dev nD) : Nat :=
  let c0_i32_8660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8659 : BitVec 32 := 1#32
  let v8680 : BitVec 32 := Scalar.muli v7 c1_i32_8659
  let v8681 : BitVec 32 := Scalar.addi c0_i32_8660 v8680
  v8681.toNat
def k0_dev226 (d0 : Dev nD) : Nat :=
  let c0_i32_8691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8690 : BitVec 32 := 1#32
  let v8712 : BitVec 32 := Scalar.muli v5 c1_i32_8690
  let v8713 : BitVec 32 := Scalar.addi c0_i32_8691 v8712
  v8713.toNat
def k0_dev227 (d0 : Dev nD) : Nat :=
  let c0_i32_8722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8721 : BitVec 32 := 1#32
  let v8744 : BitVec 32 := Scalar.muli v7 c1_i32_8721
  let v8745 : BitVec 32 := Scalar.addi c0_i32_8722 v8744
  v8745.toNat
def k0_dev228 (d0 : Dev nD) : Nat :=
  let c0_i32_8753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8752 : BitVec 32 := 1#32
  let v8776 : BitVec 32 := Scalar.muli v5 c1_i32_8752
  let v8777 : BitVec 32 := Scalar.addi c0_i32_8753 v8776
  v8777.toNat
def k0_dev229 (d0 : Dev nD) : Nat :=
  let c0_i32_8784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8783 : BitVec 32 := 1#32
  let v8808 : BitVec 32 := Scalar.muli v7 c1_i32_8783
  let v8809 : BitVec 32 := Scalar.addi c0_i32_8784 v8808
  v8809.toNat
def k0_dev230 (d0 : Dev nD) : Nat :=
  let c0_i32_8815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8814 : BitVec 32 := 1#32
  let v8840 : BitVec 32 := Scalar.muli v5 c1_i32_8814
  let v8841 : BitVec 32 := Scalar.addi c0_i32_8815 v8840
  v8841.toNat
def k0_dev231 (d0 : Dev nD) : Nat :=
  let c0_i32_8846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8845 : BitVec 32 := 1#32
  let v8872 : BitVec 32 := Scalar.muli v7 c1_i32_8845
  let v8873 : BitVec 32 := Scalar.addi c0_i32_8846 v8872
  v8873.toNat
def k0_dev232 (d0 : Dev nD) : Nat :=
  let c0_i32_8877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8876 : BitVec 32 := 1#32
  let v8904 : BitVec 32 := Scalar.muli v5 c1_i32_8876
  let v8905 : BitVec 32 := Scalar.addi c0_i32_8877 v8904
  v8905.toNat
def k0_dev233 (d0 : Dev nD) : Nat :=
  let c0_i32_8908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8907 : BitVec 32 := 1#32
  let v8936 : BitVec 32 := Scalar.muli v7 c1_i32_8907
  let v8937 : BitVec 32 := Scalar.addi c0_i32_8908 v8936
  v8937.toNat
def k0_dev234 (d0 : Dev nD) : Nat :=
  let c0_i32_8939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_8938 : BitVec 32 := 1#32
  let v8968 : BitVec 32 := Scalar.muli v5 c1_i32_8938
  let v8969 : BitVec 32 := Scalar.addi c0_i32_8939 v8968
  v8969.toNat
def k0_dev235 (d0 : Dev nD) : Nat :=
  let c0_i32_8970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8969 : BitVec 32 := 1#32
  let v9000 : BitVec 32 := Scalar.muli v7 c1_i32_8969
  let v9001 : BitVec 32 := Scalar.addi c0_i32_8970 v9000
  v9001.toNat
def k0_dev236 (d0 : Dev nD) : Nat :=
  let c0_i32_9001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_9000 : BitVec 32 := 1#32
  let v9032 : BitVec 32 := Scalar.muli v5 c1_i32_9000
  let v9033 : BitVec 32 := Scalar.addi c0_i32_9001 v9032
  v9033.toNat
def k0_dev237 (d0 : Dev nD) : Nat :=
  let c0_i32_9032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9031 : BitVec 32 := 1#32
  let v9064 : BitVec 32 := Scalar.muli v7 c1_i32_9031
  let v9065 : BitVec 32 := Scalar.addi c0_i32_9032 v9064
  v9065.toNat
def k0_dev238 (d0 : Dev nD) : Nat :=
  let c0_i32_9063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_9062 : BitVec 32 := 1#32
  let v9096 : BitVec 32 := Scalar.muli v5 c1_i32_9062
  let v9097 : BitVec 32 := Scalar.addi c0_i32_9063 v9096
  v9097.toNat
def k0_dev239 (d0 : Dev nD) : Nat :=
  let c0_i32_9094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9093 : BitVec 32 := 1#32
  let v9128 : BitVec 32 := Scalar.muli v7 c1_i32_9093
  let v9129 : BitVec 32 := Scalar.addi c0_i32_9094 v9128
  v9129.toNat
def k0_dev240 (d0 : Dev nD) : Nat :=
  let c0_i32_9125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_9124 : BitVec 32 := 1#32
  let v9160 : BitVec 32 := Scalar.muli v5 c1_i32_9124
  let v9161 : BitVec 32 := Scalar.addi c0_i32_9125 v9160
  v9161.toNat
def k0_dev241 (d0 : Dev nD) : Nat :=
  let c0_i32_9156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9155 : BitVec 32 := 1#32
  let v9192 : BitVec 32 := Scalar.muli v7 c1_i32_9155
  let v9193 : BitVec 32 := Scalar.addi c0_i32_9156 v9192
  v9193.toNat
def k0_dev242 (d0 : Dev nD) : Nat :=
  let c0_i32_9187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_9186 : BitVec 32 := 1#32
  let v9224 : BitVec 32 := Scalar.muli v5 c1_i32_9186
  let v9225 : BitVec 32 := Scalar.addi c0_i32_9187 v9224
  v9225.toNat
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S16384x2048, .bf16⟩
  | .hbm, ⟨2, _⟩ => ⟨S2048x16384, .f32⟩
  | .hbm, ⟨3, _⟩ => ⟨S16384x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Run.SameBody.lean ====
module

public import proofs.«01_k».proof.Proof.Run.Steps
public import Idealize.ShloMosaic.Lib.Pipeline.Regions

@[expose] public section

noncomputable section

namespace Cert.Kernel.Ring

open Idealize.ShloMosaic Idealize.ShloMosaic.TcCoe Idealize.SL.Sem
open Cert.Kernel.Gen

variable {F : FTy → Type} [FloatOps F]

set_option maxRecDepth 1000000 in
set_option maxHeartbeats 0 in
/-- The printed body is the one above: both are the same sequence of operations. -/
theorem body_eq : cc0_body (F := F) pM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 = (Prog.lift .deviceId >>= fun c => body c) := by
  chain_rfl

end Cert.Kernel.Ring
-- ==== Proof.RunIdeal.Steps.lean ====
/- The kernel's body, written a second time with its steps as functions of the direction, the column block and
   the hop, and the theorem that the printed body is this one. -/
module

public import proofs.«01_k».proof.Proof.Gen.KernelIdeal
public import Idealize.ShloMosaic.Lib.Pipeline.Kit

@[expose] public section

set_option synthInstance.maxSize 4096

noncomputable section

namespace Cert.KernelIdeal.Ring

open Idealize.ShloMosaic Idealize.ShloMosaic.TcCoe Idealize.SL.Sem
open Cert.KernelIdeal.Gen

variable {F : FTy → Type} [FloatOps F]

/-! ## The offsets -/

/-- `±n` as a word: minus for the clockwise direction (`true`), whose chunks run backwards. -/
def lit (δ : Bool) (n : ℕ) : BitVec 32 :=
  match δ with | true => BitVec.ofNat 32 (4294967296 - n) | false => BitVec.ofNat 32 n

/-- The chunk buffer's window that reduce-scatter hop `n` writes, and that its waits name. -/
def offRS (δ : Bool) (j : Fin 4) (c : Dev nD) (n : ℕ) : Fin 3 → ℕ :=
  match j with
  | 0 => k0_off2 c (lit δ n) | 1 => k0_off3 c (lit δ n) | 2 => k0_off4 c (lit δ n) | 3 => k0_off5 c (lit δ n)
/-- The window of the partial product (and of the result) at chunk `c ∓ n`. -/
def offPO (δ : Bool) (j : Fin 4) (c : Dev nD) (n : ℕ) : Fin 2 → ℕ :=
  match δ, j with
  | true, 0 => k0_off7 c (lit true n) | true, 1 => k0_off10 c (lit true n)
  | true, 2 => k0_off13 c (lit true n) | true, 3 => k0_off16 c (lit true n)
  | false, 0 => k0_off9 c (lit false n) | false, 1 => k0_off12 c (lit false n)
  | false, 2 => k0_off15 c (lit false n) | false, 3 => k0_off18 c (lit false n)
/-- The chunk buffer's window read at chunk `c ∓ n`. -/
def offGet (δ : Bool) (j : Fin 4) (c : Dev nD) (n : ℕ) : Fin 3 → ℕ :=
  match j with
  | 0 => k0_off8 c (lit δ n) | 1 => k0_off11 c (lit δ n) | 2 => k0_off14 c (lit δ n) | 3 => k0_off17 c (lit δ n)
/-- The window all-gather hop `n` sends. -/
def offAG (δ : Bool) (j : Fin 4) (c : Dev nD) (n : ℕ) : Fin 3 → ℕ :=
  match j with
  | 0 => k0_off21 c (lit δ 1) (lit δ n) | 1 => k0_off22 c (lit δ 1) (lit δ n)
  | 2 => k0_off23 c (lit δ 1) (lit δ n) | 3 => k0_off24 c (lit δ 1) (lit δ n)
/-- Own chunk of the partial product; -/
def offP0 (δ : Bool) (c : Dev nD) : Fin 2 → ℕ := match δ with | true => k0_off1 c | false => k0_off6 c
/-- the finished chunk in the result, -/
def offO1 (δ : Bool) (c : Dev nD) : Fin 2 → ℕ := match δ with | true => k0_off19 c | false => k0_off25 c
/-- and in the chunk buffer. -/
def offG1 (δ : Bool) (c : Dev nD) : Fin 3 → ℕ := k0_off20 c (lit δ 1)

/-- The column a direction's half begins at. -/
def colOf (δ : Bool) : ℕ := match δ with | true => 0 | false => 1024
/-- The chunk `n` hops back along direction `δ`. -/
def back (δ : Bool) (c : Dev nD) (n : ℕ) : ℕ :=
  match δ with | true => (c.val + (64 - n)) % 16 | false => (c.val + n) % 16
/-- The chunk a device ends the reduce-scatter with. -/
def ahead (δ : Bool) (c : Dev nD) : ℕ := match δ with | true => (c.val + 1) % 16 | false => (c.val + 15) % 16

theorem offRS_eq : ∀ (δ : Bool) (j : Fin 4) (c : Dev nD) (n : Fin 15), offRS δ j c n.val = ![back δ c n.val, 0, 256 * j.val] := by
  decide +kernel
theorem offGet_eq : ∀ (δ : Bool) (j : Fin 4) (c : Dev nD) (n : Fin 16), offGet δ j c n.val = ![back δ c n.val, 0, 256 * j.val] := by
  decide +kernel
theorem offPO_eq : ∀ (δ : Bool) (j : Fin 4) (c : Dev nD) (n : Fin 16),
    offPO δ j c n.val = ![128 * back δ c n.val, colOf δ + 256 * j.val] := by decide +kernel
theorem offAG_eq : ∀ (δ : Bool) (j : Fin 4) (c : Dev nD) (n : Fin 15),
    offAG δ j c n.val = ![back δ c (15 + n.val), 0, 256 * j.val] := by decide +kernel
theorem offP0_eq : ∀ (δ : Bool) (c : Dev nD), offP0 δ c = ![128 * c.val, colOf δ] := by decide +kernel
theorem offO1_eq : ∀ (δ : Bool) (c : Dev nD), offO1 δ c = ![128 * back δ c 15, colOf δ] := by decide +kernel
theorem offG1_eq : ∀ (δ : Bool) (c : Dev nD), offG1 δ c = ![back δ c 15, 0, 0] := by decide +kernel

theorem back_lt : ∀ (δ : Bool) (c : Dev nD) (n : ℕ), back δ c n < 16 := by
  intro δ c n; cases δ <;> exact Nat.mod_lt _ (by decide)

theorem offRS_inb : ∀ (δ : Bool) (j : Fin 4) (c : Dev nD) (n : Fin 15), ∀ a, offRS δ j c n.val a + S1x128x256.size a ≤ S16x128x1024.size a := by
  decide +kernel
theorem offRS_words : ∀ (δ : Bool) (j : Fin 4) (c : Dev nD) (n : Fin 15),
    (Rect.unit (s := S16x128x1024) (offRS δ j c n.val) S1x128x256.size (offRS_inb δ j c n)).WholeWords (EltTy.packing .bf16) := by
  decide +kernel
theorem offAG_inb : ∀ (δ : Bool) (j : Fin 4) (c : Dev nD) (n : Fin 15), ∀ a, offAG δ j c n.val a + S1x128x256.size a ≤ S16x128x1024.size a := by
  decide +kernel
theorem offAG_words : ∀ (δ : Bool) (j : Fin 4) (c : Dev nD) (n : Fin 15),
    (Rect.unit (s := S16x128x1024) (offAG δ j c n.val) S1x128x256.size (offAG_inb δ j c n)).WholeWords (EltTy.packing .bf16) := by
  decide +kernel
theorem offGet_inb : ∀ (δ : Bool) (j : Fin 4) (c : Dev nD) (n : Fin 16), ∀ a, offGet δ j c n.val a + S1x128x256.size a ≤ S16x128x1024.size a := by
  decide +kernel
theorem offPO_inb : ∀ (δ : Bool) (j : Fin 4) (c : Dev nD) (n : Fin 16), ∀ a, offPO δ j c n.val a + S128x256.size a ≤ S2048x2048.size a := by
  decide +kernel
theorem offP0_inb : ∀ (δ : Bool) (c : Dev nD), ∀ a, offP0 δ c a + S128x1024.size a ≤ S2048x2048.size a := by decide +kernel
theorem offO1_inb : ∀ (δ : Bool) (c : Dev nD), ∀ a, offO1 δ c a + S128x1024.size a ≤ S2048x2048.size a := by decide +kernel
theorem offG1_inb : ∀ (δ : Bool) (c : Dev nD), ∀ a, offG1 δ c a + S1x128x1024.size a ≤ S16x128x1024.size a := by decide +kernel
theorem offG1_rows : ∀ (δ : Bool) (c : Dev nD),
    (Rect.unit (s := S16x128x1024) (offG1 δ c) S1x128x1024.size (offG1_inb δ c)).PackedRows (EltTy.packing .bf16) := by decide +kernel
theorem offST_inb : ∀ (k : Fin 2) (j : Fin 4), ∀ a, (![k.val, 0, 256 * j.val] : Fin 3 → ℕ) a + S1x128x256.size a ≤ S2x128x1024.size a := by
  decide +kernel
theorem offST_words : ∀ (k : Fin 2) (j : Fin 4),
    (Rect.unit (s := S2x128x1024) ![k.val, 0, 256 * j.val] S1x128x256.size (offST_inb k j)).WholeWords (EltTy.packing .bf16) := by
  decide +kernel
theorem offST_rows : ∀ (k : Fin 2) (j : Fin 4),
    (Rect.unit (s := S2x128x1024) ![k.val, 0, 256 * j.val] S1x128x256.size (offST_inb k j)).PackedRows (EltTy.packing .bf16) := by
  decide +kernel
theorem sem_inb : ∀ (h : Fin 15) (j : Fin 4), ∀ a, (![h.val, j.val] : Fin 2 → ℕ) a + S1x1.size a ≤ S15x4.size a := by decide +kernel

/-! ## Buffers, windows, semaphores -/

/-- The partial product and the result, -/
abbrev pM : Memref sig .tc .vmem S2048x2048 .f32 := Memref.whole cc0_stg0_0
abbrev oM : Memref sig .tc .vmem S2048x2048 .f32 := Memref.whole cc0_stg1_0
/-- a direction's two-slot send buffer, and its chunk buffer. -/
abbrev stB (δ : Bool) : Ref sig .tc := match δ with | true => cc0_scratch0 | false => cc0_scratch1
abbrev agB (δ : Bool) : Ref sig .tc := match δ with | true => cc0_scratch2 | false => cc0_scratch3
def stM (δ : Bool) : Memref sig .tc .vmem S2x128x1024 .bf16 :=
  match δ with | true => Memref.whole cc0_scratch0 | false => Memref.whole cc0_scratch1
def agM (δ : Bool) : Memref sig .tc .vmem S16x128x1024 .bf16 :=
  match δ with | true => Memref.whole cc0_scratch2 | false => Memref.whole cc0_scratch3
theorem stM_whole (δ : Bool) : (stM δ).IsWhole := match δ with | true => Memref.isWhole_whole _ | false => Memref.isWhole_whole _
theorem agM_whole (δ : Bool) : (agM δ).IsWhole := match δ with | true => Memref.isWhole_whole _ | false => Memref.isWhole_whole _

/-- The semaphores a direction's sends complete on, at the sender and at the receiver. -/
def ssems (δ : Bool) : DmaSems sig S15x4 := match δ with | true => cc0_scratch4 | false => cc0_scratch6
def rsems (δ : Bool) : DmaSems sig S15x4 := match δ with | true => cc0_scratch5 | false => cc0_scratch7
def semAt (s : DmaSems sig S15x4) (h : Fin 15) (j : Fin 4) : DmaSem sig :=
  ((s.slice (Rect.unit (s := S15x4) ![h.val, j.val] S1x1.size (sem_inb h j))).squeeze S_ squeezes_S1x1_S_).sem
abbrev ssem (δ : Bool) (j : Fin 4) (h : Fin 15) : DmaSem sig := semAt (ssems δ) h j
abbrev rsem (δ : Bool) (j : Fin 4) (h : Fin 15) : DmaSem sig := semAt (rsems δ) h j

/-- The neighbour a direction sends to. -/
def succ (δ : Bool) (c : Dev nD) : Dev nD :=
  match δ with | true => ⟨k0_dev3 c, k0_dev3_lt c⟩ | false => ⟨k0_dev7 c, k0_dev7_lt c⟩

def stV (δ : Bool) (j : Fin 4) (k : Fin 2) : Memref sig .tc .vmem S128x256 .bf16 :=
  ((stM δ).slice (Rect.unit (s := S2x128x1024) ![k.val, 0, 256 * j.val] S1x128x256.size (offST_inb k j)) (fun _ => rfl)).squeeze
    S128x256 squeezes_S1x128x256_S128x256
def rsV (δ : Bool) (j : Fin 4) (c : Dev nD) (h : Fin 15) : Memref sig .tc .vmem S128x256 .bf16 :=
  ((agM δ).slice (Rect.unit (s := S16x128x1024) (offRS δ j c h.val) S1x128x256.size (offRS_inb δ j c h)) (fun _ => rfl)).squeeze
    S128x256 squeezes_S1x128x256_S128x256
def agV (δ : Bool) (j : Fin 4) (c : Dev nD) (h : Fin 15) : Memref sig .tc .vmem S128x256 .bf16 :=
  ((agM δ).slice (Rect.unit (s := S16x128x1024) (offAG δ j c h.val) S1x128x256.size (offAG_inb δ j c h)) (fun _ => rfl)).squeeze
    S128x256 squeezes_S1x128x256_S128x256

theorem stV_exact (δ : Bool) (j : Fin 4) (k : Fin 2) : (stV δ j k).view.WordExact :=
  ((stM_whole δ).wordExact_slice rfl _ (offST_words k j)).reshape _ _
theorem rsV_exact (δ : Bool) (j : Fin 4) (c : Dev nD) (h : Fin 15) : (rsV δ j c h).view.WordExact :=
  ((agM_whole δ).wordExact_slice rfl _ (offRS_words δ j c h)).reshape _ _
theorem agV_exact (δ : Bool) (j : Fin 4) (c : Dev nD) (h : Fin 15) : (agV δ j c h).view.WordExact :=
  ((agM_whole δ).wordExact_slice rfl _ (offAG_words δ j c h)).reshape _ _

abbrev stR (j : Fin 4) (k : Fin 2) : Rect S2x128x1024 :=
  Rect.unit (s := S2x128x1024) ![k.val, 0, 256 * j.val] S1x128x256.size (offST_inb k j)
abbrev getR (δ : Bool) (j : Fin 4) (c : Dev nD) (n : Fin 16) : Rect S16x128x1024 :=
  Rect.unit (s := S16x128x1024) (offGet δ j c n.val) S1x128x256.size (offGet_inb δ j c n)
abbrev poR (δ : Bool) (j : Fin 4) (c : Dev nD) (n : Fin 16) : Rect S2048x2048 :=
  Rect.unit (s := S2048x2048) (offPO δ j c n.val) S128x256.size (offPO_inb δ j c n)

/-! ## The values computed -/

/-- A partial chunk plus what arrived, -/
def tmpV (p : Vec F S128x256 .f32) (g : Vec F S1x128x256 .bf16) : FVec F S128x256 .f32 :=
  addf (shapeCast S128x256 p shapeCasts_S128x256_S128x256)
    (extf .f32 (shapeCast S128x256 g shapeCasts_S1x128x256_S128x256) bitsLt_bf16_f32)
/-- rounded for the wire; -/
def wireV (t : FVec F S128x256 .f32) : FVec F S1x128x256 .bf16 :=
  shapeCast S1x128x256 (truncf .bf16 t bitsLt_bf16_f32) shapeCasts_S128x256_S1x128x256
/-- a whole row of columns rounded for the wire; -/
def wire0V (p : Vec F S128x1024 .f32) : FVec F S1x128x1024 .bf16 :=
  shapeCast S1x128x1024 (truncf .bf16 (shapeCast S128x1024 p shapeCasts_S128x1024_S128x1024) bitsLt_bf16_f32) shapeCasts_S128x1024_S1x128x1024
/-- and a finished chunk widened again. -/
def outV (g : Vec F S1x128x256 .bf16) : FVec F S128x256 .f32 :=
  extf .f32 (shapeCast S128x256 g shapeCasts_S1x128x256_S128x256) bitsLt_bf16_f32

/-! ## The steps -/

abbrev Act (F : FTy → Type) [FloatOps F] := Prog (TpuEff nD τ sig (Elt F) Λ₀ .tc)

/-- One send: of window `src` to the neighbour's window `dst`. -/
def send (δ : Bool) (j : Fin 4) (h : Fin 15) (c : Dev nD) (src dst : Memref sig .tc .vmem S128x256 .bf16)
    (hs : src.view.WordExact) (hd : dst.view.WordExact) : Act F PUnit :=
  Prog.lift (.enqueueDma src (.remote (Dev.tc (succ δ c)) dst (.dma (ssem δ j h))) (.dma (rsem δ j h)) hs hd
    ⟨⟨rfl, Or.inl rfl⟩, trivial⟩)
def sendRS (δ : Bool) (j : Fin 4) (k : Fin 2) (h : Fin 15) (c : Dev nD) : Act F PUnit :=
  send δ j h c (stV δ j k) (rsV δ j c h) (stV_exact δ j k) (rsV_exact δ j c h)
def sendAG (δ : Bool) (j : Fin 4) (h : Fin 15) (c : Dev nD) : Act F PUnit :=
  send δ j h c (agV δ j c h) (agV δ j c h) (agV_exact δ j c h) (agV_exact δ j c h)

def par (h : ℕ) : Fin 2 := ⟨h % 2, Nat.mod_lt _ (by decide)⟩

def waitRS (δ : Bool) (j : Fin 4) (h : Fin 15) (c : Dev nD) : Act F PUnit :=
  Prog.lift (.waitDma2 (rsem δ j h) (stV δ j (par h.val)) (rsV δ j c h) (stV_exact δ j _) (rsV_exact δ j c h))
def waitRS' (δ : Bool) (j : Fin 4) (h : Fin 15) (c : Dev nD) : Act F PUnit :=
  Prog.lift (.waitDma2 (ssem δ j h) (rsV δ j c h) (stV δ j (par h.val)) (rsV_exact δ j c h) (stV_exact δ j _))
def waitAG (δ : Bool) (j : Fin 4) (h : Fin 15) (c : Dev nD) : Act F PUnit :=
  Prog.lift (.waitDma2 (rsem δ j h) (agV δ j c h) (agV δ j c h) (agV_exact δ j c h) (agV_exact δ j c h))
def waitAG' (δ : Bool) (j : Fin 4) (h : Fin 15) (c : Dev nD) : Act F PUnit :=
  Prog.lift (.waitDma2 (ssem δ j h) (agV δ j c h) (agV δ j c h) (agV_exact δ j c h) (agV_exact δ j c h))

def getP (δ : Bool) (j : Fin 4) (n : Fin 16) (c : Dev nD) : Act F (Vec F S128x256 .f32) :=
  Prog.lift (.load pM (poR δ j c n).toLoadRect (View.loadsAt_vmem h_S128x256))
def getG (δ : Bool) (j : Fin 4) (n : Fin 16) (c : Dev nD) : Act F (Vec F S1x128x256 .bf16) :=
  Prog.lift (.load (agM δ) (getR δ j c n).toLoadRect (View.loadsAt_vmem h_S1x128x256))
/-- Store a chunk's block of columns to the result (the window is read first, to no effect). -/
def putO (δ : Bool) (j : Fin 4) (n : Fin 16) (c : Dev nD) (v : FVec F S128x256 .f32) : Act F PUnit := do
  let _ : Vec F S128x256 .f32 ← Prog.lift (.load oM (poR δ j c n).toLoadRect (View.loadsAt_vmem h_S128x256))
  Prog.lift (.store oM (poR δ j c n) v Finset.univ (View.stores_vmem_bits_univ h_S128x256 rfl) (.inl rfl))
/-- Store a block of columns to a slot of the send buffer. -/
def putS (δ : Bool) (j : Fin 4) (k : Fin 2) (v : FVec F S1x128x256 .bf16) : Act F PUnit := do
  let _ : Vec F S1x128x256 .bf16 ← Prog.lift (.load (stM δ) (stR j k).toLoadRect (View.loadsAt_vmem h_S1x128x256))
  Prog.lift (.store (stM δ) (stR j k) v Finset.univ
    (View.stores_vmem h_S1x128x256 ((stM_whole δ).storeExact_slice rfl _ (offST_rows k j)) (fun _ => rfl)) (.inl rfl))

/-- Own chunk to the send buffer. -/
def rsInit (δ : Bool) (c : Dev nD) : Act F PUnit := do
  let p : Vec F S128x1024 .f32 ← Prog.lift (.load pM (Rect.unit (s := S2048x2048) (offP0 δ c) S128x1024.size (offP0_inb δ c)).toLoadRect (View.loadsAt_vmem h_S128x1024))
  let _ : Vec F S1x128x1024 .bf16 ← Prog.lift (.load (stM δ) (Rect.unit (s := S2x128x1024) ![0, 0, 0] S1x128x1024.size inb_S2x128x1024_S1x128x1024_0_0_0).toLoadRect (View.loadsAt_vmem h_S1x128x1024))
  Prog.lift (.store (stM δ) (Rect.unit (s := S2x128x1024) ![0, 0, 0] S1x128x1024.size inb_S2x128x1024_S1x128x1024_0_0_0) (wire0V p) Finset.univ
    (View.stores_vmem h_S1x128x1024 ((stM_whole δ).storeExact_slice rfl _ packedbf16_S2x128x1024_S1x128x1024_0_0_0) (fun _ => rfl)) (.inl rfl))
/-- The finished chunk to the chunk buffer. -/
def agInit (δ : Bool) (c : Dev nD) : Act F PUnit := do
  let p : Vec F S128x1024 .f32 ← Prog.lift (.load oM (Rect.unit (s := S2048x2048) (offO1 δ c) S128x1024.size (offO1_inb δ c)).toLoadRect (View.loadsAt_vmem h_S128x1024))
  let _ : Vec F S1x128x1024 .bf16 ← Prog.lift (.load (agM δ) (Rect.unit (s := S16x128x1024) (offG1 δ c) S1x128x1024.size (offG1_inb δ c)).toLoadRect (View.loadsAt_vmem h_S1x128x1024))
  Prog.lift (.store (agM δ) (Rect.unit (s := S16x128x1024) (offG1 δ c) S1x128x1024.size (offG1_inb δ c)) (wire0V p) Finset.univ
    (View.stores_vmem h_S1x128x1024 ((agM_whole δ).storeExact_slice rfl _ (offG1_rows δ c)) (fun _ => rfl)) (.inl rfl))

/-- Receive reduce-scatter hop `h` and add. -/
def rsRecv (δ : Bool) (j : Fin 4) (h : Fin 15) (c : Dev nD) : Act F (FVec F S128x256 .f32) := do
  waitRS δ j h c
  let p ← getP δ j ⟨h.val + 1, by omega⟩ c
  let g ← getG δ j ⟨h.val + 1, by omega⟩ c
  pure (tmpV p g)
/-- Reduce-scatter hop 0, -/
def rsFirst (δ : Bool) (j : Fin 4) (c : Dev nD) : Act F PUnit := do
  let t ← rsRecv δ j 0 c
  putS δ j 1 (wireV t)
  sendRS δ j 1 1 c
  putO δ j 1 c t
/-- hops 1 to 13, -/
def rsMid (δ : Bool) (j : Fin 4) (h : Fin 13) (c : Dev nD) : Act F PUnit := do
  let t ← rsRecv δ j ⟨h.val + 1, by omega⟩ c
  waitRS' δ j ⟨h.val, by omega⟩ c
  putS δ j (par h.val) (wireV t)
  sendRS δ j (par h.val) ⟨h.val + 2, by omega⟩ c
  putO δ j ⟨h.val + 2, by omega⟩ c t
/-- and hop 14. -/
def rsLast (δ : Bool) (j : Fin 4) (c : Dev nD) : Act F PUnit := do
  let t ← rsRecv δ j 14 c
  putO δ j 15 c t
/-- All-gather hops 0 to 13, -/
def agMid (δ : Bool) (j : Fin 4) (h : Fin 14) (c : Dev nD) : Act F PUnit := do
  waitAG δ j ⟨h.val, by omega⟩ c
  sendAG δ j ⟨h.val + 1, by omega⟩ c
  let g ← getG δ j ⟨h.val, by omega⟩ c
  putO δ j ⟨h.val, by omega⟩ c (outV g)
/-- and hop 14. -/
def agLast (δ : Bool) (j : Fin 4) (c : Dev nD) : Act F PUnit := do
  waitAG δ j 14 c
  let g ← getG δ j 14 c
  putO δ j 14 c (outV g)

/-- Run `f` at each entry of a list. -/
def each {α : Type} (f : α → Act F PUnit) : List α → Act F PUnit
  | [] => pure ⟨⟩
  | x :: xs => do f x; each f xs

/-- The lanes in the loops' order, -/
abbrev lanes : List (Bool × Fin 4) :=
  [(true, 0), (false, 0), (true, 1), (false, 1), (true, 2), (false, 2), (true, 3), (false, 3)]
/-- and in the order they are opened in. -/
abbrev lanes' : List (Bool × Fin 4) :=
  [(true, 0), (true, 1), (true, 2), (true, 3), (false, 0), (false, 1), (false, 2), (false, 3)]

def hops13 : List (Fin 13) := [0, 1, 2, 3, 4, 5, 6, 7, 8, 9, 10, 11, 12]
def hops14 : List (Fin 14) := [0, 1, 2, 3, 4, 5, 6, 7, 8, 9, 10, 11, 12, 13]
def hops15 : List (Fin 15) := [0, 1, 2, 3, 4, 5, 6, 7, 8, 9, 10, 11, 12, 13, 14]
def cols : List (Fin 4) := [0, 1, 2, 3]

def barS : Sems sig S_ := SemArray.scalar (sig.barrier 0 rfl)

def barrier (c : Dev nD) : Act F PUnit := do
  semSignalWord (⟨k0_dev1 c, k0_dev1_lt c⟩ : Dev nD) barS.sem 1#32
  semSignalWord (⟨k0_dev2 c, k0_dev2_lt c⟩ : Dev nD) barS.sem 1#32
  semWaitWord barS.sem 2#32

def startRS (δ : Bool) (c : Dev nD) : Act F PUnit := do
  rsInit δ c
  each (fun j => sendRS δ j 0 0 c) cols
def startAG (δ : Bool) (c : Dev nD) : Act F PUnit := do
  agInit δ c
  each (fun j => sendAG δ j 0 c) cols

/-- The body at device `c`. -/
def body (c : Dev nD) : Act F PUnit := do
  barrier c
  startRS true c
  startRS false c
  each (fun l => rsFirst l.1 l.2 c) lanes
  each (fun h => each (fun l => rsMid l.1 l.2 h c) lanes) hops13
  each (fun l => rsLast l.1 l.2 c) lanes
  each (fun l => do waitRS' l.1 l.2 13 c; waitRS' l.1 l.2 14 c) lanes'
  startAG true c
  startAG false c
  each (fun h => each (fun l => agMid l.1 l.2 h c) lanes) hops14
  each (fun l => agLast l.1 l.2 c) lanes
  each (fun l => each (fun h => waitAG' l.1 l.2 h c) hops15) lanes'

end Cert.KernelIdeal.Ring
-- ==== Proof.RunIdeal.Places.lean ====
/- The chunk buffers and send buffers cut into their slots: one slot is 128 rows of one column block of one
   chunk. A slot's elements, a slot held at contents given by row and column, the whole buffer as its slots, and
   what a transfer from one slot to another leaves. -/
module

public import proofs.«01_k».proof.Proof.RunIdeal.Steps
public import Idealize.ShloMosaic.Lib.Rounds
public import Idealize.ShloMosaic.Lib.Pipeline.Value
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The algebra of the pipeline's cells and of the ring's. -/
abbrev UU : Type := UR sig nD τ × Rounds.URounds (GSem nD τ sig) Bool
local notation "𝕄" => MT nD τ sig ℕ (Elt F) ℕ UU ℕ

/-! ## Chunk numbers -/

def bk (δ : Bool) (c : Dev nD) (n : ℕ) : Fin 16 := ⟨back δ c n, back_lt δ c n⟩

theorem succ_val : ∀ (δ : Bool) (c : Dev nD), (succ δ c).val = ahead δ c := by decide +kernel
theorem succ_succ : ∀ (δ : Bool) (c : Dev nD), succ δ (succ (!δ) c) = c := by decide +kernel
theorem succ_succ' : ∀ (δ : Bool) (c : Dev nD), succ (!δ) (succ δ c) = c := by decide +kernel

theorem bk_succ (δ : Bool) (c : Dev nD) (n : ℕ) (hn : n < 40) : bk δ (succ δ c) (n + 1) = bk δ c n := by
  apply Fin.ext
  have h := succ_val δ c
  have hc : c.val < 16 := c.isLt
  show back δ (succ δ c) (n + 1) = back δ c n
  cases δ <;> simp only [back, ahead] at h ⊢ <;> omega
theorem bk_add16 (δ : Bool) (c : Dev nD) (n : ℕ) (hn : n < 40) : bk δ c (n + 16) = bk δ c n := by
  apply Fin.ext
  show back δ c (n + 16) = back δ c n
  cases δ <;> simp only [back] <;> omega
theorem bk_mod (δ : Bool) (c : Dev nD) (n : ℕ) (hn : n < 40) : bk δ c (n % 16 + 1) = bk δ c (n + 1) := by
  apply Fin.ext
  show back δ c (n % 16 + 1) = back δ c (n + 1)
  cases δ <;> simp only [back] <;> omega
theorem bk_inj (δ : Bool) (c : Dev nD) (n m : ℕ) (hn : n < 32) (hm : m < 32) (h : bk δ c n = bk δ c m) : n % 16 = m % 16 := by
  have h := congrArg Fin.val h
  have hc : c.val < 16 := c.isLt
  change back δ c n = back δ c m at h
  cases δ <;> simp only [back] at h <;> omega
/-- The chunks of a device's window, numbered by hops. -/
theorem bk_surj (δ : Bool) (c : Dev nD) (k : Fin 16) : ∃ n : Fin 16, bk δ c (n.val + 1) = k := by
  revert δ c k; decide +kernel

/-! ## Slots -/

theorem offS_inb : ∀ (k : Fin 16) (j : Fin 4), ∀ a, (![k.val, 0, 256 * j.val] : Fin 3 → ℕ) a + S1x128x256.size a ≤ S16x128x1024.size a := by
  decide +kernel
abbrev agR (j : Fin 4) (k : Fin 16) : Rect S16x128x1024 :=
  Rect.unit (s := S16x128x1024) ![k.val, 0, 256 * j.val] S1x128x256.size (offS_inb k j)
def agS (δ : Bool) (j : Fin 4) (k : Fin 16) : Memref sig .tc .vmem S128x256 .bf16 :=
  ((agM δ).slice (agR j k) (fun _ => rfl)).squeeze S128x256 squeezes_S1x128x256_S128x256

theorem ag_slice_congr (δ : Bool) {o o' : Fin 3 → ℕ} (h : o = o') (hi : ∀ a, o a + S1x128x256.size a ≤ S16x128x1024.size a)
    (hi' : ∀ a, o' a + S1x128x256.size a ≤ S16x128x1024.size a) :
    (((agM δ).slice (Rect.unit (s := S16x128x1024) o S1x128x256.size hi) (fun _ => rfl)).squeeze S128x256 squeezes_S1x128x256_S128x256
        : Memref sig .tc .vmem S128x256 .bf16)
      = ((agM δ).slice (Rect.unit (s := S16x128x1024) o' S1x128x256.size hi') (fun _ => rfl)).squeeze S128x256 squeezes_S1x128x256_S128x256 := by
  subst h; rfl
theorem rsV_eq (δ : Bool) (j : Fin 4) (c : Dev nD) (h : Fin 15) : rsV δ j c h = agS δ j (bk δ c h.val) :=
  ag_slice_congr δ (offRS_eq δ j c h) _ _
theorem agV_eq (δ : Bool) (j : Fin 4) (c : Dev nD) (h : Fin 15) : agV δ j c h = agS δ j (bk δ c (15 + h.val)) :=
  ag_slice_congr δ (offAG_eq δ j c h) _ _
theorem rect_congr {s : Shape} {o o' : Fin s.rank → ℕ} {z : Fin s.rank → ℕ} (h : o = o') (hi : ∀ a, o a + z a ≤ s.size a) (hi' : ∀ a, o' a + z a ≤ s.size a) :
    Rect.unit (s := s) o z hi = Rect.unit (s := s) o' z hi' := by subst h; rfl
theorem getR_eq (δ : Bool) (j : Fin 4) (c : Dev nD) (n : Fin 16) : getR δ j c n = agR j (bk δ c n.val) :=
  rect_congr (s := S16x128x1024) (offGet_eq δ j c n) _ _

/-- Contents by row and column, the same in every slot. -/
abbrev Wire (F : FTy → Type) : Type := Fin 128 → Fin 1024 → Elt F .bf16
def agF (δ : Bool) (c : Dev nD) (g : S16x128x1024.Idx → Elt F .bf16) : Buf (Elt F) ((agM δ).view.loc (c : Thread nD τ)) :=
  match δ with | true => g | false => g
def stF (δ : Bool) (c : Dev nD) (g : S2x128x1024.Idx → Elt F .bf16) : Buf (Elt F) ((stM δ).view.loc (c : Thread nD τ)) :=
  match δ with | true => g | false => g
def agW (δ : Bool) (c : Dev nD) (w : Wire F) : Buf (Elt F) ((agM δ).view.loc (c : Thread nD τ)) := agF δ c fun x => w (x 1) (x 2)
def stW (δ : Bool) (c : Dev nD) (w : Wire F) : Buf (Elt F) ((stM δ).view.loc (c : Thread nD τ)) := stF δ c fun x => w (x 1) (x 2)
theorem agF_read (δ : Bool) (c : Dev nD) (g : S16x128x1024.Idx → Elt F .bf16) : (agM δ).view.read (Elt F) (agF δ c g) = g := by
  cases δ <;> exact View.read_whole _ _
theorem stF_read (δ : Bool) (c : Dev nD) (g : S2x128x1024.Idx → Elt F .bf16) : (stM δ).view.read (Elt F) (stF δ c g) = g := by
  cases δ <;> exact View.read_whole _ _

/-- A slot's elements in its buffer, and a slot held. -/
def agSet (δ : Bool) (j : Fin 4) (k : Fin 16) : Finset (agM δ).view.ty.Idx := (agR j k).set.map (agM δ).view.emb
def stSet (δ : Bool) (j : Fin 4) (k : Fin 2) : Finset (stM δ).view.ty.Idx := (stR j k).set.map (stM δ).view.emb
abbrev agAt (δ : Bool) (c : Dev nD) (j : Fin 4) (k : Fin 16) (q : PosShare TreeShare) (f : Buf (Elt F) ((agM δ).view.loc (c : Thread nD τ))) : sProp 𝕄 :=
  (agM δ).view.loc (c : Thread nD τ) ↦[agSet δ j k]{q} f
abbrev stAt (δ : Bool) (c : Dev nD) (j : Fin 4) (k : Fin 2) (q : PosShare TreeShare) (f : Buf (Elt F) ((stM δ).view.loc (c : Thread nD τ))) : sProp 𝕄 :=
  (stM δ).view.loc (c : Thread nD τ) ↦[stSet δ j k]{q} f

theorem agS_set (δ : Bool) (j : Fin 4) (k : Fin 16) : (agS δ j k).view.set = agSet δ j k := by
  unfold agS; exact (View.set_reshape _ _).trans (View.set_slice _ _)
theorem stV_set (δ : Bool) (j : Fin 4) (k : Fin 2) : (stV δ j k).view.set = stSet δ j k := by
  unfold stV; exact (View.set_reshape _ _).trans (View.set_slice _ _)

theorem agR_disj {j j' : Fin 4} {k k' : Fin 16} (h : (j, k) ≠ (j', k')) : Disjoint (agR j k).set (agR j' k').set := by
  by_cases hk : k = k'
  · have hj : j ≠ j' := fun e => h (by rw [e, hk])
    refine Rect.unit_disjoint (s := S16x128x1024) 2 ?_
    have : j.val ≠ j'.val := fun e => hj (Fin.ext e)
    show 256 * j.val + 256 ≤ 256 * j'.val ∨ 256 * j'.val + 256 ≤ 256 * j.val
    omega
  · refine Rect.unit_disjoint (s := S16x128x1024) 0 ?_
    have : k.val ≠ k'.val := fun e => hk (Fin.ext e)
    show k.val + 1 ≤ k'.val ∨ k'.val + 1 ≤ k.val
    omega
theorem stR_disj {j j' : Fin 4} {k k' : Fin 2} (h : (j, k) ≠ (j', k')) : Disjoint (stR j k).set (stR j' k').set := by
  by_cases hk : k = k'
  · have hj : j ≠ j' := fun e => h (by rw [e, hk])
    refine Rect.unit_disjoint (s := S2x128x1024) 2 ?_
    have : j.val ≠ j'.val := fun e => hj (Fin.ext e)
    show 256 * j.val + 256 ≤ 256 * j'.val ∨ 256 * j'.val + 256 ≤ 256 * j.val
    omega
  · refine Rect.unit_disjoint (s := S2x128x1024) 0 ?_
    have : k.val ≠ k'.val := fun e => hk (Fin.ext e)
    show k.val + 1 ≤ k'.val ∨ k'.val + 1 ≤ k.val
    omega

/-- Membership in a slot, by coordinates. -/
theorem mem_agR {j : Fin 4} {k : Fin 16} {x : S16x128x1024.Idx} :
    x ∈ (agR j k).set ↔ (x 0).val = k.val ∧ 256 * j.val ≤ (x 2).val ∧ (x 2).val < 256 * j.val + 256 := by
  rw [show (agR j k) = Rect.unit (s := S16x128x1024) ![k.val, 0, 256 * j.val] S1x128x256.size (offS_inb k j) from rfl, Rect.mem_set_unit]
  constructor
  · intro h
    have h0 : k.val ≤ (x 0).val ∧ (x 0).val < k.val + 1 := h 0
    have h2 : 256 * j.val ≤ (x 2).val ∧ (x 2).val < 256 * j.val + 256 := h 2
    omega
  · intro h a
    have h1 : (x 1).val < 128 := (x 1).isLt
    match a with
    | 0 => show k.val ≤ (x 0).val ∧ (x 0).val < k.val + 1; omega
    | 1 => show 0 ≤ (x 1).val ∧ (x 1).val < 0 + 128; omega
    | 2 => exact h.2
theorem mem_stR {j : Fin 4} {k : Fin 2} {x : S2x128x1024.Idx} :
    x ∈ (stR j k).set ↔ (x 0).val = k.val ∧ 256 * j.val ≤ (x 2).val ∧ (x 2).val < 256 * j.val + 256 := by
  rw [show (stR j k) = Rect.unit (s := S2x128x1024) ![k.val, 0, 256 * j.val] S1x128x256.size (offST_inb k j) from rfl, Rect.mem_set_unit]
  constructor
  · intro h
    have h0 : k.val ≤ (x 0).val ∧ (x 0).val < k.val + 1 := h 0
    have h2 : 256 * j.val ≤ (x 2).val ∧ (x 2).val < 256 * j.val + 256 := h 2
    omega
  · intro h a
    have h1 : (x 1).val < 128 := (x 1).isLt
    match a with
    | 0 => show k.val ≤ (x 0).val ∧ (x 0).val < k.val + 1; omega
    | 1 => show 0 ≤ (x 1).val ∧ (x 1).val < 0 + 128; omega
    | 2 => exact h.2

theorem agAt_view (δ : Bool) (c : Dev nD) (j : Fin 4) (k : Fin 16) (q : PosShare TreeShare) (f : Buf (Elt F) ((agM δ).view.loc (c : Thread nD τ))) :
    (agAt δ c j k q f : sProp 𝕄) = ((agS δ j k).view.loc (c : Thread nD τ) ↦[(agS δ j k).view.set]{q} f) := by
  rw [agS_set]; rfl
theorem stAt_view (δ : Bool) (c : Dev nD) (j : Fin 4) (k : Fin 2) (q : PosShare TreeShare) (f : Buf (Elt F) ((stM δ).view.loc (c : Thread nD τ))) :
    (stAt δ c j k q f : sProp 𝕄) = ((stV δ j k).view.loc (c : Thread nD τ) ↦[(stV δ j k).view.set]{q} f) := by
  rw [stV_set]; rfl

theorem agM_emb_mem (δ : Bool) (i : (agM δ).view.ty.Idx) : ∃ x : S16x128x1024.Idx, (agM δ).view.emb x = i := by
  cases δ <;> exact ⟨i, rfl⟩
theorem stM_emb_mem (δ : Bool) (i : (stM δ).view.ty.Idx) : ∃ x : S2x128x1024.Idx, (stM δ).view.emb x = i := by
  cases δ <;> exact ⟨i, rfl⟩

theorem agS_disj (δ : Bool) {p p' : Fin 4 × Fin 16} (h : p ≠ p') :
    Disjoint (agSet δ p.1 p.2) (agSet δ p'.1 p'.2) := by
  rw [agSet, agSet, Finset.disjoint_map]; exact agR_disj h
theorem stV_disj (δ : Bool) {p p' : Fin 4 × Fin 2} (h : p ≠ p') :
    Disjoint (stSet δ p.1 p.2) (stSet δ p'.1 p'.2) := by
  rw [stSet, stSet, Finset.disjoint_map]; exact stR_disj h
theorem agS_cover (δ : Bool) : (Finset.univ : Finset (Fin 4 × Fin 16)).biUnion (fun p => agSet δ p.1 p.2) = Finset.univ := by
  refine Finset.eq_univ_iff_forall.mpr fun i => ?_
  obtain ⟨x, rfl⟩ := agM_emb_mem δ i
  have h0 : (x 0).val < 16 := (x 0).isLt
  have h2 : (x 2).val < 1024 := (x 2).isLt
  refine Finset.mem_biUnion.mpr ⟨(⟨(x 2).val / 256, by omega⟩, ⟨(x 0).val, h0⟩), Finset.mem_univ _, ?_⟩
  refine Finset.mem_map_of_mem _ (mem_agR.mpr ⟨rfl, ?_, ?_⟩) <;> dsimp only <;> omega
theorem stV_cover (δ : Bool) : (Finset.univ : Finset (Fin 4 × Fin 2)).biUnion (fun p => stSet δ p.1 p.2) = Finset.univ := by
  refine Finset.eq_univ_iff_forall.mpr fun i => ?_
  obtain ⟨x, rfl⟩ := stM_emb_mem δ i
  have h0 : (x 0).val < 2 := (x 0).isLt
  have h2 : (x 2).val < 1024 := (x 2).isLt
  refine Finset.mem_biUnion.mpr ⟨(⟨(x 2).val / 256, by omega⟩, ⟨(x 0).val, h0⟩), Finset.mem_univ _, ?_⟩
  refine Finset.mem_map_of_mem _ (mem_stR.mpr ⟨rfl, ?_, ?_⟩) <;> dsimp only <;> omega

/-- A whole chunk buffer is its slots, -/
theorem ag_split (δ : Bool) (c : Dev nD) (f : Buf (Elt F) ((agM δ).view.loc (c : Thread nD τ))) :
    ((agM δ).view.loc (c : Thread nD τ) ↦{fullShare} f : sProp 𝕄) = bigSep Finset.univ fun p : Fin 4 × Fin 16 => agAt δ c p.1 p.2 fullShare f := by
  have h := pointsTo_biUnion (Ix := ℕ) (Name := ℕ) (U := UU) (Lvl := ℕ) (ℓ := (agM δ).view.loc (c : Thread nD τ)) (q := fullShare) (f := f) (Finset.univ : Finset (Fin 4 × Fin 16))
    (fun p => agSet δ p.1 p.2) (fun p _ p' _ h => agS_disj δ h)
  rw [agS_cover] at h
  exact h
theorem st_split (δ : Bool) (c : Dev nD) (f : Buf (Elt F) ((stM δ).view.loc (c : Thread nD τ))) :
    ((stM δ).view.loc (c : Thread nD τ) ↦{fullShare} f : sProp 𝕄) = bigSep Finset.univ fun p : Fin 4 × Fin 2 => stAt δ c p.1 p.2 fullShare f := by
  have h := pointsTo_biUnion (Ix := ℕ) (Name := ℕ) (U := UU) (Lvl := ℕ) (ℓ := (stM δ).view.loc (c : Thread nD τ)) (q := fullShare) (f := f) (Finset.univ : Finset (Fin 4 × Fin 2))
    (fun p => stSet δ p.1 p.2) (fun p _ p' _ h => stV_disj δ h)
  rw [stV_cover] at h
  exact h

/-- and its slots, each at contents of its own, are the whole buffer at some contents. -/
theorem ag_join (δ : Bool) (c : Dev nD) :
    (bigSep Finset.univ fun p : Fin 4 × Fin 16 => (iprop(∃ f, agAt δ c p.1 p.2 fullShare f) : sProp 𝕄))
      ⊢ iprop(∃ f, (agM δ).view.loc (c : Thread nD τ) ↦{fullShare} f) := by
  have hne : Nonempty (Buf (Elt F) ((agM δ).view.loc (c : Thread nD τ))) := ⟨agF δ c fun _ => Classical.choice (Elt.nonempty F _)⟩
  refine (bigSep_exists_pi (Finset.univ : Finset (Fin 4 × Fin 16)) (fun p f => agAt δ c p.1 p.2 fullShare f)).trans ?_
  iintro ⟨%fs, H⟩
  ihave H := (pointsTo_biUnion_join (Finset.univ : Finset (Fin 4 × Fin 16)) (fun p => agSet δ p.1 p.2) fs (fs (0, 0))
    (fun p _ p' _ h => agS_disj δ h)) $$ H
  icases H with ⟨%g, -, H⟩
  rw [agS_cover]
  iexists g; iexact H
theorem st_join (δ : Bool) (c : Dev nD) :
    (bigSep Finset.univ fun p : Fin 4 × Fin 2 => (iprop(∃ f, stAt δ c p.1 p.2 fullShare f) : sProp 𝕄))
      ⊢ iprop(∃ f, (stM δ).view.loc (c : Thread nD τ) ↦{fullShare} f) := by
  have hne : Nonempty (Buf (Elt F) ((stM δ).view.loc (c : Thread nD τ))) := ⟨stF δ c fun _ => Classical.choice (Elt.nonempty F _)⟩
  refine (bigSep_exists_pi (Finset.univ : Finset (Fin 4 × Fin 2)) (fun p f => stAt δ c p.1 p.2 fullShare f)).trans ?_
  iintro ⟨%fs, H⟩
  ihave H := (pointsTo_biUnion_join (Finset.univ : Finset (Fin 4 × Fin 2)) (fun p => stSet δ p.1 p.2) fs (fs (0, 0))
    (fun p _ p' _ h => stV_disj δ h)) $$ H
  icases H with ⟨%g, -, H⟩
  rw [stV_cover]
  iexists g; iexact H

/-! ## Coordinates through a slot's view -/

/-- The column `q` of block `j`. -/
def colIn (j : Fin 4) (q : Fin 256) : Fin 1024 := ⟨256 * j.val + q.val, by omega⟩

theorem reshape_cons (y : S128x256.Idx) (h : S128x256.numel = S1x128x256.numel) :
    (Shape.reshapeEquiv h y : S1x128x256.Idx) = Fin.cons ⟨0, Nat.one_pos⟩ y :=
  Shape.reshapeEquiv_cons_one (n := 2) (d := ![128, 256]) h y

theorem agS_read (δ : Bool) (c : Dev nD) (j : Fin 4) (k : Fin 16) (w : Wire F) (y : S128x256.Idx) :
    (agS δ j k).view.read (Elt F) (agW δ c w) y = w (y 0) (colIn j (y 1)) := by
  have h : (agS δ j k).view.read (Elt F) (agW δ c w) y
      = (agM δ).view.read (Elt F) (agW δ c w) ((agR j k).emb (Shape.reshapeEquiv squeezes_S1x128x256_S128x256.numel_eq y)) := rfl
  rw [h, agW, agF_read, reshape_cons]
  congr 1 <;> apply Fin.ext
  · show 0 + 1 * (y 0).val = (y 0).val; omega
  · show 256 * j.val + 1 * (y 1).val = 256 * j.val + (y 1).val; omega
theorem stV_read (δ : Bool) (c : Dev nD) (j : Fin 4) (k : Fin 2) (w : Wire F) (y : S128x256.Idx) :
    (stV δ j k).view.read (Elt F) (stW δ c w) y = w (y 0) (colIn j (y 1)) := by
  have h : (stV δ j k).view.read (Elt F) (stW δ c w) y
      = (stM δ).view.read (Elt F) (stW δ c w) ((stR j k).emb (Shape.reshapeEquiv squeezes_S1x128x256_S128x256.numel_eq y)) := rfl
  rw [h, stW, stF_read, reshape_cons]
  congr 1 <;> apply Fin.ext
  · show 0 + 1 * (y 0).val = (y 0).val; omega
  · show 256 * j.val + 1 * (y 1).val = 256 * j.val + (y 1).val; omega

theorem view_write_congr {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  obtain ⟨y, rfl⟩ := View.exists_emb_of_mem_set v hi
  rw [View.write_emb_of_mem _ _ (Finset.mem_univ y), ← h, View.read_apply, cast_cast, cast_eq]

/-- What lands from a send-buffer slot, -/
theorem land_st (δ : Bool) (c d : Dev nD) (j : Fin 4) (k : Fin 16) (k' : Fin 2) (w : Wire F) (fd : Buf (Elt F) ((agM δ).view.loc (d : Thread nD τ))) :
    (agAt δ d j k fullShare ((agS δ j k).view.write (Elt F) fd ((stV δ j k').view.read (Elt F) (stW δ c w)) Finset.univ) : sProp 𝕄)
      = agAt δ d j k fullShare (agW δ d w) := by
  have h : (agS δ j k).view.read (Elt F) (agW δ d w) = (stV δ j k').view.read (Elt F) (stW δ c w) :=
    funext fun y => (agS_read δ d j k w y).trans (stV_read δ c j k' w y).symm
  have h' := view_write_congr (agS δ j k).view fd (agW δ d w) _ h
  rw [agS_set] at h'
  exact pointsTo_congr h'
/-- and from a chunk-buffer slot. -/
theorem land_ag (δ : Bool) (c d : Dev nD) (j : Fin 4) (k k' : Fin 16) (w : Wire F) (fd : Buf (Elt F) ((agM δ).view.loc (d : Thread nD τ))) :
    (agAt δ d j k fullShare ((agS δ j k).view.write (Elt F) fd ((agS δ j k').view.read (Elt F) (agW δ c w)) Finset.univ) : sProp 𝕄)
      = agAt δ d j k fullShare (agW δ d w) := by
  have h : (agS δ j k).view.read (Elt F) (agW δ d w) = (agS δ j k').view.read (Elt F) (agW δ c w) :=
    funext fun y => (agS_read δ d j k w y).trans (agS_read δ c j k' w y).symm
  have h' := view_write_congr (agS δ j k).view fd (agW δ d w) _ h
  rw [agS_set] at h'
  exact pointsTo_congr h'

end Cert.KernelIdeal.Ring
-- ==== Proof.RunIdeal.Protocol.lean ====
/- The ring's protocol: what a device's transfers carry, the cells they pay, the round schedule of every cell, and the
   levels a wait is judged by. Direction `true` sends to the device after, `false` to the one before; a lane is a
   direction and a block of columns. A lane's transfers are numbered 0 to 29, the reduce-scatter's then the
   all-gather's: transfer `i` uses cell `i % 15` in that cell's round `i / 15`. -/
module

public import proofs.«01_k».proof.Proof.RunIdeal.Places

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb (Rounds.URounds (GSem nD τ sig) Bool) (MT nD τ sig ℕ (Elt F) ℕ UU ℕ) := embR

/-! ## What travels -/

/-- A partial product, and all devices' partial products. -/
abbrev Mat (F : FTy → Type) : Type := S2048x2048.Idx → Elt F .f32
abbrev Parts (F : FTy → Type) : Type := Dev nD → Mat F

/-- The element at row `r` of chunk `k`, column `q` of direction `δ`'s half. -/
def ix (δ : Bool) (k : Fin 16) (r : Fin 128) (q : Fin 1024) : S2048x2048.Idx := fun a =>
  match a with
  | 0 => ⟨128 * k.val + r.val, show 128 * k.val + r.val < 2048 by omega⟩
  | 1 => ⟨colOf δ + q.val, show colOf δ + q.val < 2048 by cases δ <;> simp only [colOf] <;> omega⟩

def narrow (x : Elt F .f32) : Elt F .bf16 := FloatOps.truncf (F := F) .bf16 bitsLt_bf16_f32 x
def widen (x : Elt F .bf16) : Elt F .f32 := FloatOps.extf (F := F) .f32 bitsLt_bf16_f32 x
def plus (x y : Elt F .f32) : Elt F .f32 := FloatOps.addf (F := F) x y

variable (P : Parts F)

/-- What transfer `i` of direction `δ` carries when device `c` sends it. -/
def wv (δ : Bool) : ℕ → Dev nD → Wire F
  | 0, c => fun r q => narrow (P c (ix δ (bk δ c 0) r q))
  | i + 1, c =>
    if i < 15 then fun r q => narrow (plus (P c (ix δ (bk δ c (i + 1)) r q)) (widen (wv δ i (succ (!δ) c) r q)))
    else wv δ i (succ (!δ) c)
/-- A partial chunk plus what transfer `i` brought. -/
def acc (δ : Bool) (i : ℕ) (c : Dev nD) (r : Fin 128) (q : Fin 1024) : Elt F .f32 :=
  plus (P c (ix δ (bk δ c (i + 1)) r q)) (widen (wv P δ i (succ (!δ) c) r q))
theorem wv_zero (δ : Bool) (c : Dev nD) (r : Fin 128) (q : Fin 1024) : wv P δ 0 c r q = narrow (P c (ix δ (bk δ c 0) r q)) := rfl
theorem wv_acc (δ : Bool) (i : ℕ) (hi : i < 15) (c : Dev nD) (r : Fin 128) (q : Fin 1024) : wv P δ (i + 1) c r q = narrow (acc P δ i c r q) := by
  rw [wv, if_pos hi]; rfl
theorem wv_pass (δ : Bool) (i : ℕ) (hi : 15 ≤ i) (c : Dev nD) : wv P δ (i + 1) c = wv P δ i (succ (!δ) c) := by
  rw [wv, if_neg (by omega)]
/-- What the result holds in chunk `bk δ c n` once transfer `n - 1` is in. -/
def ov (δ : Bool) (n : ℕ) (c : Dev nD) (r : Fin 128) (q : Fin 1024) : Elt F .f32 :=
  if n = 15 then acc P δ 14 c r q else widen (wv P δ (n - 1) (succ (!δ) c) r q)

/-! ## Cells -/

abbrev Lane : Type := Bool × Fin 4
def opp (l : Lane) : Lane := (!l.1, l.2)
theorem opp_opp (l : Lane) : opp (opp l) = l := by obtain ⟨δ, j⟩ := l; cases δ <;> rfl

def hop (i : ℕ) : Fin 15 := ⟨i % 15, Nat.mod_lt _ (by decide)⟩
abbrev scell (c : Dev nD) (l : Lane) (h : Fin 15) : GSem nD τ sig := ((c : Thread nD τ), .dma (ssem l.1 l.2 h))
abbrev rcell (c : Dev nD) (l : Lane) (h : Fin 15) : GSem nD τ sig := ((c : Thread nD τ), .dma (rsem l.1 l.2 h))
abbrev barCell (c : Dev nD) : GSem nD τ sig := ((c : Thread nD τ), .reg barS.sem)

/-- One slot's credit: every view of a slot's shape has it. -/
def N : ℕ := (agS true 0 0).view.dmaCredit
theorem credit_eq {sp : Space} (m : Memref sig .tc sp S128x256 .bf16) : m.view.dmaCredit = N := rfl
theorem N_pos : 0 < N := View.dmaCredit_pos _ (by decide)

/-- Which transfer cell a semaphore is: a receive cell or a send cell, its lane, its hop. -/
def dec (sm : SemLoc sig) : Option (Bool × Lane × Fin 15) :=
  match sm with
  | .reg _ => none
  | .dma s =>
    if 2 ≤ s.val then
      some (decide (((s.val - 2) / 60) % 2 = 1),
        (decide (((s.val - 2) / 60) / 2 = 0), ⟨((s.val - 2) % 60) % 4, Nat.mod_lt _ (by decide)⟩),
        ⟨((s.val - 2) % 60) / 4, by have := Nat.mod_lt (s.val - 2) (show 0 < 60 by decide); omega⟩)
    else none
theorem dec_s : ∀ (l : Lane) (h : Fin 15), dec (.dma (ssem l.1 l.2 h)) = some (false, l, h) := by decide +kernel
theorem dec_r : ∀ (l : Lane) (h : Fin 15), dec (.dma (rsem l.1 l.2 h)) = some (true, l, h) := by decide +kernel
theorem dec_b : dec (.reg barS.sem) = none := rfl

/-! ## Payloads -/

abbrev halfL : PosShare TreeShare := fullShare.left
abbrev halfR : PosShare TreeShare := fullShare.right

/-- What device `c` needs to make transfer `i` on lane `l`: the neighbour's slot, and that the neighbour's cell has
    reached the transfer's round. -/
def Dst (c : Dev nD) (l : Lane) (i : ℕ) : sProp 𝕄 :=
  iprop((∃ f, agAt l.1 (succ l.1 c) l.2 (bk l.1 c i) fullShare f) ∗ reached ER (rcell (succ l.1 c) l (hop i)) (i / 15))
/-- Which of the all-gather's slots transfer `i` hands over, for the lane of the other direction. -/
def ext (i : ℕ) : Finset ℕ := if i = 14 then Finset.Ico 15 28 else if i = 15 then Finset.Ico 28 30 else ∅
def recvPay (c : Dev nD) (l : Lane) (i : ℕ) : sProp 𝕄 :=
  iprop(agAt l.1 c l.2 (bk l.1 c (i + 1)) fullShare (agW l.1 c (wv P l.1 i (succ (!l.1) c))) ∗ bigSep (ext i) fun i' => Dst c (opp l) i')
def sendPay (c : Dev nD) (l : Lane) (i : ℕ) : sProp 𝕄 :=
  if i < 15 then iprop(∃ f, stAt l.1 c l.2 (par i) fullShare f)
  else agAt l.1 c l.2 (bk l.1 c i) halfL (agW l.1 c (wv P l.1 i c))
/-- Paid to device `c`'s barrier by the neighbour `c` sends to in direction `d`. -/
def barPay (c : Dev nD) (d : Bool) : sProp 𝕄 :=
  bigSep Finset.univ fun j : Fin 4 => bigSep (Finset.Ico 0 15) fun i => Dst c (d, j) i

/-- The schedule: one duty in each of the two rounds of a transfer cell, two in a barrier's one round. -/
def Rd : Rounds.Schedule (GSem nD τ sig) Bool 𝕄 where
  duties g r :=
    if g.1.2 = .tc then
      match dec g.2 with
      | some _ => if r < 2 then {true} else ∅
      | none => if g.2 = .reg barS.sem ∧ r = 0 then {true, false} else ∅
    else ∅
  unitless _ := False
  amount g _ _ := if (dec g.2).isSome then N else 1
  payload g r d :=
    match dec g.2 with
    | some (true, l, h) => recvPay P g.1.1 l (h.val + 15 * r)
    | some (false, l, h) => sendPay P g.1.1 l (h.val + 15 * r)
    | none => barPay g.1.1 d
  amount_pos g _ _ _ := by
    split
    · exact N_pos
    · exact Nat.one_pos

instance storable_Dst (c : Dev nD) (l : Lane) (i : ℕ) : BI.Storable (upEmb : UEmb _ 𝕄) (Dst (F := F) c l i) := by
  unfold Dst; infer_instance
instance storable_recv (c : Dev nD) (l : Lane) (i : ℕ) : BI.Storable (upEmb : UEmb _ 𝕄) (recvPay P c l i) := by
  unfold recvPay; infer_instance
instance storable_send (c : Dev nD) (l : Lane) (i : ℕ) : BI.Storable (upEmb : UEmb _ 𝕄) (sendPay P c l i) := by
  unfold sendPay; split <;> infer_instance
instance storable_bar (c : Dev nD) (d : Bool) : BI.Storable (upEmb : UEmb _ 𝕄) (barPay (F := F) c d) := by
  unfold barPay; infer_instance
instance Rd_storable (g : GSem nD τ sig) (r : ℕ) (d : Bool) : BI.Storable (upEmb : UEmb _ 𝕄) ((Rd P).payload g r d) := by
  show BI.Storable upEmb (match dec g.2 with
    | some (true, l, h) => recvPay P g.1.1 l (h.val + 15 * r)
    | some (false, l, h) => sendPay P g.1.1 l (h.val + 15 * r)
    | none => barPay g.1.1 d)
  split <;> infer_instance

section Sched
variable (c : Dev nD) (l : Lane) (i : ℕ) (hi : i < 30)

theorem hop_num : (hop i).val + 15 * (i / 15) = i := by show i % 15 + 15 * (i / 15) = i; omega

include hi in
theorem duties_s : (Rd P).duties (scell c l (hop i)) (i / 15) = {true} := by
  dsimp only [Rd]; rw [if_pos rfl, dec_s]; exact if_pos (by omega)
include hi in
theorem duties_r : (Rd P).duties (rcell c l (hop i)) (i / 15) = {true} := by
  dsimp only [Rd]; rw [if_pos rfl, dec_r]; exact if_pos (by omega)
theorem duties_b : (Rd P).duties (barCell c) 0 = {true, false} := by
  dsimp only [Rd]; rw [if_pos rfl, dec_b]; exact if_pos ⟨rfl, rfl⟩
theorem duties_late (g : GSem nD τ sig) (r : ℕ) (hr : 2 ≤ r) : (Rd P).duties g r = ∅ := by
  dsimp only [Rd]
  split
  · split
    · exact if_neg (by omega)
    · exact if_neg (by omega)
  · rfl
theorem duties_bar_late (r : ℕ) (hr : 1 ≤ r) : (Rd P).duties (barCell c) r = ∅ := by
  dsimp only [Rd]; rw [if_pos rfl, dec_b]; exact if_neg (by omega)
theorem amount_s (h : Fin 15) (r : ℕ) (d : Bool) : (Rd P).amount (scell c l h) r d = N := by
  dsimp only [Rd]; rw [dec_s]; rfl
theorem amount_r (h : Fin 15) (r : ℕ) (d : Bool) : (Rd P).amount (rcell c l h) r d = N := by
  dsimp only [Rd]; rw [dec_r]; rfl
theorem amount_b (r : ℕ) (d : Bool) : (Rd P).amount (barCell c) r d = 1 := rfl
include hi in
theorem expect_s : (Rd P).expect (scell c l (hop i)) (i / 15) = N := by
  unfold Schedule.expect Schedule.amountOf; rw [duties_s P c l i hi, Finset.sum_singleton, amount_s]
include hi in
theorem expect_r : (Rd P).expect (rcell c l (hop i)) (i / 15) = N := by
  unfold Schedule.expect Schedule.amountOf; rw [duties_r P c l i hi, Finset.sum_singleton, amount_r]
theorem expect_b : (Rd P).expect (barCell c) 0 = 2 := by
  unfold Schedule.expect Schedule.amountOf; rw [duties_b, Finset.sum_pair (by decide), amount_b, amount_b]
theorem payload_s (d : Bool) : (Rd P).payload (scell c l (hop i)) (i / 15) d = sendPay P c l i := by
  dsimp only [Rd]; rw [dec_s]; show sendPay P c l _ = _; rw [hop_num]
theorem payload_r (d : Bool) : (Rd P).payload (rcell c l (hop i)) (i / 15) d = recvPay P c l i := by
  dsimp only [Rd]; rw [dec_r]; show recvPay P c l _ = _; rw [hop_num]
theorem payload_b (d : Bool) : (Rd P).payload (barCell c) 0 d = barPay c d := rfl
include hi in
theorem rest_s : bigSep ((Rd P).duties (scell c l (hop i)) (i / 15) \ ∅) (fun d => (Rd P).payload (scell c l (hop i)) (i / 15) d) = sendPay P c l i := by
  rw [Finset.sdiff_empty, duties_s P c l i hi, bigSep_singleton, payload_s]
include hi in
theorem rest_r : bigSep ((Rd P).duties (rcell c l (hop i)) (i / 15) \ ∅) (fun d => (Rd P).payload (rcell c l (hop i)) (i / 15) d) = recvPay P c l i := by
  rw [Finset.sdiff_empty, duties_r P c l i hi, bigSep_singleton, payload_r]
theorem rest_b : bigSep ((Rd P).duties (barCell c) 0 \ ∅) (fun d => (Rd P).payload (barCell c) 0 d) = iprop(barPay c true ∗ barPay (F := F) c false) := by
  rw [Finset.sdiff_empty, duties_b, bigSep_insert (by decide), bigSep_singleton, payload_b, payload_b]
  rfl

end Sched

/-! ## Levels and debts -/

def L (g : GSem nD τ sig) : Finset ℕ := if g.1.2 = .tc then {0, 1} else ∅
/-- A barrier's level is 1, that of transfer `i` into a receive cell `i + 2`, every other 0. -/
def lv (g : GSem nD τ sig) (ι : ℕ) : ℕ :=
  match dec g.2 with
  | some (true, _, h) => h.val + 15 * ι + 2
  | some (false, _, _) => 0
  | none => if g.2 = .reg barS.sem then 1 else 0

theorem L_of_ne (g : GSem nD τ sig) (h : g.1.2 ≠ .tc) : L g = ∅ := if_neg h
theorem L_tc (c : Dev nD) (sm : SemLoc sig) : L ((c : Thread nD τ), sm) = {0, 1} := if_pos rfl
theorem mem_L (c : Dev nD) (sm : SemLoc sig) (ι : ℕ) (h : ι < 2) : ι ∈ L ((c : Thread nD τ), sm) := by
  rw [L_tc, Finset.mem_insert, Finset.mem_singleton]; omega
theorem lv_r (c : Dev nD) (l : Lane) (i : ℕ) : lv (rcell c l (hop i)) (i / 15) = i + 2 := by
  dsimp only [lv]; rw [dec_r]; show (hop i).val + 15 * (i / 15) + 2 = i + 2; rw [hop_num]
theorem lv_s (c : Dev nD) (l : Lane) (h : Fin 15) (ι : ℕ) : lv (scell c l h) ι = 0 := by dsimp only [lv]; rw [dec_s]
theorem lv_b (c : Dev nD) (ι : ℕ) : lv (barCell c) ι = 1 := rfl

/-- The credit of transfer `i` on lane `l` from device `c`. -/
def owe1 (c : Dev nD) (l : Lane) (i : ℕ) : CellTallies nD τ sig ℕ := tallyAt (rcell (succ l.1 c) l (hop i)) (i / 15) N
/-- What a device owes its neighbours when lane `l` has made `s l` transfers. -/
def owed (c : Dev nD) (s : Lane → ℕ) : CellTallies nD τ sig ℕ := ∑ l : Lane, ∑ i ∈ Finset.Ico (s l) 30, owe1 c l i

theorem tallies_sum_apply {α : Type} (t : Finset α) (f : α → CellTallies nD τ sig ℕ) (g : GSem nD τ sig) (ι : ℕ) :
    (∑ a ∈ t, f a) g ι = ∑ a ∈ t, f a g ι := by
  rw [Finset.sum_apply, Finsupp.finset_sum_apply]
theorem owed_pos {c : Dev nD} {s : Lane → ℕ} {g : GSem nD τ sig} {ι : ℕ} (h : 0 < owed c s g ι) :
    ∃ l i, s l ≤ i ∧ i < 30 ∧ g = rcell (succ l.1 c) l (hop i) ∧ ι = i / 15 := by
  unfold owed at h
  rw [tallies_sum_apply] at h
  obtain ⟨l, -, h⟩ := Finset.exists_ne_zero_of_sum_ne_zero (Nat.pos_iff_ne_zero.mp h)
  rw [tallies_sum_apply] at h
  obtain ⟨i, hi, h⟩ := Finset.exists_ne_zero_of_sum_ne_zero h
  unfold owe1 at h
  rw [tallyAt_apply] at h
  by_cases hg : g = rcell (succ l.1 c) l (hop i) ∧ ι = i / 15
  · exact ⟨l, i, (Finset.mem_Ico.mp hi).1, (Finset.mem_Ico.mp hi).2, hg.1, hg.2⟩
  · rw [if_neg hg] at h; exact absurd rfl h
theorem owed_step (c : Dev nD) (s : Lane → ℕ) (l : Lane) (hl : s l < 30) :
    owed c s = owed c (Function.update s l (s l + 1)) + owe1 c l (s l) := by
  have e : Finset.Ico (s l) 30 = insert (s l) (Finset.Ico (s l + 1) 30) := by
    ext x; simp only [Finset.mem_insert, Finset.mem_Ico]; omega
  unfold owed
  rw [← Finset.add_sum_erase _ (fun l' => ∑ i ∈ Finset.Ico (s l') 30, owe1 c l' i) (Finset.mem_univ l),
    ← Finset.add_sum_erase _ (fun l' => ∑ i ∈ Finset.Ico (Function.update s l (s l + 1) l') 30, owe1 c l' i) (Finset.mem_univ l)]
  simp only [Function.update_self]
  rw [e, Finset.sum_insert (by simp),
    Finset.sum_congr rfl fun l' hl' => show (∑ i ∈ Finset.Ico (Function.update s l (s l + 1) l') 30, owe1 c l' i) = ∑ i ∈ Finset.Ico (s l') 30, owe1 c l' i by
      rw [Function.update_of_ne (Finset.ne_of_mem_erase hl')]]
  rw [add_assoc, add_comm]
theorem owed_end (c : Dev nD) (s : Lane → ℕ) (h : ∀ l, s l = 30) : owed c s = 0 := by
  unfold owed
  refine Finset.sum_eq_zero fun l _ => ?_
  rw [h l, Finset.Ico_self, Finset.sum_empty]

/-- A wait at level `b` is allowed while every transfer still owed lies above it. -/
theorem mayWait_owed (c : Dev nD) (s : Lane → ℕ) (sm : SemLoc sig) (ι b : ℕ) (hι : ι < 2) (hb : lv ((c : Thread nD τ), sm) ι ≤ b)
    (hs : ∀ l, b < s l + 2) : (levAts L lv : sProp 𝕄) ⊢ MayWait (c : Thread nD τ) sm ι (owed c s) :=
  MayOwe.of_cut (L := L) (lev := lv) b (fun p hp => by rw [Finset.mem_singleton.mp hp]; exact mem_L c sm ι hι)
    (fun g u hg => by
      obtain ⟨l, i, -, hi, rfl, rfl⟩ := owed_pos hg
      exact mem_L _ _ _ (by omega))
    (fun p hp => by rw [Finset.mem_singleton.mp hp]; exact hb)
    (fun g u hg => by
      obtain ⟨l, i, hi, -, rfl, rfl⟩ := owed_pos hg
      rw [lv_r]; have := hs l; omega)

end Cert.KernelIdeal.Ring
-- ==== Proof.RunIdeal.Talk.lean ====
/- A lane's holdings, and its three transfer operations: waiting for a receive, sending, waiting for a send. -/
module

public import proofs.«01_k».proof.Proof.RunIdeal.Protocol
public import Idealize.SL.BI.BigOpNat

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

abbrev 𝒱₀ : Variants := Variants.none
/-- A program of device `c` run to `Q`. -/
abbrev run {α : Type} (c : Dev nD) (p : Act F α) (Q : α → sProp 𝕄) : sProp 𝕄 :=
  wp frame (wpE (defs₀ (F := F)) 𝒱₀ (c : Thread nD τ) none) Set.univ p Q

/-! ## The cells of the protocol, and what every device may consult -/

def barEmb : Dev nD ↪ GSem nD τ sig := ⟨fun c => barCell c, fun _ _ h => congrArg (fun g : GSem nD τ sig => g.1.1) h⟩
/-- A transfer cell's semaphore. -/
def osem (k : Bool × Lane × Fin 15) : SemLoc sig := .dma (if k.1 then rsem k.2.1.1 k.2.1.2 k.2.2 else ssem k.2.1.1 k.2.1.2 k.2.2)
theorem dec_osem (k : Bool × Lane × Fin 15) : dec (osem k) = some k := by
  obtain ⟨b, l, h⟩ := k
  cases b
  · exact dec_s l h
  · exact dec_r l h
theorem osem_inj : Function.Injective osem := fun a b h => Option.some.inj (by rw [← dec_osem a, ← dec_osem b, h])
def scEmb : Dev nD × (Bool × Lane × Fin 15) ↪ GSem nD τ sig :=
  ⟨fun ck => ((ck.1 : Thread nD τ), osem ck.2), fun _ _ h =>
    Prod.ext (congrArg (fun g : GSem nD τ sig => g.1.1) h) (osem_inj (congrArg Prod.snd h))⟩
def barCells : Finset (GSem nD τ sig) := Finset.univ.map barEmb
def scCells : Finset (GSem nD τ sig) := Finset.univ.map scEmb

theorem bar_mem (c : Dev nD) : barCell c ∈ barCells ∪ scCells :=
  Finset.mem_union_left _ (Finset.mem_map_of_mem barEmb (Finset.mem_univ c))
theorem s_mem (c : Dev nD) (l : Lane) (h : Fin 15) : scell c l h ∈ barCells ∪ scCells :=
  Finset.mem_union_right _ (Finset.mem_map_of_mem scEmb (Finset.mem_univ (c, (false, l, h))))
theorem r_mem (c : Dev nD) (l : Lane) (h : Fin 15) : rcell c l h ∈ barCells ∪ scCells :=
  Finset.mem_union_right _ (Finset.mem_map_of_mem scEmb (Finset.mem_univ (c, (true, l, h))))

variable (P : Parts F)

/-- Every cell's invariant, and the levels. -/
def Ctx (K : GSem nD τ sig → ℕ) : sProp 𝕄 :=
  iprop((bigSep (barCells ∪ scCells) fun g => cellInv ER (Rd P) (K g) g) ∗ levAts L lv)
instance Ctx_persistent (K : GSem nD τ sig → ℕ) : BI.Persistent (Ctx P K) := by unfold Ctx; infer_instance
theorem Ctx_inv (K : GSem nD τ sig → ℕ) {g : GSem nD τ sig} (hg : g ∈ barCells ∪ scCells) : Ctx P K ⊢ cellInv ER (Rd P) (K g) g := by
  have h := bigSep_elim (Φ := fun g => cellInv ER (Rd P) (K g) g) hg
  exact (BI.sep_and.trans and_elimL).trans h
theorem Ctx_may (K : GSem nD τ sig → ℕ) (c : Dev nD) (s : Lane → ℕ) (sm : SemLoc sig) (ι b : ℕ) (hι : ι < 2) (hb : lv ((c : Thread nD τ), sm) ι ≤ b)
    (hs : ∀ l, b < s l + 2) : Ctx P K ⊢ MayWait (c : Thread nD τ) sm ι (owed c s) :=
  (BI.sep_and.trans and_elimR).trans (mayWait_owed (F := F) c s sm ι b hι hb hs)

/-! ## The parts of a lane's holdings -/

/-- The position on a cell at the start of a round. -/
def Atp (g : GSem nD τ sig) (R : ℕ) : sProp 𝕄 := iprop(atPos ER g R ∅ 0 ∗ reached ER g R)

section Pieces
variable (c : Dev nD) (l : Lane)

/-- The right to make transfers `s` on; -/
def Toks (s : ℕ) : sProp 𝕄 := bigSep (Finset.Ico s 30) fun i =>
  iprop(dutyTok ER (scell c l (hop i)) (i / 15) true ∗ dutyTok ER (rcell (succ l.1 c) l (hop i)) (i / 15) true)
/-- credit for the sends made and not waited for; -/
def SCr (w s : ℕ) : sProp 𝕄 := bigSep (Finset.Ico w s) fun i => cred (tallyAt (scell c l (hop i)) (i / 15) N)
/-- credit for the receives to come; -/
def RCr (r : ℕ) : sProp 𝕄 := bigSep (Finset.Ico r 30) fun i => cred (tallyAt (rcell c l (hop i)) (i / 15) N)
/-- the positions on the send cells and on the receive cells; -/
def SAt (w : ℕ) : sProp 𝕄 := bigSep (Finset.Ico w (w + 15)) fun i => Atp (scell c l (hop i)) (i / 15)
def RAt (r : ℕ) : sProp 𝕄 := bigSep (Finset.Ico r (r + 15)) fun i => Atp (rcell c l (hop i)) (i / 15)
/-- the neighbour's slots for transfers `a` to `b`; -/
def Dsts (a b : ℕ) : sProp 𝕄 := bigSep (Finset.Ico a b) fun i => Dst c l i
/-- own chunk-buffer slots that the other neighbour will be given for its transfers `a` to `b`; -/
def Grs (a b : ℕ) : sProp 𝕄 := bigSep (Finset.Ico a b) fun i => iprop(∃ f, agAt l.1 c l.2 (bk l.1 c (i + 1)) fullShare f)
/-- free send-buffer slots; -/
def Stg (a b : ℕ) : sProp 𝕄 := bigSep (Finset.Ico a b) fun i => iprop(∃ f, stAt l.1 c l.2 (par i) fullShare f)
/-- own chunk-buffer slots of the all-gather, whole; -/
def Ful (a b : ℕ) : sProp 𝕄 := bigSep (Finset.Ico a b) fun i => iprop(∃ f, agAt l.1 c l.2 (bk l.1 c i) fullShare f)
/-- the half of a sent slot that stays, and the half that comes back. -/
def Kep (b : ℕ) : sProp 𝕄 := bigSep (Finset.Ico 15 b) fun i => agAt l.1 c l.2 (bk l.1 c i) halfR (agW l.1 c (wv P l.1 i c))
def Bak (b : ℕ) : sProp 𝕄 := bigSep (Finset.Ico 15 b) fun i => agAt l.1 c l.2 (bk l.1 c i) halfL (agW l.1 c (wv P l.1 i c))

end Pieces

/-- The debts, at whatever waits are on record. -/
def Owe (c : Dev nD) (s : Lane → ℕ) : sProp 𝕄 := iprop(∃ W, owes (c : Thread nD τ) (owed c s) W)

/-- A range of sends on send cells gives that their rounds are reached. -/
theorem SAt_reached (c : Dev nD) (l : Lane) (w i : ℕ) (h1 : w ≤ i) (h2 : i < w + 15) :
    (SAt (F := F) c l w) ⊢ iprop(SAt (F := F) c l w ∗ reached ER (scell c l (hop i)) (i / 15)) := by
  have e : (SAt (F := F) c l w) = iprop(Atp (scell c l (hop i)) (i / 15) ∗ bigSep ((Finset.Ico w (w + 15)).erase i) fun i => Atp (scell c l (hop i)) (i / 15)) :=
    bigSep_erase (Finset.mem_Ico.mpr ⟨h1, h2⟩)
  rw [e]
  unfold Atp
  iintro ⟨⟨Ha, #Hr⟩, H⟩
  isplitl [Ha H]
  · isplitl [Ha]
    · isplitl [Ha]; · iexact Ha
      iexact Hr
    iexact H
  iexact Hr
theorem RAt_reached (c : Dev nD) (l : Lane) (r a b : ℕ) (h1 : r ≤ a) (h2 : b ≤ r + 15) :
    (RAt (F := F) c l r) ⊢ iprop(RAt (F := F) c l r ∗ bigSep (Finset.Ico a b) fun i => reached ER (rcell c l (hop i)) (i / 15)) := by
  have e (i : ℕ) : (Atp (rcell c l (hop i)) (i / 15) : sProp 𝕄) ⊢ iprop(Atp (rcell c l (hop i)) (i / 15) ∗ reached ER (rcell c l (hop i)) (i / 15)) := by
    unfold Atp
    iintro ⟨Ha, #Hr⟩
    isplitl [Ha]
    · isplitl [Ha]; · iexact Ha
      iexact Hr
    iexact Hr
  unfold RAt
  have e2 : (bigSep (Finset.Ico r (r + 15)) fun i => (Atp (rcell c l (hop i)) (i / 15) : sProp 𝕄))
      ⊢ bigSep (Finset.Ico r (r + 15)) fun i => iprop(Atp (rcell c l (hop i)) (i / 15) ∗ reached ER (rcell c l (hop i)) (i / 15)) :=
    bigSep_mono fun i _ => e i
  refine e2.trans ?_
  rw [bigSep_sep']
  refine sep_mono_r ?_
  exact bigSep_subset (fun i hi => Finset.mem_Ico.mpr ⟨h1.trans (Finset.mem_Ico.mp hi).1, lt_of_lt_of_le (Finset.mem_Ico.mp hi).2 h2⟩)

/-! ## The operations -/

variable (K : GSem nD τ sig → ℕ)

/-- Wait for receive `i`: what the sender paid comes back. -/
theorem wait_recv (c : Dev nD) (l : Lane) (i : ℕ) (hi : i < 30) (s : Lane → ℕ) (hs : ∀ l', i < s l') {src dst : Memref sig .tc .vmem S128x256 .bf16}
    (hsrc : src.view.WordExact) (hdst : dst.view.WordExact) {α : Type} (k : PUnit → Act F α) (Q : α → sProp 𝕄) :
    iprop(Ctx P K ∗ RCr (F := F) c l i ∗ RAt (F := F) c l i ∗ Owe (F := F) c s)
      ⊢ iprop((RCr (F := F) c l (i + 1) ∗ RAt (F := F) c l (i + 1) ∗ Owe (F := F) c s ∗ recvPay P c l i -∗ run c (k ⟨⟩) Q)
        -∗ run c (Prog.lift (.waitDma2 (rsem l.1 l.2 (hop i)) src dst hsrc hdst) >>= k) Q) := by
  show _ ⊢ iprop(_ -∗ run c (.op (.waitDma2 (rsem l.1 l.2 (hop i)) src dst hsrc hdst) k) Q)
  have e15 : hop (i + 15) = hop i := Fin.ext (by show (i + 15) % 15 = i % 15; omega)
  have e15' : (i + 15) / 15 = i / 15 + 1 := by omega
  unfold RCr RAt Owe
  rw [bigSep_Ico_succ_bot hi, bigSep_Ico_succ_bot (show i < i + 15 by omega), show i + 1 + 15 = (i + 15) + 1 by omega,
    bigSep_Ico_succ_top (show i + 1 ≤ i + 15 by omega), e15, e15']
  iintro ⟨#HC, ⟨Hc, HR⟩, ⟨Ha, HA⟩, ⟨%W, HO⟩⟩ Hk
  unfold Atp
  icases Ha with ⟨Ha, -⟩
  iapply (Rounds.wp_wait_rest_token 𝒱₀ ER (Rd P) (c : Thread nD τ) none (κ := K (rcell c l (hop i)))
      (k' := N) (fun K' => (wpE_waitDma2_eq 𝒱₀ (c : Thread nD τ) none Set.univ K').trans (by rw [credit_eq dst])) (Set.mem_univ _) (i / 15) (O := owed c s) (W := W) (R := i / 15) (m := 0) (T := ∅)
      ((Nat.zero_add _).trans (expect_r P c l i hi).symm)) $$ [Hc HO Ha]
  · isplitr; · iapply (Ctx_inv P K (r_mem c l (hop i))); iexact HC
    isplitl [Hc]; · iexact Hc
    isplitl [HO]; · iexact HO
    isplitr
    · iapply (Ctx_may P K c s _ (i / 15) (i + 2) (by omega) (le_of_eq (lv_r c l i)) (fun l' => by have := hs l'; omega))
      iexact HC
    iexact Ha
  iintro ⟨HO, Ha, #Hr, Hp⟩
  ihave Hp := (Entails.of_eq (rest_r P c l i hi)) $$ Hp
  iapply Hk
  isplitl [HR]; · iexact HR
  isplitl [Ha HA]
  · isplitl [Ha]
    · isplitl [Ha]; · iexact Ha
      iexact Hr
    iexact HA
  isplitl [HO]; · iexists _; iexact HO
  iexact Hp

/-- Wait for send `i` to have left. -/
theorem wait_send (c : Dev nD) (l : Lane) (i z : ℕ) (hi : i < z) (hz : z ≤ 30) (s : Lane → ℕ) {src dst : Memref sig .tc .vmem S128x256 .bf16}
    (hsrc : src.view.WordExact) (hdst : dst.view.WordExact) {α : Type} (k : PUnit → Act F α) (Q : α → sProp 𝕄) :
    iprop(Ctx P K ∗ SCr (F := F) c l i z ∗ SAt (F := F) c l i ∗ Owe (F := F) c s)
      ⊢ iprop((SCr (F := F) c l (i + 1) z ∗ SAt (F := F) c l (i + 1) ∗ Owe (F := F) c s ∗ sendPay P c l i -∗ run c (k ⟨⟩) Q)
        -∗ run c (Prog.lift (.waitDma2 (ssem l.1 l.2 (hop i)) src dst hsrc hdst) >>= k) Q) := by
  show _ ⊢ iprop(_ -∗ run c (.op (.waitDma2 (ssem l.1 l.2 (hop i)) src dst hsrc hdst) k) Q)
  have e15 : hop (i + 15) = hop i := Fin.ext (by show (i + 15) % 15 = i % 15; omega)
  have e15' : (i + 15) / 15 = i / 15 + 1 := by omega
  unfold SCr SAt Owe
  rw [bigSep_Ico_succ_bot hi, bigSep_Ico_succ_bot (show i < i + 15 by omega), show i + 1 + 15 = (i + 15) + 1 by omega,
    bigSep_Ico_succ_top (show i + 1 ≤ i + 15 by omega), e15, e15']
  iintro ⟨#HC, ⟨Hc, HR⟩, ⟨Ha, HA⟩, ⟨%W, HO⟩⟩ Hk
  unfold Atp
  icases Ha with ⟨Ha, -⟩
  iapply (Rounds.wp_wait_rest_token 𝒱₀ ER (Rd P) (c : Thread nD τ) none (κ := K (scell c l (hop i)))
      (k' := N) (fun K' => (wpE_waitDma2_eq 𝒱₀ (c : Thread nD τ) none Set.univ K').trans (by rw [credit_eq dst])) (Set.mem_univ _) (i / 15) (O := owed c s) (W := W) (R := i / 15) (m := 0) (T := ∅)
      ((Nat.zero_add _).trans (expect_s P c l i (by omega)).symm)) $$ [Hc HO Ha]
  · isplitr; · iapply (Ctx_inv P K (s_mem c l (hop i))); iexact HC
    isplitl [Hc]; · iexact Hc
    isplitl [HO]; · iexact HO
    isplitr
    · iapply (Ctx_may P K c s _ (i / 15) 0 (by omega) (le_of_eq (lv_s c l (hop i) _)) (fun l' => by omega))
      iexact HC
    iexact Ha
  iintro ⟨HO, Ha, #Hr, Hp⟩
  ihave Hp := (Entails.of_eq (rest_s P c l i (by omega))) $$ Hp
  iapply Hk
  isplitl [HR]; · iexact HR
  isplitl [Ha HA]
  · isplitl [Ha]
    · isplitl [Ha]; · iexact Ha
      iexact Hr
    iexact HA
  isplitl [HO]; · iexists _; iexact HO
  iexact Hp

/-- What transfer `i` hands over of the other lane's slots. -/
abbrev Ext (c : Dev nD) (l : Lane) (i : ℕ) : sProp 𝕄 := bigSep (ext i) fun i' => Dst (succ l.1 c) (opp l) i'

/-- Transfer `i`, from a window that holds what it carries. -/
theorem send_any (c : Dev nD) (l : Lane) (i w : ℕ) (hi : i < 30) (hw : w ≤ i) (s : Lane → ℕ) (hs : s l = i)
    {src dst : Memref sig .tc .vmem S128x256 .bf16} (hsrc : src.view.WordExact) (hdst : dst.view.WordExact)
    {q : PosShare TreeShare} {fs : Buf (Elt F) (src.view.loc (c : Thread nD τ))} {fd : Buf (Elt F) (dst.view.loc ((succ l.1 c : Dev nD) : Thread nD τ))}
    (hp1 : (src.view.loc (c : Thread nD τ) ↦[src.view.set]{q} fs) ⊢ sendPay P c l i)
    (hp2 : (dst.view.loc ((succ l.1 c : Dev nD) : Thread nD τ) ↦[dst.view.set]{fullShare} (dst.view.write (Elt F) fd (src.view.read (Elt F) fs) Finset.univ))
      ⊢ agAt l.1 (succ l.1 c) l.2 (bk l.1 (succ l.1 c) (i + 1)) fullShare (agW l.1 (succ l.1 c) (wv P l.1 i c)))
    {α : Type} (k : PUnit → Act F α) (Q : α → sProp 𝕄) :
    iprop(Ctx P K ∗ (src.view.loc (c : Thread nD τ) ↦[src.view.set]{q} fs)
        ∗ (dst.view.loc ((succ l.1 c : Dev nD) : Thread nD τ) ↦[dst.view.set]{fullShare} fd)
        ∗ reached ER (rcell (succ l.1 c) l (hop i)) (i / 15) ∗ reached ER (scell c l (hop i)) (i / 15)
        ∗ Ext (F := F) c l i ∗ Toks (F := F) c l i ∗ SCr (F := F) c l w i ∗ Owe (F := F) c s)
      ⊢ iprop((Toks (F := F) c l (i + 1) ∗ SCr (F := F) c l w (i + 1) ∗ Owe (F := F) c (Function.update s l (i + 1)) -∗ run c (k ⟨⟩) Q)
        -∗ run c (send l.1 l.2 (hop i) c src dst hsrc hdst >>= k) Q) := by
  unfold send
  show _ ⊢ iprop(_ -∗ run c (.op (.enqueueDma src (.remote (Dev.tc (succ l.1 c)) dst (.dma (ssem l.1 l.2 (hop i)))) (.dma (rsem l.1 l.2 (hop i))) hsrc hdst ⟨⟨rfl, Or.inl rfl⟩, trivial⟩) k) Q)
  unfold Toks SCr Owe
  rw [bigSep_Ico_succ_bot hi, bigSep_Ico_succ_top hw]
  iintro ⟨#HC, Hsrc, Hdst, Hr, Hs, HE, ⟨⟨Ht1, Ht2⟩, HT⟩, HCr, ⟨%W, HO⟩⟩ Hk
  iapply (Rounds.wp_send_pointsTo_with 𝒱₀ ER (Rd P) (c : Thread nD τ) none (c' := ((succ l.1 c : Dev nD) : Thread nD τ)) (src := src) (dst := dst)
      (sS := .dma (ssem l.1 l.2 (hop i))) (sem := .dma (rsem l.1 l.2 (hop i))) (q := q) (fs := fs) (κ₁ := K (scell c l (hop i))) (κ₂ := K (rcell (succ l.1 c) l (hop i)))
      (r₁ := i / 15) (r₂ := i / 15) (d₁ := true) (d₂ := true) (fd := fd) (F := Ext (F := F) c l i)
      (by rw [duties_s P c l i hi]; exact Finset.mem_singleton_self _) (by rw [duties_r P (succ l.1 c) l i hi]; exact Finset.mem_singleton_self _)
      (i / 15) (i / 15) N rfl (amount_s P c l (hop i) _ _) (amount_r P (succ l.1 c) l (hop i) _ _) (owed c (Function.update s l (i + 1)))
      (by rw [owed_step c s l (by omega), hs]; rfl) (O₀ := owed c s) (W := W)
      (by rw [payload_s]; exact hp1)
      (by
        rw [payload_r]; unfold recvPay; rw [succ_succ']
        exact sep_mono_l hp2)) $$ [Hsrc Hdst Hr Hs HE Ht1 Ht2 HO]
  · isplitr; · iapply (Ctx_inv P K (s_mem c l (hop i))); iexact HC
    isplitr; · iapply (Ctx_inv P K (r_mem (succ l.1 c) l (hop i))); iexact HC
    isplitl [Hsrc]; · iexact Hsrc
    isplitl [Hdst HE]
    · isplitl [Hdst]; · iexact Hdst
      iexact HE
    isplitl [HO]; · iexact HO
    isplitl [Ht1]; · iexact Ht1
    isplitl [Hs]; · iexact Hs
    isplitl [Ht2]; · iexact Ht2
    iexact Hr
  iintro ⟨Hc, HO⟩
  iapply Hk
  isplitl [HT]; · iexact HT
  isplitl [Hc HCr]
  · isplitl [Hc]; · iexact Hc
    iexact HCr
  iexists W; iexact HO

end Cert.KernelIdeal.Ring
-- ==== Proof.RunIdeal.Mem.lean ====
/- What a device's loads and stores do: reads of the partial product and of chunk-buffer slots, writes to the send
   buffer and to the result, and the two stores that fill a whole chunk's row of slots at once. -/
module

public import proofs.«01_k».proof.Proof.RunIdeal.Talk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- The partial product's buffer, and the result's. -/
abbrev pAt (c : Dev nD) (f : Mat F) : sProp 𝕄 := pM.view.loc (c : Thread nD τ) ↦{fullShare} f
abbrev oAt (c : Dev nD) (f : Mat F) : sProp 𝕄 := oM.view.loc (c : Thread nD τ) ↦{fullShare} f

/-! ## Blocks of columns -/

/-- A block of columns of a matrix, at chunk `k`; of contents by row and column; and the same shaped for a slot. -/
def blk (δ : Bool) (j : Fin 4) (k : Fin 16) (f : Mat F) : Vec F S128x256 .f32 := fun y => f (ix δ k (y 0) (colIn j (y 1)))
def blkA (j : Fin 4) (a : Fin 128 → Fin 1024 → Elt F .f32) : FVec F S128x256 .f32 := fun y => a (y 0) (colIn j (y 1))
def blkW (j : Fin 4) (w : Wire F) : Vec F S1x128x256 .bf16 := fun x => w (x 1) (colIn j (x 2))
/-- A whole chunk's row. -/
def row (δ : Bool) (k : Fin 16) (f : Mat F) : Vec F S128x1024 .f32 := fun y => f (ix δ k (y 0) (y 1))

theorem cast_slot (g : Vec F S1x128x256 .bf16) (y : S128x256.Idx) :
    (shapeCast S128x256 g shapeCasts_S1x128x256_S128x256) y = g (Fin.cons ⟨0, Nat.one_pos⟩ y) := by
  show g (Shape.reshapeEquiv _ y) = _
  rw [reshape_cons]
theorem cast_id (p : Vec F S128x256 .f32) : shapeCast S128x256 p shapeCasts_S128x256_S128x256 = p := by
  funext y
  show p (Shape.reshapeEquiv _ y) = p y
  rw [Shape.reshapeEquiv_self]
theorem tmpV_eq (P : Parts F) (δ : Bool) (j : Fin 4) (i : ℕ) (c : Dev nD) :
    tmpV (blk δ j (bk δ c (i + 1)) (P c)) (blkW j (wv P δ i (succ (!δ) c))) = blkA j (acc P δ i c) := by
  funext y
  unfold tmpV
  rw [cast_id]
  show plus _ (widen _) = _
  rw [cast_slot]
  rfl
theorem drop_one {d : Fin 2 → ℕ} (h : (⟨2, d⟩ : Shape).numel = (⟨3, Matrix.vecCons 1 d⟩ : Shape).numel) (x : (⟨3, Matrix.vecCons 1 d⟩ : Shape).Idx) :
    Shape.reshapeEquiv h.symm x = fun a : Fin 2 => x a.succ := by
  have e := Shape.reshapeEquiv_cons_one (n := 2) (d := d) h (fun a => x a.succ)
  have e2 : (Fin.cons ⟨0, Nat.one_pos⟩ (fun a : Fin 2 => x a.succ) : (⟨3, Matrix.vecCons 1 d⟩ : Shape).Idx) = x := by
    funext a
    refine Fin.cases ?_ (fun a => ?_) a
    · exact Fin.ext (by have h0 : (x 0).val < 1 := (x 0).isLt; show 0 = (x 0).val; omega)
    · rfl
  refine (Shape.reshapeEquiv h).injective ?_
  rw [e, e2, Shape.reshapeEquiv_reshapeEquiv, Shape.reshapeEquiv_self]
theorem wireV_eq (j : Fin 4) (a : Fin 128 → Fin 1024 → Elt F .f32) : wireV (blkA j a) = blkW j (fun r q => narrow (a r q)) := by
  funext x
  show narrow (blkA j a (Shape.reshapeEquiv _ x)) = _
  rw [drop_one (d := ![128, 256]) shapeCasts_S1x128x256_S128x256]
  rfl
theorem wire0V_eq (p : Vec F S128x1024 .f32) : wire0V p = fun x : S1x128x1024.Idx => narrow (p (Fin.cons (x 1) (Fin.cons (x 2) finZeroElim))) := by
  funext x
  show narrow (shapeCast S128x1024 p shapeCasts_S128x1024_S128x1024 (Shape.reshapeEquiv _ x)) = _
  show narrow (p (Shape.reshapeEquiv _ (Shape.reshapeEquiv _ x))) = _
  rw [Shape.reshapeEquiv_self, drop_one (d := ![128, 1024]) shapeCasts_S128x1024_S1x128x1024.symm]
  congr 2
  funext a
  match a with
  | 0 => rfl
  | 1 => rfl
theorem outV_eq (j : Fin 4) (w : Wire F) : outV (blkW j w) = blkA j fun r q => widen (w r q) := by
  funext y
  show widen _ = _
  rw [cast_slot]
  rfl

/-! ## The result, by chunk and column -/

theorem ix_inj {δ δ' : Bool} {k k' : Fin 16} {r r' : Fin 128} {q q' : Fin 1024} (h : ix δ k r q = ix δ' k' r' q') :
    δ = δ' ∧ k = k' ∧ r = r' ∧ q = q' := by
  have h0 : 128 * k.val + r.val = 128 * k'.val + r'.val := congrArg (fun x : S2048x2048.Idx => (x 0).val) h
  have h1 : colOf δ + q.val = colOf δ' + q'.val := congrArg (fun x : S2048x2048.Idx => (x 1).val) h
  have hk : k = k' := Fin.ext (by omega)
  have hr : r = r' := Fin.ext (by omega)
  cases δ <;> cases δ' <;> simp only [colOf] at h1
  · exact ⟨rfl, hk, hr, Fin.ext (by omega)⟩
  · omega
  · omega
  · exact ⟨rfl, hk, hr, Fin.ext (by omega)⟩
theorem ix_surj (x : S2048x2048.Idx) : ∃ δ k r j q, ix δ k r (colIn j q) = x := by
  have h0 : (x 0).val < 2048 := (x 0).isLt
  have h1 : (x 1).val < 2048 := (x 1).isLt
  refine ⟨decide ((x 1).val < 1024), ⟨(x 0).val / 128, by omega⟩, ⟨(x 0).val % 128, Nat.mod_lt _ (by decide)⟩,
    ⟨(x 1).val % 1024 / 256, by omega⟩, ⟨(x 1).val % 256, Nat.mod_lt _ (by decide)⟩, ?_⟩
  funext a
  apply Fin.ext
  match a with
  | 0 => show 128 * ((x 0).val / 128) + (x 0).val % 128 = (x 0).val; omega
  | 1 =>
    show colOf (decide ((x 1).val < 1024)) + (256 * ((x 1).val % 1024 / 256) + (x 1).val % 256) = (x 1).val
    by_cases h : (x 1).val < 1024
    · rw [decide_eq_true h]; simp only [colOf]; omega
    · rw [decide_eq_false h]; simp only [colOf]; omega

theorem poR_emb (δ : Bool) (j : Fin 4) (c : Dev nD) (n : Fin 16) (y : S128x256.Idx) :
    (poR δ j c n).emb y = ix δ (bk δ c n.val) (y 0) (colIn j (y 1)) := by
  funext a
  apply Fin.ext
  have e := congrFun (offPO_eq δ j c n)
  match a with
  | 0 => show offPO δ j c n.val 0 + 1 * (y 0).val = 128 * back δ c n.val + (y 0).val; rw [e 0]; show 128 * back δ c n.val + _ = _; omega
  | 1 => show offPO δ j c n.val 1 + 1 * (y 1).val = colOf δ + (256 * j.val + (y 1).val); rw [e 1]; show colOf δ + 256 * j.val + _ = _; omega

/-- The result after a block of columns is stored. -/
def putAt (δ : Bool) (j : Fin 4) (c : Dev nD) (n : Fin 16) (f : Mat F) (v : FVec F S128x256 .f32) : Mat F :=
  (oM.access (poR δ j c n)).write (Elt F) f v Finset.univ
theorem putAt_in (δ : Bool) (j : Fin 4) (c : Dev nD) (n : Fin 16) (f : Mat F) (a : Fin 128 → Fin 1024 → Elt F .f32) (r : Fin 128) (q : Fin 256) :
    putAt δ j c n f (blkA j a) (ix δ (bk δ c n.val) r (colIn j q)) = a r (colIn j q) := by
  have h := View.read_slice_write_emb (Val := Elt F) (v := oM.view) (poR δ j c n) f (blkA j a) (x := Fin.cons r (Fin.cons q finZeroElim)) (Finset.mem_univ _)
  rw [poR_emb] at h
  exact h
theorem putAt_out (δ : Bool) (j : Fin 4) (c : Dev nD) (n : Fin 16) (f : Mat F) (v : FVec F S128x256 .f32) (δ' : Bool) (j' : Fin 4) (k : Fin 16) (r : Fin 128)
    (q : Fin 256) (hne : (δ', j', k) ≠ (δ, j, bk δ c n.val)) : putAt δ j c n f v (ix δ' k r (colIn j' q)) = f (ix δ' k r (colIn j' q)) := by
  refine View.read_slice_write_of_not_mem (Val := Elt F) (v := oM.view) (poR δ j c n) f v Finset.univ (y := ix δ' k r (colIn j' q)) ?_
  intro hm
  obtain ⟨y, -, hy⟩ := Finset.mem_map.mp hm
  rw [poR_emb] at hy
  obtain ⟨h1, h2, -, h4⟩ := ix_inj hy
  have h4 : 256 * j.val + (y 1).val = 256 * j'.val + q.val := congrArg Fin.val h4
  have hy1 : (y 1).val < 256 := (y 1).isLt
  subst h1
  exact hne (by rw [← h2, show j' = j from Fin.ext (by omega)])

/-! ## Loads and stores of a block -/

section Ops
variable (δ : Bool) (j : Fin 4) (c : Dev nD)

theorem getP_spec (n : Fin 16) (f : Mat F) {α : Type} (k : Vec F S128x256 .f32 → Act F α) (Q : α → sProp 𝕄) :
    pAt c f ⊢ iprop((pAt c f -∗ run c (k (blk δ j (bk δ c n.val) f)) Q) -∗ run c (getP δ j n c >>= k) Q) := by
  have e : (pM.access (poR δ j c n)).read (Elt F) f = blk δ j (bk δ c n.val) f := by
    funext y
    show f ((poR δ j c n).emb y) = _
    rw [poR_emb]; rfl
  rw [← e]
  exact wp_load_rect 𝒱₀ (c : Thread nD τ) none Set.univ (m := pM) (r := poR δ j c n) (Finset.subset_univ _)

theorem getG_spec (n : Fin 16) (q : PosShare TreeShare) (w : Wire F) {α : Type} (k : Vec F S1x128x256 .bf16 → Act F α) (Q : α → sProp 𝕄) :
    agAt δ c j (bk δ c n.val) q (agW δ c w)
      ⊢ iprop((agAt δ c j (bk δ c n.val) q (agW δ c w) -∗ run c (k (blkW j w)) Q) -∗ run c (getG δ j n c >>= k) Q) := by
  have e : ((agM δ).access (getR δ j c n)).read (Elt F) (agW δ c w) = blkW j w := by
    funext y
    show (agM δ).view.read (Elt F) (agW δ c w) ((getR δ j c n).emb y) = _
    rw [agW, agF_read]
    have e := congrFun (offGet_eq δ j c n)
    unfold blkW
    congr 1 <;> apply Fin.ext
    · show offGet δ j c n.val 1 + 1 * (y 1).val = (y 1).val; rw [e 1]; show 0 + _ = _; omega
    · show offGet δ j c n.val 2 + 1 * (y 2).val = 256 * j.val + (y 2).val; rw [e 2]; show 256 * j.val + _ = _; omega
  rw [← e]
  refine wp_load_rect 𝒱₀ (c : Thread nD τ) none Set.univ (m := agM δ) (r := getR δ j c n) ?_
  rw [View.set_slice, getR_eq]; exact Finset.Subset.refl _

theorem putO_spec (n : Fin 16) (f : Mat F) (v : FVec F S128x256 .f32) {α : Type} (k : PUnit → Act F α) (Q : α → sProp 𝕄) :
    oAt c f ⊢ iprop((oAt c (putAt δ j c n f v) -∗ run c (k ⟨⟩) Q) -∗ run c (putO δ j n c v >>= k) Q) := by
  iintro H Hk
  iapply (wp_load_rect 𝒱₀ (c : Thread nD τ) none Set.univ (m := oM) (r := poR δ j c n) (Finset.subset_univ _)) $$ [H]
  · iexact H
  iintro H
  iapply (wp_store 𝒱₀ (c : Thread nD τ) none Set.univ (m := oM) (r := poR δ j c n) (Finset.subset_univ _)) $$ [H]
  · iexact H
  iexact Hk

theorem putS_spec (b : Fin 2) (w : Wire F) {α : Type} (k : PUnit → Act F α) (Q : α → sProp 𝕄) :
    (iprop(∃ f, stAt δ c j b fullShare f) : sProp 𝕄)
      ⊢ iprop((stAt δ c j b fullShare (stW δ c w) -∗ run c (k ⟨⟩) Q) -∗ run c (putS δ j b (blkW j w) >>= k) Q) := by
  have hset : ((stM δ).access (stR j b)).set = stSet δ j b := View.set_slice _ _
  have e : ((stM δ).access (stR j b)).read (Elt F) (stW δ c w) = blkW j w := by
    funext y
    show (stM δ).view.read (Elt F) (stW δ c w) ((stR j b).emb y) = _
    rw [stW, stF_read]
    unfold blkW
    congr 1 <;> apply Fin.ext
    · show 0 + 1 * (y 1).val = (y 1).val; omega
    · show 256 * j.val + 1 * (y 2).val = 256 * j.val + (y 2).val; omega
  iintro ⟨%f, H⟩ Hk
  iapply (wp_load_rect 𝒱₀ (c : Thread nD τ) none Set.univ (m := stM δ) (r := stR j b) (Finset.subset_of_eq hset)) $$ [H]
  · iexact H
  iintro H
  iapply (wp_store 𝒱₀ (c : Thread nD τ) none Set.univ (m := stM δ) (r := stR j b) (Finset.subset_of_eq hset)) $$ [H]
  · iexact H
  iintro H
  iapply Hk
  have h := view_write_congr ((stM δ).access (stR j b)) f (stW δ c w) _ e
  rw [hset] at h
  iapply (Entails.of_eq (pointsTo_congr h))
  iexact H

end Ops

/-! ## A chunk's whole row of slots -/

abbrev stRow : Rect S2x128x1024 := Rect.unit (s := S2x128x1024) ![0, 0, 0] S1x128x1024.size inb_S2x128x1024_S1x128x1024_0_0_0
abbrev agRow (δ : Bool) (c : Dev nD) : Rect S16x128x1024 := Rect.unit (s := S16x128x1024) (offG1 δ c) S1x128x1024.size (offG1_inb δ c)
theorem mem_stRow {x : S2x128x1024.Idx} : x ∈ stRow.set ↔ (x 0).val = 0 := by
  rw [Rect.mem_set_unit]
  have h1 : (x 1).val < 128 := (x 1).isLt
  have h2 : (x 2).val < 1024 := (x 2).isLt
  constructor
  · intro h
    have h0 : 0 ≤ (x 0).val ∧ (x 0).val < 0 + 1 := h 0
    omega
  · intro h a
    match a with
    | 0 => show 0 ≤ (x 0).val ∧ (x 0).val < 0 + 1; omega
    | 1 => show 0 ≤ (x 1).val ∧ (x 1).val < 0 + 128; omega
    | 2 => show 0 ≤ (x 2).val ∧ (x 2).val < 0 + 1024; omega
theorem mem_agRow {δ : Bool} {c : Dev nD} {x : S16x128x1024.Idx} : x ∈ (agRow δ c).set ↔ (x 0).val = (bk δ c 15).val := by
  rw [Rect.mem_set_unit, offG1_eq]
  have h1 : (x 1).val < 128 := (x 1).isLt
  have h2 : (x 2).val < 1024 := (x 2).isLt
  show _ ↔ (x 0).val = back δ c 15
  constructor
  · intro h
    have h0 : back δ c 15 ≤ (x 0).val ∧ (x 0).val < back δ c 15 + 1 := h 0
    omega
  · intro h a
    match a with
    | 0 => show back δ c 15 ≤ (x 0).val ∧ (x 0).val < back δ c 15 + 1; omega
    | 1 => show 0 ≤ (x 1).val ∧ (x 1).val < 0 + 128; omega
    | 2 => show 0 ≤ (x 2).val ∧ (x 2).val < 0 + 1024; omega
theorem stRow_cover (δ : Bool) : (Finset.univ : Finset (Fin 4)).biUnion (fun j => stSet δ j 0) = ((stM δ).access stRow).set := by
  rw [View.set_slice]
  ext i
  obtain ⟨x, rfl⟩ := stM_emb_mem δ i
  have h2 : (x 2).val < 1024 := (x 2).isLt
  simp only [Finset.mem_biUnion, Finset.mem_univ, true_and, stSet]
  rw [Finset.mem_map' (stM δ).view.emb, mem_stRow]
  constructor
  · rintro ⟨j, hj⟩
    rw [Finset.mem_map' (stM δ).view.emb, mem_stR] at hj
    exact hj.1
  · intro h
    refine ⟨⟨(x 2).val / 256, by omega⟩, ?_⟩
    rw [Finset.mem_map' (stM δ).view.emb, mem_stR]
    refine ⟨h, ?_, ?_⟩ <;> dsimp only <;> omega
theorem agRow_cover (δ : Bool) (c : Dev nD) :
    (Finset.univ : Finset (Fin 4)).biUnion (fun j => agSet δ j (bk δ c 15)) = ((agM δ).access (agRow δ c)).set := by
  rw [View.set_slice]
  ext i
  obtain ⟨x, rfl⟩ := agM_emb_mem δ i
  have h2 : (x 2).val < 1024 := (x 2).isLt
  simp only [Finset.mem_biUnion, Finset.mem_univ, true_and, agSet]
  rw [Finset.mem_map' (agM δ).view.emb, mem_agRow]
  constructor
  · rintro ⟨j, hj⟩
    rw [Finset.mem_map' (agM δ).view.emb, mem_agR] at hj
    exact hj.1
  · intro h
    refine ⟨⟨(x 2).val / 256, by omega⟩, ?_⟩
    rw [Finset.mem_map' (agM δ).view.emb, mem_agR]
    refine ⟨h, ?_, ?_⟩ <;> dsimp only <;> omega

theorem ov_first (P : Parts F) (δ : Bool) (c : Dev nD) (r : Fin 128) (q : Fin 1024) : ov P δ 15 c r q = acc P δ 14 c r q := if_pos rfl

section Rows
variable (δ : Bool) (c : Dev nD)

theorem stRow_join : (bigSep Finset.univ fun j : Fin 4 => (iprop(∃ f, stAt δ c j 0 fullShare f) : sProp 𝕄))
    ⊢ iprop(∃ f, (stM δ).view.loc (c : Thread nD τ) ↦[((stM δ).access stRow).set]{fullShare} f) := by
  have hne : Nonempty (Buf (Elt F) ((stM δ).view.loc (c : Thread nD τ))) := ⟨stF δ c fun _ => Classical.choice (Elt.nonempty F _)⟩
  refine (bigSep_exists_pi (Finset.univ : Finset (Fin 4)) (fun j f => stAt δ c j 0 fullShare f)).trans ?_
  iintro ⟨%fs, H⟩
  ihave H := (pointsTo_biUnion_join (Finset.univ : Finset (Fin 4)) (fun j => stSet δ j 0) fs (fs 0)
    (fun j _ j' _ h => stV_disj δ (p := (j, 0)) (p' := (j', 0)) (fun e => h (congrArg Prod.fst e)))) $$ H
  icases H with ⟨%g, -, H⟩
  rw [stRow_cover]
  iexists g; iexact H
theorem stRow_split (f : Buf (Elt F) ((stM δ).view.loc (c : Thread nD τ))) :
    ((stM δ).view.loc (c : Thread nD τ) ↦[((stM δ).access stRow).set]{fullShare} f : sProp 𝕄) = bigSep Finset.univ fun j : Fin 4 => stAt δ c j 0 fullShare f := by
  have h := pointsTo_biUnion (Ix := ℕ) (Name := ℕ) (U := UU) (Lvl := ℕ) (ℓ := (stM δ).view.loc (c : Thread nD τ)) (q := fullShare) (f := f) (Finset.univ : Finset (Fin 4))
    (fun j => stSet δ j 0) (fun j _ j' _ h => stV_disj δ (p := (j, 0)) (p' := (j', 0)) (fun e => h (congrArg Prod.fst e)))
  rw [stRow_cover] at h
  exact h
theorem agRow_join : (bigSep Finset.univ fun j : Fin 4 => (iprop(∃ f, agAt δ c j (bk δ c 15) fullShare f) : sProp 𝕄))
    ⊢ iprop(∃ f, (agM δ).view.loc (c : Thread nD τ) ↦[((agM δ).access (agRow δ c)).set]{fullShare} f) := by
  have hne : Nonempty (Buf (Elt F) ((agM δ).view.loc (c : Thread nD τ))) := ⟨agF δ c fun _ => Classical.choice (Elt.nonempty F _)⟩
  refine (bigSep_exists_pi (Finset.univ : Finset (Fin 4)) (fun j f => agAt δ c j (bk δ c 15) fullShare f)).trans ?_
  iintro ⟨%fs, H⟩
  ihave H := (pointsTo_biUnion_join (Finset.univ : Finset (Fin 4)) (fun j => agSet δ j (bk δ c 15)) fs (fs 0)
    (fun j _ j' _ h => agS_disj δ (p := (j, bk δ c 15)) (p' := (j', bk δ c 15)) (fun e => h (congrArg Prod.fst e)))) $$ H
  icases H with ⟨%g, -, H⟩
  rw [agRow_cover]
  iexists g; iexact H
theorem agRow_split (f : Buf (Elt F) ((agM δ).view.loc (c : Thread nD τ))) :
    ((agM δ).view.loc (c : Thread nD τ) ↦[((agM δ).access (agRow δ c)).set]{fullShare} f : sProp 𝕄)
      = bigSep Finset.univ fun j : Fin 4 => agAt δ c j (bk δ c 15) fullShare f := by
  have h := pointsTo_biUnion (Ix := ℕ) (Name := ℕ) (U := UU) (Lvl := ℕ) (ℓ := (agM δ).view.loc (c : Thread nD τ)) (q := fullShare) (f := f) (Finset.univ : Finset (Fin 4))
    (fun j => agSet δ j (bk δ c 15)) (fun j _ j' _ h => agS_disj δ (p := (j, bk δ c 15)) (p' := (j', bk δ c 15)) (fun e => h (congrArg Prod.fst e)))
  rw [agRow_cover] at h
  exact h

/-- Own chunk to the send buffer: its four slots hold what transfer 0 carries. -/
theorem rsInit_spec (P : Parts F) {α : Type} (k : PUnit → Act F α) (Q : α → sProp 𝕄) :
    iprop(pAt c (P c) ∗ bigSep Finset.univ fun j : Fin 4 => (iprop(∃ f, stAt δ c j 0 fullShare f) : sProp 𝕄))
      ⊢ iprop((pAt c (P c) ∗ (bigSep Finset.univ fun j : Fin 4 => stAt δ c j 0 fullShare (stW δ c (wv P δ 0 c))) -∗ run c (k ⟨⟩) Q)
        -∗ run c (rsInit δ c >>= k) Q) := by
  have ep : (pM.access (Rect.unit (s := S2048x2048) (offP0 δ c) S128x1024.size (offP0_inb δ c))).read (Elt F) (P c) = row δ (bk δ c 0) (P c) := by
    funext y
    refine congrArg (P c) ?_
    funext a
    apply Fin.ext
    have e := congrFun (offP0_eq δ c)
    have hb : back δ c 0 = c.val := by have hc : c.val < 16 := c.isLt; cases δ <;> simp only [back] <;> omega
    match a with
    | 0 => show offP0 δ c 0 + 1 * (y 0).val = 128 * back δ c 0 + (y 0).val; rw [e 0, hb]; show 128 * c.val + _ = _; omega
    | 1 => show offP0 δ c 1 + 1 * (y 1).val = colOf δ + (y 1).val; rw [e 1]; show colOf δ + _ = _; omega
  have ew : ((stM δ).access stRow).read (Elt F) (stW δ c (wv P δ 0 c)) = wire0V (row δ (bk δ c 0) (P c)) := by
    rw [wire0V_eq]
    funext y
    show (stM δ).view.read (Elt F) (stW δ c (wv P δ 0 c)) (stRow.emb y) = _
    rw [stW, stF_read]
    show narrow (P c (ix δ (bk δ c 0) _ _)) = narrow (P c (ix δ (bk δ c 0) (y 1) (y 2)))
    congr 3 <;> apply Fin.ext
    · show 0 + 1 * (y 1).val = (y 1).val; omega
    · show 0 + 1 * (y 2).val = (y 2).val; omega
  iintro ⟨Hp, Hs⟩ Hk
  iapply (wp_load_rect 𝒱₀ (c : Thread nD τ) none Set.univ (m := pM) (r := Rect.unit (s := S2048x2048) (offP0 δ c) S128x1024.size (offP0_inb δ c))
    (Finset.subset_univ _)) $$ [Hp]
  · iexact Hp
  iintro Hp
  rw [ep]
  ihave Hs := (stRow_join δ c) $$ Hs
  icases Hs with ⟨%f, Hs⟩
  iapply (wp_load_rect 𝒱₀ (c : Thread nD τ) none Set.univ (m := stM δ) (r := stRow) (Finset.Subset.refl _)) $$ [Hs]
  · iexact Hs
  iintro Hs
  iapply (wp_store 𝒱₀ (c : Thread nD τ) none Set.univ (m := stM δ) (r := stRow) (Finset.Subset.refl _)) $$ [Hs]
  · iexact Hs
  iintro Hs
  iapply Hk
  isplitl [Hp]; · iexact Hp
  iapply (Entails.of_eq (stRow_split δ c _))
  iapply (Entails.of_eq (pointsTo_congr (view_write_congr ((stM δ).access stRow) f (stW δ c (wv P δ 0 c)) _ ew)))
  iexact Hs

/-- The finished chunk to the chunk buffer: its four slots hold what transfer 15 carries. -/
theorem agInit_spec (P : Parts F) (f : Mat F) (hf : ∀ r q, f (ix δ (bk δ c 15) r q) = ov P δ 15 c r q) {α : Type} (k : PUnit → Act F α) (Q : α → sProp 𝕄) :
    iprop(oAt c f ∗ bigSep Finset.univ fun j : Fin 4 => (iprop(∃ f, agAt δ c j (bk δ c 15) fullShare f) : sProp 𝕄))
      ⊢ iprop((oAt c f ∗ (bigSep Finset.univ fun j : Fin 4 => agAt δ c j (bk δ c 15) fullShare (agW δ c (wv P δ 15 c))) -∗ run c (k ⟨⟩) Q)
        -∗ run c (agInit δ c >>= k) Q) := by
  have ep : (oM.access (Rect.unit (s := S2048x2048) (offO1 δ c) S128x1024.size (offO1_inb δ c))).read (Elt F) f = row δ (bk δ c 15) f := by
    funext y
    refine congrArg f ?_
    funext a
    apply Fin.ext
    have e := congrFun (offO1_eq δ c)
    match a with
    | 0 => show offO1 δ c 0 + 1 * (y 0).val = 128 * back δ c 15 + (y 0).val; rw [e 0]; show 128 * back δ c 15 + _ = _; omega
    | 1 => show offO1 δ c 1 + 1 * (y 1).val = colOf δ + (y 1).val; rw [e 1]; show colOf δ + _ = _; omega
  have ew : ((agM δ).access (agRow δ c)).read (Elt F) (agW δ c (wv P δ 15 c)) = wire0V (row δ (bk δ c 15) f) := by
    rw [wire0V_eq]
    funext y
    show (agM δ).view.read (Elt F) (agW δ c (wv P δ 15 c)) ((agRow δ c).emb y) = narrow (f (ix δ (bk δ c 15) (y 1) (y 2)))
    have hn : narrow (f (ix δ (bk δ c 15) (y 1) (y 2))) = wv P δ 15 c (y 1) (y 2) := by
      refine (congrArg narrow ((hf (y 1) (y 2)).trans (ov_first P δ c (y 1) (y 2)))).trans ?_
      exact (wv_acc P δ 14 (by decide) c (y 1) (y 2)).symm
    rw [hn, agW, agF_read]
    have e := congrFun (offG1_eq δ c)
    congr 1 <;> apply Fin.ext
    · show offG1 δ c 1 + 1 * (y 1).val = (y 1).val; rw [e 1]; show 0 + _ = _; omega
    · show offG1 δ c 2 + 1 * (y 2).val = (y 2).val; rw [e 2]; show 0 + _ = _; omega
  iintro ⟨Hp, Hs⟩ Hk
  iapply (wp_load_rect 𝒱₀ (c : Thread nD τ) none Set.univ (m := oM) (r := Rect.unit (s := S2048x2048) (offO1 δ c) S128x1024.size (offO1_inb δ c))
    (Finset.subset_univ _)) $$ [Hp]
  · iexact Hp
  iintro Hp
  rw [ep]
  ihave Hs := (agRow_join δ c) $$ Hs
  icases Hs with ⟨%g, Hs⟩
  iapply (wp_load_rect 𝒱₀ (c : Thread nD τ) none Set.univ (m := agM δ) (r := agRow δ c) (Finset.Subset.refl _)) $$ [Hs]
  · iexact Hs
  iintro Hs
  iapply (wp_store 𝒱₀ (c : Thread nD τ) none Set.univ (m := agM δ) (r := agRow δ c) (Finset.Subset.refl _)) $$ [Hs]
  · iexact Hs
  iintro Hs
  iapply Hk
  isplitl [Hp]; · iexact Hp
  iapply (Entails.of_eq (agRow_split δ c _))
  iapply (Entails.of_eq (pointsTo_congr (view_write_congr ((agM δ).access (agRow δ c)) g (agW δ c (wv P δ 15 c)) _ ew)))
  iexact Hs

end Rows

end Cert.KernelIdeal.Ring
-- ==== Proof.RunIdeal.State.lean ====
/- What a device holds between two steps, lane by lane, and how one lane's step changes it. A lane's record counts the
   transfers it has sent and received and the sends it has waited for, and whether the next send's slot is taken out. -/
module

public import proofs.«01_k».proof.Proof.RunIdeal.Mem

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- A lane's record: transfers sent, received, sends waited for, and the first slot not taken out to be sent. -/
structure Rec where
  s : ℕ
  r : ℕ
  w : ℕ
  t : ℕ

/-- Up to which transfer the slots to send to are in hand when the other direction has received `n`; and from which
    on own slots are still to be given away when the other direction has sent `n`. -/
def lim (n : ℕ) : ℕ := if n ≤ 14 then 15 else if n = 15 then 28 else 30
theorem lim_lo {n : ℕ} (h : n ≤ 14) : lim n = 15 := if_pos h
theorem lim_15 : lim 15 = 28 := rfl
theorem lim_hi {n : ℕ} (h : 16 ≤ n) : lim n = 30 := by
  unfold lim; rw [if_neg (by omega), if_neg (by omega)]
theorem lim_le (n : ℕ) : lim n ≤ lim (n + 1) := by
  unfold lim; split_ifs <;> omega
theorem ext_lim (i : ℕ) : ext i = Finset.Ico (lim i) (lim (i + 1)) := by
  unfold ext lim
  by_cases h1 : i = 14
  · subst h1; rfl
  · by_cases h2 : i = 15
    · subst h2; rfl
    · rw [if_neg h1, if_neg h2]
      by_cases h3 : i ≤ 13
      · rw [if_pos (by omega), if_pos (by omega)]; rfl
      · rw [if_neg (by omega), if_neg (by omega), if_neg (by omega), if_neg (by omega)]; rfl

theorem Ico_cat {a b c : ℕ} (hab : a ≤ b) (hbc : b ≤ c) (A : ℕ → sProp 𝕄) :
    bigSep (Finset.Ico a c) A = iprop(bigSep (Finset.Ico a b) A ∗ bigSep (Finset.Ico b c) A) := by
  rw [← Finset.Ico_union_Ico_eq_Ico hab hbc, bigSep_union (Finset.Ico_disjoint_Ico_consecutive a b c)]
  rfl
theorem Ico_none {a b : ℕ} (h : b ≤ a) (A : ℕ → sProp 𝕄) : bigSep (Finset.Ico a b) A = iprop(emp) := by
  rw [Finset.Ico_eq_empty_of_le h]; rfl

variable (P : Parts F)

/-- A lane's holdings, every bound given; -/
def LSx (c : Dev nD) (l : Lane) (s r w D G H A B M R : ℕ) : sProp 𝕄 :=
  iprop(Toks (F := F) c l s ∗ SCr (F := F) c l w s ∗ RCr (F := F) c l r ∗ SAt (F := F) c l w ∗ RAt (F := F) c l r
    ∗ Dsts (F := F) c l s D ∗ Grs (F := F) c l G H ∗ Stg (F := F) c l A B ∗ Ful (F := F) c l M R ∗ Kep P c l s ∗ Bak P c l w)
/-- at its own record and the record of the same columns' lane of the other direction. -/
def LS (c : Dev nD) (l : Lane) (a o : Rec) : sProp 𝕄 :=
  LSx P c l a.s a.r a.w (lim o.r) (lim o.s) (16 + min a.r 14) (min a.t 15) (min a.w 15 + 2) (max 15 a.t) (a.r + 1)

/-- All lanes' holdings. -/
def All (c : Dev nD) (v : Lane → Rec) : sProp 𝕄 := bigSep Finset.univ fun l => LS P c l (v l) (v (opp l))

theorem opp_ne (l : Lane) : opp l ≠ l := by obtain ⟨δ, j⟩ := l; cases δ <;> exact fun h => by simp [opp] at h

/-- One lane's turn: its holdings and its opposite's are taken out, and put back at its new record. -/
theorem turn (c : Dev nD) (l : Lane) (v : Lane → Rec) :
    All P c v ⊢ iprop(LS P c l (v l) (v (opp l)) ∗ LS P c (opp l) (v (opp l)) (v l)
      ∗ ∀ a, LS P c l a (v (opp l)) -∗ LS P c (opp l) (v (opp l)) a -∗ All P c (Function.update v l a)) := by
  have key : ∀ u : Lane → Rec, All P c u = iprop(LS P c l (u l) (u (opp l)) ∗ LS P c (opp l) (u (opp l)) (u l)
      ∗ bigSep ((Finset.univ.erase l).erase (opp l)) fun x => LS P c x (u x) (u (opp x))) := by
    intro u
    unfold All
    rw [bigSep_erase (Finset.mem_univ l), bigSep_erase (Finset.mem_erase.mpr ⟨opp_ne l, Finset.mem_univ (opp l)⟩), opp_opp]
    rfl
  rw [key v]
  iintro ⟨H1, H2, H3⟩
  isplitl [H1]; · iexact H1
  isplitl [H2]; · iexact H2
  iintro %a H1 H2
  rw [key (Function.update v l a), Function.update_self, Function.update_of_ne (opp_ne l)]
  isplitl [H1]; · iexact H1
  isplitl [H2]; · iexact H2
  have e : (bigSep ((Finset.univ.erase l).erase (opp l)) fun x => LS P c x (v x) (v (opp x)))
      = bigSep ((Finset.univ.erase l).erase (opp l)) fun x => LS P c x (Function.update v l a x) (Function.update v l a (opp x)) := by
    refine bigSep_congr fun x hx => ?_
    rw [Finset.mem_erase, Finset.mem_erase] at hx
    rw [Function.update_of_ne hx.2.1, Function.update_of_ne (fun h => hx.1 (by rw [← h, opp_opp]))]
  rw [← e]
  iexact H3

/-- The opposite lane's part in a turn. -/
theorem LS_opp (c : Dev nD) (l : Lane) (b o : Rec) :
    LS P c l b o ⊢ iprop(RAt (F := F) c l b.r ∗ Dsts (F := F) c l b.s (lim o.r) ∗ Grs (F := F) c l (lim o.s) (16 + min b.r 14)
      ∗ ∀ o', RAt (F := F) c l b.r -∗ Dsts (F := F) c l b.s (lim o'.r) -∗ Grs (F := F) c l (lim o'.s) (16 + min b.r 14) -∗ LS P c l b o') := by
  unfold LS LSx
  iintro ⟨H1, H2, H3, H4, H5, H6, H7, H8⟩
  isplitl [H5]; · iexact H5
  isplitl [H6]; · iexact H6
  isplitl [H7]; · iexact H7
  iintro %o' H5 H6 H7
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The result so far -/

/-- Lane by lane, the result's chunks that are final hold their final values. -/
def Out (c : Dev nD) (v : Lane → Rec) (f : Mat F) : Prop :=
  ∀ (l : Lane) (n : ℕ), 15 ≤ n → n ≤ (v l).r → ∀ (r : Fin 128) (q : Fin 256),
    f (ix l.1 (bk l.1 c n) r (colIn l.2 q)) = ov P l.1 n c r (colIn l.2 q)

theorem Out_put (c : Dev nD) (v : Lane → Rec) (f : Mat F) (l : Lane) (a : Rec) (i : ℕ) (hi : i < 30) (hr : (v l).r = i) (ha : a.r = i + 1)
    (n : Fin 16) (hn : bk l.1 c n.val = bk l.1 c (i + 1)) (x : Fin 128 → Fin 1024 → Elt F .f32)
    (hx : 15 ≤ i + 1 → ∀ r q, x r q = ov P l.1 (i + 1) c r q) (h : Out P c v f) :
    Out P c (Function.update v l a) (putAt l.1 l.2 c n f (blkA l.2 x)) := by
  intro l' n' h1 h2 r q
  by_cases hl : l' = l
  · subst hl
    rw [Function.update_self, ha] at h2
    by_cases hn' : n' = i + 1
    · subst hn'
      rw [← hn, putAt_in]
      exact hx h1 r _
    · rw [putAt_out, h l' n' h1 (by omega)]
      intro e
      have e := congrArg (fun p : Bool × Fin 4 × Fin 16 => p.2.2) e
      have e : bk l'.1 c n' = bk l'.1 c (i + 1) := e.trans hn
      have := bk_inj l'.1 c n' (i + 1) (by omega) (by omega) e
      omega
  · rw [Function.update_of_ne hl] at h2
    rw [putAt_out, h l' n' h1 h2]
    intro e
    exact hl (Prod.ext (congrArg (fun p : Bool × Fin 4 × Fin 16 => p.1) e) (congrArg (fun p : Bool × Fin 4 × Fin 16 => p.2.1) e))
theorem Out_same (c : Dev nD) (v v' : Lane → Rec) (f : Mat F) (hr : ∀ l, (v' l).r = (v l).r) (h : Out P c v f) : Out P c v' f :=
  fun l n h1 h2 r q => h l n h1 (by rw [← hr]; exact h2) r q

/-- What a device holds between steps. -/
def MS (c : Dev nD) (v : Lane → Rec) : sProp 𝕄 :=
  iprop(Owe (F := F) c (fun l => (v l).s) ∗ pAt c (P c) ∗ All P c v ∗ ∃ f, ⌜Out P c v f⌝ ∗ oAt c f)

theorem upd_s (v : Lane → Rec) (l : Lane) (a : Rec) : (fun x => (Function.update v l a x).s) = Function.update (fun x => (v x).s) l a.s := by
  funext x
  by_cases h : x = l
  · subst h; rw [Function.update_self, Function.update_self]
  · rw [Function.update_of_ne h, Function.update_of_ne h]
theorem upd_same (v : Lane → Rec) (l : Lane) (a : Rec) (h : (v l).s = a.s) : (fun x => (Function.update v l a x).s) = fun x => (v x).s := by
  rw [upd_s, ← h]; exact Function.update_eq_self l _

/-! ## Receiving and sending on a lane -/

variable (K : GSem nD τ sig → ℕ)

/-- Receive `i`: own slot at what was sent, and the opposite lane's further slots. -/
theorem recv_lane (c : Dev nD) (l : Lane) (i : ℕ) (h : Fin 15) (hh : hop i = h) (hi : i < 30) (s : Lane → ℕ) (hs : ∀ l', i < s l') (s' : ℕ) (hs' : s' ≤ lim i)
    {src dst : Memref sig .tc .vmem S128x256 .bf16}
    (hsrc : src.view.WordExact) (hdst : dst.view.WordExact) {α : Type} (k : PUnit → Act F α) (Q : α → sProp 𝕄) :
    iprop(Ctx P K ∗ RCr (F := F) c l i ∗ RAt (F := F) c l i ∗ Owe (F := F) c s ∗ Dsts (F := F) c (opp l) s' (lim i))
      ⊢ iprop((RCr (F := F) c l (i + 1) ∗ RAt (F := F) c l (i + 1) ∗ Owe (F := F) c s ∗ Dsts (F := F) c (opp l) s' (lim (i + 1))
            ∗ agAt l.1 c l.2 (bk l.1 c (i + 1)) fullShare (agW l.1 c (wv P l.1 i (succ (!l.1) c))) -∗ run c (k ⟨⟩) Q)
        -∗ run c (Prog.lift (.waitDma2 (rsem l.1 l.2 h) src dst hsrc hdst) >>= k) Q) := by
  subst hh
  have e : Dsts (F := F) c (opp l) s' (lim (i + 1)) = iprop(Dsts (F := F) c (opp l) s' (lim i) ∗ bigSep (ext i) fun i' => Dst c (opp l) i') := by
    rw [ext_lim]; exact Ico_cat hs' (lim_le i) _
  rw [e]
  iintro ⟨#HC, H1, H2, H3, H4⟩ Hk
  iapply (wait_recv P K c l i hi s hs hsrc hdst k Q) $$ [H1 H2 H3]
  · isplitr; · iexact HC
    isplitl [H1]; · iexact H1
    isplitl [H2]; · iexact H2
    iexact H3
  unfold recvPay
  iintro ⟨H1, H2, H3, H5, H6⟩
  iapply Hk
  isplitl [H1]; · iexact H1
  isplitl [H2]; · iexact H2
  isplitl [H3]; · iexact H3
  isplitl [H4 H6]
  · isplitl [H4]; · iexact H4
    iexact H6
  iexact H5

/-- Own slots, given away: they are what the neighbour needs for its transfers on the opposite lane. -/
theorem give (c : Dev nD) (l : Lane) (a b : ℕ) (hb : b ≤ 30) :
    iprop((Grs (F := F) c (opp l) a b) ∗ bigSep (Finset.Ico a b) fun n => reached ER (rcell c (opp l) (hop n)) (n / 15))
      ⊢ bigSep (Finset.Ico a b) fun n => Dst (F := F) (succ l.1 c) (opp l) n := by
  unfold Grs
  rw [← bigSep_sep']
  refine bigSep_mono fun n hn => ?_
  have e1 : succ (opp l).1 (succ l.1 c) = c := succ_succ' l.1 c
  have e2 : bk (opp l).1 c (n + 1) = bk (opp l).1 (succ l.1 c) n := by
    have := bk_succ (opp l).1 (succ l.1 c) n (by have := (Finset.mem_Ico.mp hn).2; omega)
    rw [e1] at this; exact this
  unfold Dst
  rw [e1, e2]
  exact Entails.refl _

/-- What goes with a send, besides the slot sent. -/
def Go (c : Dev nD) (l : Lane) (i w b H r' : ℕ) (s : Lane → ℕ) : sProp 𝕄 :=
  iprop(Dsts (F := F) c l i b ∗ RAt (F := F) c (opp l) r' ∗ Grs (F := F) c (opp l) (lim i) H ∗ SAt (F := F) c l w ∗ Toks (F := F) c l i ∗ SCr (F := F) c l w i ∗ Owe (F := F) c s)

theorem send_lane (c : Dev nD) (l : Lane) (i w b H r' : ℕ) (h : Fin 15) (hh : hop i = h) (hi : i < 30) (hw : w ≤ i) (hw' : i < w + 15) (hb : i < b) (hH : H ≤ 30)
    (hx : lim i ≤ H ∧ (lim i = lim (i + 1) ∨ lim (i + 1) ≤ H ∧ r' ≤ lim i ∧ lim (i + 1) ≤ r' + 15)) (s : Lane → ℕ) (hs : s l = i)
    {src dst : Memref sig .tc .vmem S128x256 .bf16} (hd : dst = agS l.1 l.2 (bk l.1 c i)) (hsrc : src.view.WordExact) (hdst : dst.view.WordExact)
    {q : PosShare TreeShare} {fs : Buf (Elt F) (src.view.loc (c : Thread nD τ))}
    (hp1 : (src.view.loc (c : Thread nD τ) ↦[src.view.set]{q} fs) ⊢ sendPay P c l i)
    (hp2 : ∀ fd, (agAt l.1 (succ l.1 c) l.2 (bk l.1 c i) fullShare ((agS l.1 l.2 (bk l.1 c i)).view.write (Elt F) fd (src.view.read (Elt F) fs) Finset.univ) : sProp 𝕄)
      = agAt l.1 (succ l.1 c) l.2 (bk l.1 c i) fullShare (agW l.1 (succ l.1 c) (wv P l.1 i c)))
    {α : Type} (k : PUnit → Act F α) (Q : α → sProp 𝕄) :
    iprop(Ctx P K ∗ (src.view.loc (c : Thread nD τ) ↦[src.view.set]{q} fs) ∗ Go (F := F) c l i w b H r' s)
      ⊢ iprop((Go (F := F) c l (i + 1) w b H r' (Function.update s l (i + 1)) -∗ run c (k ⟨⟩) Q)
        -∗ run c (send l.1 l.2 h c src dst hsrc hdst >>= k) Q) := by
  subst hh
  subst hd
  have eD : Dsts (F := F) c l i b = iprop(Dst c l i ∗ Dsts (F := F) c l (i + 1) b) := bigSep_Ico_succ_bot hb _
  have hl : lim (i + 1) ≤ H := by
    rcases hx.2 with h | h
    · rw [← h]; exact hx.1
    · exact h.1
  have eG : Grs (F := F) c (opp l) (lim i) H = iprop(Grs (F := F) c (opp l) (lim i) (lim (i + 1)) ∗ Grs (F := F) c (opp l) (lim (i + 1)) H) :=
    Ico_cat (lim_le i) hl _
  have eR : RAt (F := F) c (opp l) r' ⊢ iprop(RAt (F := F) c (opp l) r' ∗ bigSep (Finset.Ico (lim i) (lim (i + 1))) fun n => reached ER (rcell c (opp l) (hop n)) (n / 15)) := by
    rcases hx.2 with h | h
    · rw [← h, Ico_none (le_refl _)]
      iintro H
      isplitl [H]; · iexact H
      iempintro
    · exact RAt_reached c (opp l) r' _ _ h.2.1 h.2.2
  unfold Go
  rw [eD, eG]
  unfold Dst
  iintro ⟨#HC, Hsrc, ⟨⟨⟨%fd, Hd⟩, Hr⟩, HD⟩, HR, ⟨HG1, HG2⟩, HS, HT, HC2, HO⟩ Hk
  ihave HR := eR $$ HR
  icases HR with ⟨HR, Hre⟩
  ihave HX := (give (F := F) c l (lim i) (lim (i + 1)) (by omega)) $$ [HG1 Hre]
  · isplitl [HG1]; · iexact HG1
    iexact Hre
  ihave HS := (SAt_reached (F := F) c l w i hw hw') $$ HS
  icases HS with ⟨HS, Hs⟩
  iapply (send_any P K c l i w hi hw s hs hsrc hdst (fd := fd) hp1
    (by
      refine (Entails.of_eq ((agAt_view l.1 (succ l.1 c) l.2 (bk l.1 c i) fullShare _).symm.trans (hp2 fd))).trans ?_
      rw [bk_succ l.1 c i (by omega)]) k Q) $$ [Hsrc Hd Hr Hs HX HT HC2 HO]
  · isplitr; · iexact HC
    isplitl [Hsrc]; · iexact Hsrc
    isplitl [Hd]; · iapply (Entails.of_eq (agAt_view l.1 (succ l.1 c) l.2 (bk l.1 c i) fullShare fd)); iexact Hd
    isplitl [Hr]; · iexact Hr
    isplitl [Hs]; · iexact Hs
    isplitl [HX]
    · unfold Ext; rw [ext_lim]; iexact HX
    isplitl [HT]; · iexact HT
    isplitl [HC2]; · iexact HC2
    iexact HO
  iintro ⟨HT, HC2, HO⟩
  iapply Hk
  isplitl [HD]; · iexact HD
  isplitl [HR]; · iexact HR
  isplitl [HG2]; · iexact HG2
  isplitl [HS]; · iexact HS
  isplitl [HT]; · iexact HT
  isplitl [HC2]; · iexact HC2
  iexact HO

/-- A reduce-scatter send: the send-buffer slot goes with it. -/
theorem sendRS_lane (c : Dev nD) (l : Lane) (h : Fin 15) (i w b H r' : ℕ) (e : i = h.val) (p : Fin 2) (hp : p = par i) (hw : w ≤ i) (hw' : i < w + 15) (hb : i < b) (hH : H ≤ 30)
    (hx : lim i ≤ H ∧ (lim i = lim (i + 1) ∨ lim (i + 1) ≤ H ∧ r' ≤ lim i ∧ lim (i + 1) ≤ r' + 15)) (s : Lane → ℕ) (hs : s l = i)
    {α : Type} (k : PUnit → Act F α) (Q : α → sProp 𝕄) :
    iprop(Ctx P K ∗ stAt l.1 c l.2 p fullShare (stW l.1 c (wv P l.1 i c)) ∗ Go (F := F) c l i w b H r' s)
      ⊢ iprop((Go (F := F) c l (i + 1) w b H r' (Function.update s l (i + 1)) -∗ run c (k ⟨⟩) Q)
        -∗ run c (sendRS l.1 l.2 p h c >>= k) Q) := by
  subst hp
  have hi : i < 15 := e ▸ h.isLt
  rw [stAt_view]
  refine send_lane P K c l i w b H r' h (Fin.ext (by show i % 15 = h.val; omega)) (by omega) hw hw' hb hH hx s hs (by rw [rsV_eq, e]) _ _ ?_
    (fun fd => land_st l.1 c (succ l.1 c) l.2 (bk l.1 c i) (par i) (wv P l.1 i c) fd) k Q
  rw [← stAt_view, sendPay, if_pos hi]
  iintro H
  iexists _; iexact H

/-- An all-gather send: half of the slot goes with it. -/
theorem sendAG_lane (c : Dev nD) (l : Lane) (h : Fin 15) (i w b H r' : ℕ) (e : i = 15 + h.val) (hw : w ≤ i) (hw' : i < w + 15) (hb : i < b) (hH : H ≤ 30)
    (hx : lim i ≤ H ∧ (lim i = lim (i + 1) ∨ lim (i + 1) ≤ H ∧ r' ≤ lim i ∧ lim (i + 1) ≤ r' + 15)) (s : Lane → ℕ) (hs : s l = i)
    {α : Type} (k : PUnit → Act F α) (Q : α → sProp 𝕄) :
    iprop(Ctx P K ∗ agAt l.1 c l.2 (bk l.1 c i) fullShare (agW l.1 c (wv P l.1 i c)) ∗ Go (F := F) c l i w b H r' s)
      ⊢ iprop((agAt l.1 c l.2 (bk l.1 c i) halfR (agW l.1 c (wv P l.1 i c)) ∗ Go (F := F) c l (i + 1) w b H r' (Function.update s l (i + 1)) -∗ run c (k ⟨⟩) Q)
        -∗ run c (sendAG l.1 l.2 h c >>= k) Q) := by
  have hi : i < 30 := by have := h.isLt; omega
  have ev : agV l.1 l.2 c h = agS l.1 l.2 (bk l.1 c i) := by rw [agV_eq, e]
  have hsl := (pointsTo_share (ℓ := (agM l.1).view.loc (c : Thread nD τ)) (I := agSet l.1 l.2 (bk l.1 c i)) (f := agW l.1 c (wv P l.1 i c)) (Ix := ℕ) (Name := ℕ) (U := UU) (Lvl := ℕ)
    (PosShare.mem_left_op_right fullShare)).1
  have hgo : ∀ (m : Memref sig .tc .vmem S128x256 .bf16) (hm : m = agS l.1 l.2 (bk l.1 c i)) (h1 h2 : m.view.WordExact),
      iprop(Ctx P K ∗ agAt l.1 c l.2 (bk l.1 c i) halfL (agW l.1 c (wv P l.1 i c)) ∗ Go (F := F) c l i w b H r' s)
        ⊢ iprop((Go (F := F) c l (i + 1) w b H r' (Function.update s l (i + 1)) -∗ run c (k ⟨⟩) Q)
          -∗ run c (send l.1 l.2 h c m m h1 h2 >>= k) Q) := by
    intro m hm h1 h2
    subst hm
    rw [agAt_view]
    refine send_lane P K c l i w b H r' h (Fin.ext (by show i % 15 = h.val; omega)) hi hw hw' hb hH hx s hs rfl _ _ ?_
      (fun fd => land_ag l.1 c (succ l.1 c) l.2 (bk l.1 c i) (bk l.1 c i) (wv P l.1 i c) fd) k Q
    rw [← agAt_view, sendPay, if_neg (by omega)]
  iintro ⟨#HC, Hs, HG⟩ Hk
  ihave Hs := hsl $$ Hs
  icases Hs with ⟨H1, H2⟩
  iapply (hgo (agV l.1 l.2 c h) ev _ _) $$ [H1 HG]
  · isplitr; · iexact HC
    isplitl [H1]; · iexact H1
    iexact HG
  iintro HG
  iapply Hk
  isplitl [H2]; · iexact H2
  iexact HG

end Cert.KernelIdeal.Ring
-- ==== Proof.RunIdeal.Moves.lean ====
/- Each step of the body on one lane: what it needs and what it leaves, in terms of the lane's record. -/
module

public import proofs.«01_k».proof.Proof.RunIdeal.State

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (P : Parts F) (K : GSem nD τ sig → ℕ)

/-- A lane's turn at the record `b`, its opposite's being `o`. -/
theorem turn_at (c : Dev nD) (l : Lane) (v : Lane → Rec) (b o : Rec) (hb : v l = b) (ho : v (opp l) = o) :
    All P c v ⊢ iprop(LS P c l b o ∗ RAt (F := F) c (opp l) o.r ∗ Dsts (F := F) c (opp l) o.s (lim b.r)
      ∗ Grs (F := F) c (opp l) (lim b.s) (16 + min o.r 14)
      ∗ ∀ a, LS P c l a o -∗ RAt (F := F) c (opp l) o.r -∗ Dsts (F := F) c (opp l) o.s (lim a.r)
          -∗ Grs (F := F) c (opp l) (lim a.s) (16 + min o.r 14) -∗ All P c (Function.update v l a)) := by
  subst hb ho
  iintro H
  ihave H := (turn P c l v) $$ H
  icases H with ⟨H1, H2, H3⟩
  ihave H2 := (LS_opp P c (opp l) (v (opp l)) (v l)) $$ H2
  icases H2 with ⟨H4, H5, H6, H7⟩
  isplitl [H1]; · iexact H1
  isplitl [H4]; · iexact H4
  isplitl [H5]; · iexact H5
  isplitl [H6]; · iexact H6
  iintro %a H1 H4 H5 H6
  ihave H7 := H7 $$ %a
  ihave H7 := H7 $$ H4
  ihave H7 := H7 $$ H5
  ihave H7 := H7 $$ H6
  ihave H3 := H3 $$ %a
  ihave H3 := H3 $$ H1
  iapply H3
  iexact H7

theorem LS_at (c : Dev nD) (l : Lane) (a o : Rec) (s r w D G H A B M R : ℕ) (h1 : a.s = s) (h2 : a.r = r) (h3 : a.w = w) (hD : lim o.r = D) (hG : lim o.s = G)
    (hH : 16 + min a.r 14 = H) (hA : min a.t 15 = A) (hB : min a.w 15 + 2 = B) (hM : max 15 a.t = M) (hR : a.r + 1 = R) :
    LS P c l a o = LSx P c l s r w D G H A B M R := by
  subst h1 h2 h3 hD hG hH hA hB hM hR; rfl

/-- Wait for send `i`, the semaphore named by the step. -/
theorem wait_sent (c : Dev nD) (l : Lane) (i z : ℕ) (h : Fin 15) (hh : hop i = h) (hz : i < z) (hz' : z ≤ 30) (s : Lane → ℕ) {src dst : Memref sig .tc .vmem S128x256 .bf16}
    (hsrc : src.view.WordExact) (hdst : dst.view.WordExact) {α : Type} (k : PUnit → Act F α) (Q : α → sProp 𝕄) :
    iprop(Ctx P K ∗ SCr (F := F) c l i z ∗ SAt (F := F) c l i ∗ Owe (F := F) c s)
      ⊢ iprop((SCr (F := F) c l (i + 1) z ∗ SAt (F := F) c l (i + 1) ∗ Owe (F := F) c s ∗ sendPay P c l i -∗ run c (k ⟨⟩) Q)
        -∗ run c (Prog.lift (.waitDma2 (ssem l.1 l.2 h) src dst hsrc hdst) >>= k) Q) := by
  subst hh
  exact wait_send P K c l i z hz hz' s hsrc hdst k Q

/-- Receive and add one reduce-scatter chunk; the slot is free afterwards. -/
theorem recv_add (c : Dev nD) (l : Lane) (h : Fin 15) (i : ℕ) (e : i = h.val) (s : Lane → ℕ) (hs : ∀ l', i < s l') (s' : ℕ) (hs' : s' ≤ lim i)
    {α : Type} (k : FVec F S128x256 .f32 → Act F α) (Q : α → sProp 𝕄) :
    iprop(Ctx P K ∗ RCr (F := F) c l i ∗ RAt (F := F) c l i ∗ Owe (F := F) c s ∗ Dsts (F := F) c (opp l) s' (lim i) ∗ pAt c (P c))
      ⊢ iprop((RCr (F := F) c l (i + 1) ∗ RAt (F := F) c l (i + 1) ∗ Owe (F := F) c s ∗ Dsts (F := F) c (opp l) s' (lim (i + 1)) ∗ pAt c (P c)
            ∗ (∃ f, agAt l.1 c l.2 (bk l.1 c (i + 1)) fullShare f) -∗ run c (k (blkA l.2 (acc P l.1 i c))) Q)
        -∗ run c (rsRecv l.1 l.2 h c >>= k) Q) := by
  have hi : i < 15 := e ▸ h.isLt
  have hn : h.val + 1 < 16 := by omega
  have en : (⟨h.val + 1, hn⟩ : Fin 16).val = i + 1 := by show h.val + 1 = i + 1; omega
  have eb : bk l.1 c (⟨h.val + 1, hn⟩ : Fin 16).val = bk l.1 c (i + 1) := by rw [en]
  have et := tmpV_eq P l.1 l.2 i c
  rw [← eb] at et ⊢
  iintro ⟨#HC, H1, H2, H3, H4, HP⟩ Hk
  unfold rsRecv waitRS
  simp only [bind_assoc, pure_bind]
  iapply (recv_lane P K c l i h (Fin.ext (by show i % 15 = h.val; omega)) (by omega) s hs s' hs' _ _ _ Q) $$ [H1 H2 H3 H4]
  · isplitr; · iexact HC
    isplitl [H1]; · iexact H1
    isplitl [H2]; · iexact H2
    isplitl [H3]; · iexact H3
    iexact H4
  rw [← eb]
  iintro ⟨H1, H2, H3, H4, H5⟩
  iapply (getP_spec l.1 l.2 c ⟨h.val + 1, hn⟩ (P c) _ Q) $$ [HP]
  · iexact HP
  iintro HP
  iapply (getG_spec l.1 l.2 c ⟨h.val + 1, hn⟩ fullShare (wv P l.1 i (succ (!l.1) c)) _ Q) $$ [H5]
  · iexact H5
  iintro H5
  rw [et]
  iapply Hk
  isplitl [H1]; · iexact H1
  isplitl [H2]; · iexact H2
  isplitl [H3]; · iexact H3
  isplitl [H4]; · iexact H4
  isplitl [HP]; · iexact HP
  iexists _; iexact H5

theorem Grs_more (c : Dev nD) (l : Lane) (G i : ℕ) (hG : G ≤ i + 16) (hi : i < 24) :
    iprop(Grs (F := F) c l G (16 + i) ∗ ∃ f, agAt l.1 c l.2 (bk l.1 c (i + 1)) fullShare f) ⊢ Grs (F := F) c l G (16 + (i + 1)) := by
  have e : Grs (F := F) c l G (16 + (i + 1)) = iprop((∃ f, agAt l.1 c l.2 (bk l.1 c (16 + i + 1)) fullShare f) ∗ Grs (F := F) c l G (16 + i)) :=
    bigSep_Ico_succ_top (show G ≤ 16 + i by omega) _
  rw [e, show 16 + i + 1 = i + 1 + 16 by omega, bk_add16 l.1 c (i + 1) (by omega)]
  iintro ⟨H1, H2⟩
  isplitl [H2]; · iexact H2
  iexact H1

/-- The next reduce-scatter send: the sum goes to a free send-buffer slot and from there to the neighbour. -/
theorem put_send (c : Dev nD) (l : Lane) (h : Fin 15) (i w b H r' : ℕ) (e : i + 1 = h.val) (p : Fin 2) (hp : p = par (i + 1)) (hw : w ≤ i + 1) (hw' : i + 1 < w + 15) (hb : i + 1 < b)
    (hH : H ≤ 30) (hx : lim (i + 1) ≤ H ∧ (lim (i + 1) = lim (i + 1 + 1) ∨ lim (i + 1 + 1) ≤ H ∧ r' ≤ lim (i + 1) ∧ lim (i + 1 + 1) ≤ r' + 15)) (s : Lane → ℕ) (hs : s l = i + 1)
    {α : Type} (k : PUnit → Act F α) (Q : α → sProp 𝕄) :
    iprop(Ctx P K ∗ (∃ f, stAt l.1 c l.2 p fullShare f) ∗ Go (F := F) c l (i + 1) w b H r' s)
      ⊢ iprop((Go (F := F) c l (i + 1 + 1) w b H r' (Function.update s l (i + 1 + 1)) -∗ run c (k ⟨⟩) Q)
        -∗ run c (putS l.1 l.2 p (wireV (blkA l.2 (acc P l.1 i c))) >>= fun _ => sendRS l.1 l.2 p h c >>= k) Q) := by
  have hi : i < 15 := by have := h.isLt; omega
  have ew : wireV (blkA l.2 (acc P l.1 i c)) = blkW l.2 (wv P l.1 (i + 1) c) := by
    rw [wireV_eq]
    refine congrArg (blkW l.2) (funext fun r => funext fun q => ?_)
    exact (wv_acc P l.1 i hi c r q).symm
  rw [ew]
  iintro ⟨#HC, H1, HG⟩ Hk
  iapply (putS_spec l.1 l.2 c p (wv P l.1 (i + 1) c) _ Q) $$ [H1]
  · iexact H1
  iintro H1
  iapply (sendRS_lane P K c l h (i + 1) w b H r' e p hp hw hw' hb hH hx s hs k Q) $$ [H1 HG]
  · isplitr; · iexact HC
    isplitl [H1]; · iexact H1
    iexact HG
  iexact Hk

/-! ## Reduce-scatter steps -/

/-- The record before reduce-scatter step `n`, for `n ≥ 1`. -/
def midRec (n : ℕ) : Rec := ⟨n + 1, n, n - 1, n + 1⟩

set_option maxHeartbeats 4000000 in
theorem step_rsMid (c : Dev nD) (l : Lane) (h : Fin 13) (v : Lane → Rec) (hv : v l = midRec (h.val + 1))
    (hok : ∀ l', v l' = midRec (h.val + 1) ∨ v l' = midRec (h.val + 2)) {α : Type} (k : PUnit → Act F α) (Q : α → sProp 𝕄) :
    iprop(Ctx P K ∗ MS P c v) ⊢ iprop((MS P c (Function.update v l (midRec (h.val + 2))) -∗ run c (k ⟨⟩) Q)
      -∗ run c (rsMid l.1 l.2 h c >>= k) Q) := by
  obtain ⟨h, hlt⟩ := h
  have h15 : h + 1 < 15 := by omega
  have h15' : h < 15 := by omega
  have h15'' : h + 2 < 15 := by omega
  have h16 : h + 2 < 16 := by omega
  obtain ⟨o, ho⟩ : ∃ o, v (opp l) = o := ⟨_, rfl⟩
  have hor : o = midRec (h + 1) ∨ o = midRec (h + 2) := ho ▸ hok (opp l)
  have hos : h + 2 ≤ o.s ∧ o.s ≤ h + 3 ∧ o.r + 1 = o.s := by rcases hor with e | e <;> subst e <;> exact ⟨by simp [midRec], by simp [midRec], rfl⟩
  obtain ⟨hs1, hs2, hs3⟩ := hos
  have hlr : lim o.r = 15 := lim_lo (by omega)
  have hlG : lim o.s ≤ h + 1 + 16 ∧ lim o.s ≤ 28 := by unfold lim; split_ifs <;> omega
  have e1 : LS P c l (midRec (h + 1)) o = LSx P c l (h + 2) (h + 1) h 15 (lim o.s) (16 + (h + 1)) (h + 2) (h + 2) 15 (h + 2) :=
    LS_at P c l _ o _ _ _ _ _ _ _ _ _ _ rfl rfl rfl hlr rfl (by simp [midRec]; omega) (by simp [midRec]; omega) (by simp [midRec]; omega) (by simp [midRec]; omega) rfl
  have e2 : LS P c l (midRec (h + 2)) o = LSx P c l (h + 3) (h + 2) (h + 1) 15 (lim o.s) (16 + (h + 1 + 1)) (h + 3) (h + 3) 15 (h + 3) :=
    LS_at P c l _ o _ _ _ _ _ _ _ _ _ _ rfl rfl rfl hlr rfl (by simp [midRec]; omega) (by simp [midRec]; omega) (by simp [midRec]; omega) (by simp [midRec]; omega) rfl
  have eF : Ful (F := F) c l 15 (h + 2) = Ful (F := F) c l 15 (h + 3) := (Ico_none (by omega) _).trans (Ico_none (by omega) _).symm
  have eK : Kep P c l (h + 2) = Kep P c l (h + 3) := (Ico_none (by omega) _).trans (Ico_none (by omega) _).symm
  have eB : Bak P c l h = Bak P c l (h + 1) := (Ico_none (by omega) _).trans (Ico_none (by omega) _).symm
  have eS : Stg (F := F) c l (h + 2) (h + 2) = Stg (F := F) c l (h + 3) (h + 3) := (Ico_none (by omega) _).trans (Ico_none (by omega) _).symm
  have ep : par (h + 2) = par h := Fin.ext (by show (h + 2) % 2 = h % 2; omega)
  have hs : ∀ l', h + 1 < (v l').s := fun l' => by rcases hok l' with e | e <;> rw [e] <;> simp [midRec]
  unfold MS
  iintro ⟨#HC, HO, HP, HA, %f, %hf, Ho⟩ Hk
  ihave HA := (turn_at P c l v _ o hv ho) $$ HA
  rw [e1]
  unfold LSx
  icases HA with ⟨⟨T, S, R, SA, RA, D, G, St, Fu, Ke, Ba⟩, oR, oD, oG, Hb⟩
  unfold rsMid
  simp only [bind_assoc]
  iapply (recv_add P K c l ⟨h + 1, h15⟩ (h + 1) rfl (fun l => (v l).s) hs o.s (by rw [lim_lo (show h + 1 ≤ 14 by omega)]; omega) _ Q) $$ [R RA HO oD HP]
  · isplitr; · iexact HC
    isplitl [R]; · iexact R
    isplitl [RA]; · iexact RA
    isplitl [HO]; · iexact HO
    isplitl [oD]; · iexact oD
    iexact HP
  iintro ⟨R, RA, HO, oD, HP, Hs⟩
  unfold waitRS'
  iapply (wait_sent P K c l h (h + 2) ⟨h, h15'⟩ (Fin.ext (by show h % 15 = h; omega)) (by omega) (by omega) (fun l => (v l).s) _ _ _ Q) $$ [S SA HO]
  · isplitr; · iexact HC
    isplitl [S]; · iexact S
    isplitl [SA]; · iexact SA
    iexact HO
  rw [sendPay, if_pos (by omega), ← ep]
  iintro ⟨S, SA, HO, Hst⟩
  iapply (put_send P K c l ⟨h + 2, h15''⟩ (h + 1) (h + 1) 15 (16 + min o.r 14) o.r rfl _ rfl (by omega) (by omega) (by omega) (by omega)
    (by unfold lim; split_ifs <;> omega) (fun l => (v l).s) (by show (v l).s = _; rw [hv]; rfl) _ Q) $$ [Hst D oR oG SA T S HO]
  · isplitr; · iexact HC
    isplitl [Hst]; · iexact Hst
    unfold Go
    isplitl [D]; · iexact D
    isplitl [oR]; · iexact oR
    isplitl [oG]; · iexact oG
    isplitl [SA]; · iexact SA
    isplitl [T]; · iexact T
    isplitl [S]; · iexact S
    iexact HO
  unfold Go
  iintro ⟨D, oR, oG, SA, T, S, HO⟩
  iapply (putO_spec l.1 l.2 c ⟨h + 2, h16⟩ f (blkA l.2 (acc P l.1 (h + 1) c)) k Q) $$ [Ho]
  · iexact Ho
  iintro Ho
  iapply Hk
  ihave G := (Grs_more c l (lim o.s) (h + 1) hlG.1 (by omega)) $$ [G Hs]
  · isplitl [G]; · iexact G
    iexact Hs
  isplitl [HO]; · rw [upd_s]; iexact HO
  isplitl [HP]; · iexact HP
  isplitr [Ho]
  · ihave Hb := Hb $$ %(midRec (h + 2))
    rw [e2]
    unfold LSx
    rw [← eF, ← eK, ← eB, ← eS]
    ihave Hb := Hb $$ [T S R SA RA D G St Fu Ke Ba]
    · isplitl [T]; · iexact T
      isplitl [S]; · iexact S
      isplitl [R]; · iexact R
      isplitl [SA]; · iexact SA
      isplitl [RA]; · iexact RA
      isplitl [D]; · iexact D
      isplitl [G]; · iexact G
      isplitl [St]; · iexact St
      isplitl [Fu]; · iexact Fu
      isplitl [Ke]; · iexact Ke
      iexact Ba
    ihave Hb := Hb $$ oR
    ihave Hb := Hb $$ [oD]
    · iexact oD
    ihave Hb := Hb $$ [oG]
    · iexact oG
    iexact Hb
  · iexists _
    isplitr
    · ipureintro
      exact Out_put P c v f l _ (h + 1) (by omega) (by rw [hv]; rfl) rfl ⟨h + 2, h16⟩ rfl (acc P l.1 (h + 1) c) (fun h' => absurd h' (by omega)) hf
    · iexact Ho

theorem step_rsFirst (c : Dev nD) (l : Lane) (v : Lane → Rec) (hv : v l = midRec 0)
    (hok : ∀ l', v l' = midRec 0 ∨ v l' = midRec 1) {α : Type} (k : PUnit → Act F α) (Q : α → sProp 𝕄) :
    iprop(Ctx P K ∗ MS P c v) ⊢ iprop((MS P c (Function.update v l (midRec 1)) -∗ run c (k ⟨⟩) Q)
      -∗ run c (rsFirst l.1 l.2 c >>= k) Q) := by
  obtain ⟨o, ho⟩ : ∃ o, v (opp l) = o := ⟨_, rfl⟩
  have hor : o = midRec 0 ∨ o = midRec 1 := ho ▸ hok (opp l)
  have hlr : lim o.r = 15 := by rcases hor with e | e <;> subst e <;> rfl
  have hlG : lim o.s = 15 := by rcases hor with e | e <;> subst e <;> rfl
  have hos : o.s ≤ 2 ∧ o.r ≤ 1 := by rcases hor with e | e <;> subst e <;> exact ⟨by decide, by decide⟩
  have e1 : LS P c l (midRec 0) o = LSx P c l 1 0 0 15 15 (16 + 0) 1 2 15 1 := LS_at P c l _ o _ _ _ _ _ _ _ _ _ _ rfl rfl rfl hlr hlG rfl rfl rfl rfl rfl
  have e2 : LS P c l (midRec 1) o = LSx P c l 2 1 0 15 15 (16 + (0 + 1)) 2 2 15 2 := LS_at P c l _ o _ _ _ _ _ _ _ _ _ _ rfl rfl rfl hlr hlG rfl rfl rfl rfl rfl
  have eF : Ful (F := F) c l 15 1 = Ful (F := F) c l 15 2 := (Ico_none (by omega) _).trans (Ico_none (by omega) _).symm
  have eK : Kep P c l 1 = Kep P c l 2 := (Ico_none (by omega) _).trans (Ico_none (by omega) _).symm
  have eS : Stg (F := F) c l 1 2 = iprop((∃ f, stAt l.1 c l.2 1 fullShare f) ∗ Stg (F := F) c l 2 2) := bigSep_Ico_succ_bot (by omega) _
  have hs : ∀ l', 0 < (v l').s := fun l' => by rcases hok l' with e | e <;> rw [e] <;> simp [midRec]
  unfold MS
  iintro ⟨#HC, HO, HP, HA, %f, %hf, Ho⟩ Hk
  ihave HA := (turn_at P c l v _ o hv ho) $$ HA
  rw [e1]
  unfold LSx
  rw [eS]
  icases HA with ⟨⟨T, S, R, SA, RA, D, G, ⟨Hst, St⟩, Fu, Ke, Ba⟩, oR, oD, oG, Hb⟩
  unfold rsFirst
  simp only [bind_assoc]
  iapply (recv_add P K c l 0 0 rfl (fun l => (v l).s) hs o.s (show o.s ≤ 15 by omega) _ Q) $$ [R RA HO oD HP]
  · isplitr; · iexact HC
    isplitl [R]; · iexact R
    isplitl [RA]; · iexact RA
    isplitl [HO]; · iexact HO
    isplitl [oD]; · iexact oD
    iexact HP
  iintro ⟨R, RA, HO, oD, HP, Hs⟩
  iapply (put_send P K c l 1 0 0 15 (16 + min o.r 14) o.r rfl 1 rfl (by omega) (by omega) (by omega) (by omega)
    ⟨show 15 ≤ 16 + min o.r 14 by omega, .inl rfl⟩ (fun l => (v l).s) (by show (v l).s = _; rw [hv]; rfl) _ Q) $$ [Hst D oR oG SA T S HO]
  · isplitr; · iexact HC
    isplitl [Hst]; · iexact Hst
    unfold Go
    isplitl [D]; · iexact D
    isplitl [oR]; · iexact oR
    isplitl [oG]; · iexact oG
    isplitl [SA]; · iexact SA
    isplitl [T]; · iexact T
    isplitl [S]; · iexact S
    iexact HO
  unfold Go
  iintro ⟨D, oR, oG, SA, T, S, HO⟩
  iapply (putO_spec l.1 l.2 c 1 f (blkA l.2 (acc P l.1 0 c)) k Q) $$ [Ho]
  · iexact Ho
  iintro Ho
  iapply Hk
  ihave G := (Grs_more c l 15 0 (by omega) (by omega)) $$ [G Hs]
  · isplitl [G]; · iexact G
    iexact Hs
  isplitl [HO]; · rw [upd_s]; iexact HO
  isplitl [HP]; · iexact HP
  isplitr [Ho]
  · ihave Hb := Hb $$ %(midRec 1)
    rw [e2]
    unfold LSx
    rw [← eF, ← eK]
    ihave Hb := Hb $$ [T S R SA RA D G St Fu Ke Ba]
    · isplitl [T]; · iexact T
      isplitl [S]; · iexact S
      isplitl [R]; · iexact R
      isplitl [SA]; · iexact SA
      isplitl [RA]; · iexact RA
      isplitl [D]; · iexact D
      isplitl [G]; · iexact G
      isplitl [St]; · iexact St
      isplitl [Fu]; · iexact Fu
      isplitl [Ke]; · iexact Ke
      iexact Ba
    ihave Hb := Hb $$ oR
    ihave Hb := Hb $$ [oD]
    · iexact oD
    ihave Hb := Hb $$ [oG]
    · iexact oG
    iexact Hb
  · iexists (putAt l.1 l.2 c 1 f (blkA l.2 (acc P l.1 0 c)))
    isplitr
    · ipureintro
      exact Out_put P c v f l _ 0 (by omega) (by rw [hv]; rfl) rfl 1 rfl (acc P l.1 0 c) (fun h' => absurd h' (by omega)) hf
    · iexact Ho

/-- The record when all reduce-scatter chunks are in, `w` sends waited for. -/
def sumRec (w : ℕ) : Rec := ⟨15, 15, w, 15⟩

theorem step_rsLast (c : Dev nD) (l : Lane) (v : Lane → Rec) (hv : v l = midRec 14)
    (hok : ∀ l', v l' = midRec 14 ∨ v l' = sumRec 13) {α : Type} (k : PUnit → Act F α) (Q : α → sProp 𝕄) :
    iprop(Ctx P K ∗ MS P c v) ⊢ iprop((MS P c (Function.update v l (sumRec 13)) -∗ run c (k ⟨⟩) Q)
      -∗ run c (rsLast l.1 l.2 c >>= k) Q) := by
  obtain ⟨o, ho⟩ : ∃ o, v (opp l) = o := ⟨_, rfl⟩
  have hor : o = midRec 14 ∨ o = sumRec 13 := ho ▸ hok (opp l)
  have hos : o.s = 15 := by rcases hor with e | e <;> subst e <;> rfl
  have e1 : LS P c l (midRec 14) o = LSx P c l 15 14 13 (lim o.r) (lim o.s) 30 15 15 15 15 := LS_at P c l _ o _ _ _ _ _ _ _ _ _ _ rfl rfl rfl rfl rfl rfl rfl rfl rfl rfl
  have e2 : LS P c l (sumRec 13) o = LSx P c l 15 15 13 (lim o.r) (lim o.s) 30 15 15 15 16 := LS_at P c l _ o _ _ _ _ _ _ _ _ _ _ rfl rfl rfl rfl rfl rfl rfl rfl rfl rfl
  have eF : Ful (F := F) c l 15 16 = iprop((∃ f, agAt l.1 c l.2 (bk l.1 c 15) fullShare f) ∗ Ful (F := F) c l 15 15) :=
    bigSep_Ico_succ_top (show 15 ≤ 15 by omega) _
  have hs : ∀ l', 14 < (v l').s := fun l' => by rcases hok l' with e | e <;> rw [e] <;> simp [midRec, sumRec]
  unfold MS
  iintro ⟨#HC, HO, HP, HA, %f, %hf, Ho⟩ Hk
  ihave HA := (turn_at P c l v _ o hv ho) $$ HA
  rw [e1]
  unfold LSx
  icases HA with ⟨⟨T, S, R, SA, RA, D, G, St, Fu, Ke, Ba⟩, oR, oD, oG, Hb⟩
  unfold rsLast
  simp only [bind_assoc]
  iapply (recv_add P K c l 14 14 rfl (fun l => (v l).s) hs o.s (by rw [hos]; decide) _ Q) $$ [R RA HO oD HP]
  · isplitr; · iexact HC
    isplitl [R]; · iexact R
    isplitl [RA]; · iexact RA
    isplitl [HO]; · iexact HO
    isplitl [oD]; · iexact oD
    iexact HP
  iintro ⟨R, RA, HO, oD, HP, Hs⟩
  iapply (putO_spec l.1 l.2 c 15 f (blkA l.2 (acc P l.1 14 c)) k Q) $$ [Ho]
  · iexact Ho
  iintro Ho
  iapply Hk
  isplitl [HO]; · rw [upd_same v l _ (by rw [hv]; rfl)]; iexact HO
  isplitl [HP]; · iexact HP
  isplitr [Ho]
  · ihave Hb := Hb $$ %(sumRec 13)
    rw [e2]
    unfold LSx
    rw [eF]
    ihave Hb := Hb $$ [T S R SA RA D G St Fu Ke Ba Hs]
    · isplitl [T]; · iexact T
      isplitl [S]; · iexact S
      isplitl [R]; · iexact R
      isplitl [SA]; · iexact SA
      isplitl [RA]; · iexact RA
      isplitl [D]; · iexact D
      isplitl [G]; · iexact G
      isplitl [St]; · iexact St
      isplitl [Hs Fu]
      · isplitl [Hs]; · iexact Hs
        iexact Fu
      isplitl [Ke]; · iexact Ke
      iexact Ba
    ihave Hb := Hb $$ oR
    ihave Hb := Hb $$ [oD]
    · iexact oD
    ihave Hb := Hb $$ [oG]
    · iexact oG
    iexact Hb
  · iexists _
    isplitr
    · ipureintro
      exact Out_put P c v f l _ 14 (by omega) (by rw [hv]; rfl) rfl 15 rfl (acc P l.1 14 c) (fun _ r q => (ov_first P l.1 c r q).symm) hf
    · iexact Ho

/-- The last two reduce-scatter sends are waited for; their send-buffer slots come back. -/
theorem step_rsWait (c : Dev nD) (l : Lane) (v : Lane → Rec) (hv : v l = sumRec 13) {α : Type} (k : PUnit → Act F α) (Q : α → sProp 𝕄) :
    iprop(Ctx P K ∗ MS P c v) ⊢ iprop((MS P c (Function.update v l (sumRec 15)) -∗ run c (k ⟨⟩) Q)
      -∗ run c ((do waitRS' l.1 l.2 13 c; waitRS' l.1 l.2 14 c) >>= k) Q) := by
  obtain ⟨o, ho⟩ : ∃ o, v (opp l) = o := ⟨_, rfl⟩
  have e1 : LS P c l (sumRec 13) o = LSx P c l 15 15 13 (lim o.r) (lim o.s) 30 15 15 15 16 := LS_at P c l _ o _ _ _ _ _ _ _ _ _ _ rfl rfl rfl rfl rfl rfl rfl rfl rfl rfl
  have e2 : LS P c l (sumRec 15) o = LSx P c l 15 15 15 (lim o.r) (lim o.s) 30 15 17 15 16 := LS_at P c l _ o _ _ _ _ _ _ _ _ _ _ rfl rfl rfl rfl rfl rfl rfl rfl rfl rfl
  have eB : Bak P c l 13 = Bak P c l 15 := (Ico_none (by omega) _).trans (Ico_none (by omega) _).symm
  have eS1 : Stg (F := F) c l 15 17 = iprop((∃ f, stAt l.1 c l.2 (par 15) fullShare f) ∗ Stg (F := F) c l 16 17) := bigSep_Ico_succ_bot (by omega) _
  have eS2 : Stg (F := F) c l 16 17 = iprop((∃ f, stAt l.1 c l.2 (par 16) fullShare f) ∗ Stg (F := F) c l 17 17) := bigSep_Ico_succ_bot (by omega) _
  have eS3 : Stg (F := F) c l 17 17 = Stg (F := F) c l 15 15 := (Ico_none (by omega) _).trans (Ico_none (by omega) _).symm
  unfold MS
  iintro ⟨#HC, HO, HP, HA, %f, %hf, Ho⟩ Hk
  ihave HA := (turn_at P c l v _ o hv ho) $$ HA
  rw [e1]
  unfold LSx
  icases HA with ⟨⟨T, S, R, SA, RA, D, G, St, Fu, Ke, Ba⟩, oR, oD, oG, Hb⟩
  simp only [bind_assoc]
  unfold waitRS'
  iapply (wait_sent P K c l 13 15 13 rfl (by omega) (by omega) (fun l => (v l).s) _ _ _ Q) $$ [S SA HO]
  · isplitr; · iexact HC
    isplitl [S]; · iexact S
    isplitl [SA]; · iexact SA
    iexact HO
  rw [sendPay, if_pos (by omega)]
  iintro ⟨S, SA, HO, H1⟩
  iapply (wait_sent P K c l 14 15 14 rfl (by omega) (by omega) (fun l => (v l).s) _ _ _ Q) $$ [S SA HO]
  · isplitr; · iexact HC
    isplitl [S]; · iexact S
    isplitl [SA]; · iexact SA
    iexact HO
  rw [sendPay, if_pos (by omega)]
  iintro ⟨S, SA, HO, H2⟩
  iapply Hk
  isplitl [HO]; · rw [upd_same v l _ (by rw [hv]; rfl)]; iexact HO
  isplitl [HP]; · iexact HP
  isplitr [Ho]
  · ihave Hb := Hb $$ %(sumRec 15)
    rw [e2]
    unfold LSx
    rw [← eB, eS1, eS2, eS3]
    ihave Hb := Hb $$ [T S R SA RA D G St Fu Ke Ba H1 H2]
    · isplitl [T]; · iexact T
      isplitl [S]; · iexact S
      isplitl [R]; · iexact R
      isplitl [SA]; · iexact SA
      isplitl [RA]; · iexact RA
      isplitl [D]; · iexact D
      isplitl [G]; · iexact G
      isplitl [St H1 H2]
      · isplitl [H1]; · iexact H1
        isplitl [H2]; · iexact H2
        iexact St
      isplitl [Fu]; · iexact Fu
      isplitl [Ke]; · iexact Ke
      iexact Ba
    ihave Hb := Hb $$ oR
    ihave Hb := Hb $$ [oD]
    · iexact oD
    ihave Hb := Hb $$ [oG]
    · iexact oG
    iexact Hb
  · iexists _
    isplitr
    · ipureintro
      refine Out_same P c v _ f (fun x => ?_) hf
      by_cases hx : x = l
      · subst hx; rw [Function.update_self, hv]; rfl
      · rw [Function.update_of_ne hx]
    · iexact Ho

end Cert.KernelIdeal.Ring
-- ==== Proof.RunIdeal.Spread.lean ====
/- The all-gather's steps on one lane, and its waits: what each needs and leaves, in terms of the lane's record. -/
module

public import proofs.«01_k».proof.Proof.RunIdeal.Moves

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (P : Parts F) (K : GSem nD τ sig → ℕ)

/-- The record before all-gather step `n` (transfers counted on from the reduce-scatter's). -/
def agRec (n : ℕ) : Rec := ⟨n + 1, n, 15, n + 1⟩
/-- The record when every transfer is in, `w` sends waited for. -/
def endRec (w : ℕ) : Rec := ⟨30, 30, w, 30⟩

theorem step_agMid (c : Dev nD) (l : Lane) (h : Fin 14) (v : Lane → Rec) (hv : v l = agRec (15 + h.val))
    (hok : ∀ l', v l' = agRec (15 + h.val) ∨ v l' = agRec (15 + h.val + 1)) {α : Type} (k : PUnit → Act F α) (Q : α → sProp 𝕄) :
    iprop(Ctx P K ∗ MS P c v) ⊢ iprop((MS P c (Function.update v l (agRec (15 + h.val + 1))) -∗ run c (k ⟨⟩) Q)
      -∗ run c (agMid l.1 l.2 h c >>= k) Q) := by
  obtain ⟨h, hlt⟩ := h
  have h15 : h < 15 := by omega
  have h15' : h + 1 < 15 := by omega
  have h16 : h < 16 := by omega
  obtain ⟨i, hi⟩ : ∃ i, i = 15 + h := ⟨_, rfl⟩
  simp only [← hi] at hv hok ⊢
  obtain ⟨o, ho⟩ : ∃ o, v (opp l) = o := ⟨_, rfl⟩
  have hor : o = agRec i ∨ o = agRec (i + 1) := ho ▸ hok (opp l)
  have hos : i + 1 ≤ o.s ∧ o.s ≤ i + 2 ∧ i ≤ o.r ∧ o.r + 1 = o.s := by
    rcases hor with e | e <;> subst e <;> exact ⟨by simp [agRec], by simp [agRec], by simp [agRec], rfl⟩
  obtain ⟨hs1, hs2, hr1, hs3⟩ := hos
  have hlG : lim o.s = 30 := lim_hi (by omega)
  have hlr : i + 1 < lim o.r := by unfold lim; split_ifs <;> omega
  have hli : o.s ≤ lim i := by unfold lim; split_ifs <;> omega
  have hli1 : lim (i + 1) = 30 := lim_hi (by omega)
  have hli2 : lim (i + 1 + 1) = 30 := lim_hi (by omega)
  have e1 : LS P c l (agRec i) o = LSx P c l (i + 1) i 15 (lim o.r) 30 30 15 17 (i + 1) (i + 1) :=
    LS_at P c l _ o _ _ _ _ _ _ _ _ _ _ rfl rfl rfl rfl hlG (by simp [agRec]; omega) (by simp [agRec]; omega) rfl (by simp [agRec]; omega) rfl
  have e2 : LS P c l (agRec (i + 1)) o = LSx P c l (i + 2) (i + 1) 15 (lim o.r) 30 30 15 17 (i + 2) (i + 2) :=
    LS_at P c l _ o _ _ _ _ _ _ _ _ _ _ rfl rfl rfl rfl hlG (by simp [agRec]; omega) (by simp [agRec]; omega) rfl (by simp [agRec]; omega) rfl
  have eF : Ful (F := F) c l (i + 1) (i + 1) = Ful (F := F) c l (i + 2) (i + 2) := (Ico_none (by omega) _).trans (Ico_none (by omega) _).symm
  have eK : Kep P c l (i + 2) = iprop(agAt l.1 c l.2 (bk l.1 c (i + 1)) halfR (agW l.1 c (wv P l.1 (i + 1) c)) ∗ Kep P c l (i + 1)) :=
    bigSep_Ico_succ_top (show 15 ≤ i + 1 by omega) _
  have hs : ∀ l', i < (v l').s := fun l' => by rcases hok l' with e | e <;> rw [e] <;> simp only [agRec] <;> omega
  have eb : bk l.1 c (⟨h, h16⟩ : Fin 16).val = bk l.1 c (i + 1) := by
    rw [show i + 1 = h + 16 by omega]; exact (bk_add16 l.1 c h (by omega)).symm
  have ew := wv_pass P l.1 i (by omega) c
  unfold MS
  iintro ⟨#HC, HO, HP, HA, %f, %hf, Ho⟩ Hk
  ihave HA := (turn_at P c l v _ o hv ho) $$ HA
  rw [e1]
  unfold LSx
  icases HA with ⟨⟨T, S, R, SA, RA, D, G, St, Fu, Ke, Ba⟩, oR, oD, oG, Hb⟩
  unfold agMid waitAG
  simp only [bind_assoc]
  iapply (recv_lane P K c l i ⟨h, h15⟩ (Fin.ext (by show i % 15 = h; omega)) (by omega) (fun l => (v l).s) hs o.s hli _ _ _ Q) $$ [R RA HO oD]
  · isplitr; · iexact HC
    isplitl [R]; · iexact R
    isplitl [RA]; · iexact RA
    isplitl [HO]; · iexact HO
    iexact oD
  rw [← ew]
  iintro ⟨R, RA, HO, oD, Hs⟩
  iapply (sendAG_lane P K c l ⟨h + 1, h15'⟩ (i + 1) 15 (lim o.r) (16 + min o.r 14) o.r (by show i + 1 = 15 + (h + 1); omega) (by omega) (by omega) hlr (by omega)
    ⟨by rw [hli1]; omega, .inl (by rw [hli1, hli2])⟩ (fun l => (v l).s) (by show (v l).s = _; rw [hv]; rfl) _ Q) $$ [Hs D oR oG SA T S HO]
  · isplitr; · iexact HC
    isplitl [Hs]; · iexact Hs
    unfold Go
    isplitl [D]; · iexact D
    isplitl [oR]; · iexact oR
    isplitl [oG]; · iexact oG
    isplitl [SA]; · iexact SA
    isplitl [T]; · iexact T
    isplitl [S]; · iexact S
    iexact HO
  unfold Go
  rw [← eb]
  iintro ⟨Hs, D, oR, oG, SA, T, S, HO⟩
  iapply (getG_spec l.1 l.2 c ⟨h, h16⟩ halfR (wv P l.1 (i + 1) c) _ Q) $$ [Hs]
  · iexact Hs
  rw [eb, outV_eq]
  iintro Hs
  iapply (putO_spec l.1 l.2 c ⟨h, h16⟩ f (blkA l.2 fun r q => widen (wv P l.1 (i + 1) c r q)) k Q) $$ [Ho]
  · iexact Ho
  iintro Ho
  iapply Hk
  isplitl [HO]; · rw [upd_s]; iexact HO
  isplitl [HP]; · iexact HP
  isplitr [Ho]
  · ihave Hb := Hb $$ %(agRec (i + 1))
    rw [e2]
    unfold LSx
    rw [← eF, eK]
    ihave Hb := Hb $$ [T S R SA RA D G St Fu Ke Ba Hs]
    · isplitl [T]; · iexact T
      isplitl [S]; · iexact S
      isplitl [R]; · iexact R
      isplitl [SA]; · iexact SA
      isplitl [RA]; · iexact RA
      isplitl [D]; · iexact D
      isplitl [G]; · iexact G
      isplitl [St]; · iexact St
      isplitl [Fu]; · iexact Fu
      isplitl [Ke Hs]
      · isplitl [Hs]; · iexact Hs
        iexact Ke
      iexact Ba
    ihave Hb := Hb $$ oR
    ihave Hb := Hb $$ [oD]
    · iexact oD
    ihave Hb := Hb $$ [oG]
    · iexact oG
    iexact Hb
  · iexists _
    isplitr
    · ipureintro
      refine Out_put P c v f l _ i (by omega) (by rw [hv]; rfl) rfl ⟨h, h16⟩ eb (fun r q => widen (wv P l.1 (i + 1) c r q)) (fun _ r q => ?_) hf
      rw [ew]
      exact (if_neg (by omega)).symm
    · iexact Ho

theorem step_agLast (c : Dev nD) (l : Lane) (v : Lane → Rec) (hv : v l = agRec 29)
    (hok : ∀ l', v l' = agRec 29 ∨ v l' = endRec 15) {α : Type} (k : PUnit → Act F α) (Q : α → sProp 𝕄) :
    iprop(Ctx P K ∗ MS P c v) ⊢ iprop((MS P c (Function.update v l (endRec 15)) -∗ run c (k ⟨⟩) Q)
      -∗ run c (agLast l.1 l.2 c >>= k) Q) := by
  obtain ⟨o, ho⟩ : ∃ o, v (opp l) = o := ⟨_, rfl⟩
  have hor : o = agRec 29 ∨ o = endRec 15 := ho ▸ hok (opp l)
  have hos : o.s = 30 := by rcases hor with e | e <;> subst e <;> rfl
  have e1 : LS P c l (agRec 29) o = LSx P c l 30 29 15 (lim o.r) (lim o.s) 30 15 17 30 30 := LS_at P c l _ o _ _ _ _ _ _ _ _ _ _ rfl rfl rfl rfl rfl rfl rfl rfl rfl rfl
  have e2 : LS P c l (endRec 15) o = LSx P c l 30 30 15 (lim o.r) (lim o.s) 30 15 17 30 31 := LS_at P c l _ o _ _ _ _ _ _ _ _ _ _ rfl rfl rfl rfl rfl rfl rfl rfl rfl rfl
  have eF : Ful (F := F) c l 30 31 = iprop((∃ f, agAt l.1 c l.2 (bk l.1 c 30) fullShare f) ∗ Ful (F := F) c l 30 30) :=
    bigSep_Ico_succ_top (show 30 ≤ 30 by omega) _
  have hs : ∀ l', 29 < (v l').s := fun l' => by rcases hok l' with e | e <;> rw [e] <;> simp [agRec, endRec]
  have eb : bk l.1 c (14 : Fin 16).val = bk l.1 c (29 + 1) := (bk_add16 l.1 c 14 (by omega)).symm
  unfold MS
  iintro ⟨#HC, HO, HP, HA, %f, %hf, Ho⟩ Hk
  ihave HA := (turn_at P c l v _ o hv ho) $$ HA
  rw [e1]
  unfold LSx
  icases HA with ⟨⟨T, S, R, SA, RA, D, G, St, Fu, Ke, Ba⟩, oR, oD, oG, Hb⟩
  unfold agLast waitAG
  simp only [bind_assoc]
  iapply (recv_lane P K c l 29 14 rfl (by omega) (fun l => (v l).s) hs o.s (by rw [hos]; decide) _ _ _ Q) $$ [R RA HO oD]
  · isplitr; · iexact HC
    isplitl [R]; · iexact R
    isplitl [RA]; · iexact RA
    isplitl [HO]; · iexact HO
    iexact oD
  rw [← eb]
  iintro ⟨R, RA, HO, oD, Hs⟩
  iapply (getG_spec l.1 l.2 c 14 fullShare (wv P l.1 29 (succ (!l.1) c)) _ Q) $$ [Hs]
  · iexact Hs
  rw [eb, outV_eq]
  iintro Hs
  iapply (putO_spec l.1 l.2 c 14 f (blkA l.2 fun r q => widen (wv P l.1 29 (succ (!l.1) c) r q)) k Q) $$ [Ho]
  · iexact Ho
  iintro Ho
  iapply Hk
  isplitl [HO]; · rw [upd_same v l _ (by rw [hv]; rfl)]; iexact HO
  isplitl [HP]; · iexact HP
  isplitr [Ho]
  · ihave Hb := Hb $$ %(endRec 15)
    rw [e2]
    unfold LSx
    rw [eF]
    ihave Hb := Hb $$ [T S R SA RA D G St Fu Ke Ba Hs]
    · isplitl [T]; · iexact T
      isplitl [S]; · iexact S
      isplitl [R]; · iexact R
      isplitl [SA]; · iexact SA
      isplitl [RA]; · iexact RA
      isplitl [D]; · iexact D
      isplitl [G]; · iexact G
      isplitl [St]; · iexact St
      isplitl [Hs Fu]
      · isplitl [Hs]; · iexists _; iexact Hs
        iexact Fu
      isplitl [Ke]; · iexact Ke
      iexact Ba
    ihave Hb := Hb $$ oR
    ihave Hb := Hb $$ [oD]
    · iexact oD
    ihave Hb := Hb $$ [oG]
    · iexact oG
    iexact Hb
  · iexists _
    isplitr
    · ipureintro
      exact Out_put P c v f l _ 29 (by omega) (by rw [hv]; rfl) rfl 14 eb (fun r q => widen (wv P l.1 29 (succ (!l.1) c) r q)) (fun _ r q => (if_neg (by omega)).symm) hf
    · iexact Ho

/-- A lane's all-gather sends are waited for one by one; the halves lent come back. -/
theorem step_agWait (c : Dev nD) (l : Lane) (h : Fin 15) (v : Lane → Rec) (hv : v l = endRec (15 + h.val)) {α : Type} (k : PUnit → Act F α) (Q : α → sProp 𝕄) :
    iprop(Ctx P K ∗ MS P c v) ⊢ iprop((MS P c (Function.update v l (endRec (15 + (h.val + 1)))) -∗ run c (k ⟨⟩) Q)
      -∗ run c (waitAG' l.1 l.2 h c >>= k) Q) := by
  obtain ⟨o, ho⟩ : ∃ o, v (opp l) = o := ⟨_, rfl⟩
  have e1 : ∀ n, LS P c l (endRec (15 + n)) o = LSx P c l 30 30 (15 + n) (lim o.r) (lim o.s) 30 15 17 30 31 := fun n =>
    LS_at P c l _ o _ _ _ _ _ _ _ _ _ _ rfl rfl rfl rfl rfl rfl rfl (by simp [endRec]) rfl rfl
  have eB : Bak P c l (15 + (h.val + 1)) = iprop(agAt l.1 c l.2 (bk l.1 c (15 + h.val)) halfL (agW l.1 c (wv P l.1 (15 + h.val) c)) ∗ Bak P c l (15 + h.val)) :=
    bigSep_Ico_succ_top (show 15 ≤ 15 + h.val by omega) _
  unfold MS
  iintro ⟨#HC, HO, HP, HA, %f, %hf, Ho⟩ Hk
  ihave HA := (turn_at P c l v _ o hv ho) $$ HA
  rw [e1]
  unfold LSx
  icases HA with ⟨⟨T, S, R, SA, RA, D, G, St, Fu, Ke, Ba⟩, oR, oD, oG, Hb⟩
  unfold waitAG'
  iapply (wait_sent P K c l (15 + h.val) 30 h (Fin.ext (by show (15 + h.val) % 15 = h.val; omega)) (by omega) (by omega) (fun l => (v l).s) _ _ _ Q) $$ [S SA HO]
  · isplitr; · iexact HC
    isplitl [S]; · iexact S
    isplitl [SA]; · iexact SA
    iexact HO
  rw [sendPay, if_neg (by omega)]
  iintro ⟨S, SA, HO, H1⟩
  iapply Hk
  isplitl [HO]; · rw [upd_same v l _ (by rw [hv]; rfl)]; iexact HO
  isplitl [HP]; · iexact HP
  isplitr [Ho]
  · ihave Hb := Hb $$ %(endRec (15 + (h.val + 1)))
    rw [e1]
    unfold LSx
    rw [eB]
    ihave Hb := Hb $$ [T S R SA RA D G St Fu Ke Ba H1]
    · isplitl [T]; · iexact T
      isplitl [S]; · iexact S
      isplitl [R]; · iexact R
      isplitl [SA]; · iexact SA
      isplitl [RA]; · iexact RA
      isplitl [D]; · iexact D
      isplitl [G]; · iexact G
      isplitl [St]; · iexact St
      isplitl [Fu]; · iexact Fu
      isplitl [Ke]; · iexact Ke
      isplitl [H1]; · iexact H1
      iexact Ba
    ihave Hb := Hb $$ oR
    ihave Hb := Hb $$ [oD]
    · iexact oD
    ihave Hb := Hb $$ [oG]
    · iexact oG
    iexact Hb
  · iexists _
    isplitr
    · ipureintro
      refine Out_same P c v _ f (fun x => ?_) hf
      by_cases hx : x = l
      · subst hx; rw [Function.update_self, hv]; rfl
      · rw [Function.update_of_ne hx]
    · iexact Ho

/-! ## The first sends of each half -/

/-- The records around the first reduce-scatter send and around the first all-gather send: nothing begun, and the
    slot to be sent taken out. -/
def zeroRec : Rec := ⟨0, 0, 0, 0⟩
def zeroRec' : Rec := ⟨0, 0, 0, 1⟩
def sumRec' : Rec := ⟨15, 15, 15, 16⟩

theorem step_rsStart (c : Dev nD) (l : Lane) (v : Lane → Rec) (hv : v l = zeroRec') (hok : ∀ l', (v l').r = 0) {α : Type} (k : PUnit → Act F α) (Q : α → sProp 𝕄) :
    iprop(Ctx P K ∗ MS P c v ∗ stAt l.1 c l.2 0 fullShare (stW l.1 c (wv P l.1 0 c))) ⊢ iprop((MS P c (Function.update v l (midRec 0)) -∗ run c (k ⟨⟩) Q)
      -∗ run c (sendRS l.1 l.2 0 0 c >>= k) Q) := by
  obtain ⟨o, ho⟩ : ∃ o, v (opp l) = o := ⟨_, rfl⟩
  have hor : o.r = 0 := ho ▸ hok (opp l)
  have e1 : LS P c l zeroRec' o = LSx P c l 0 0 0 15 (lim o.s) 16 1 2 15 1 := LS_at P c l _ o _ _ _ _ _ _ _ _ _ _ rfl rfl rfl (by rw [hor]; rfl) rfl rfl rfl rfl rfl rfl
  have e2 : LS P c l (midRec 0) o = LSx P c l 1 0 0 15 (lim o.s) 16 1 2 15 1 := LS_at P c l _ o _ _ _ _ _ _ _ _ _ _ rfl rfl rfl (by rw [hor]; rfl) rfl rfl rfl rfl rfl rfl
  have eK : Kep P c l 0 = Kep P c l 1 := (Ico_none (by omega) _).trans (Ico_none (by omega) _).symm
  unfold MS
  iintro ⟨#HC, ⟨HO, HP, HA, %f, %hf, Ho⟩, Hs⟩ Hk
  ihave HA := (turn_at P c l v _ o hv ho) $$ HA
  rw [e1]
  unfold LSx
  icases HA with ⟨⟨T, S, R, SA, RA, D, G, St, Fu, Ke, Ba⟩, oR, oD, oG, Hb⟩
  iapply (sendRS_lane P K c l 0 0 0 15 (16 + min o.r 14) o.r rfl 0 rfl (by omega) (by omega) (by omega) (by omega)
    ⟨show 15 ≤ 16 + min o.r 14 by omega, .inl rfl⟩ (fun l => (v l).s) (by show (v l).s = _; rw [hv]; rfl) k Q) $$ [Hs D oR oG SA T S HO]
  · isplitr; · iexact HC
    isplitl [Hs]; · iexact Hs
    unfold Go
    isplitl [D]; · iexact D
    isplitl [oR]; · iexact oR
    isplitl [oG]; · iexact oG
    isplitl [SA]; · iexact SA
    isplitl [T]; · iexact T
    isplitl [S]; · iexact S
    iexact HO
  unfold Go
  iintro ⟨D, oR, oG, SA, T, S, HO⟩
  iapply Hk
  isplitl [HO]; · rw [upd_s]; iexact HO
  isplitl [HP]; · iexact HP
  isplitr [Ho]
  · ihave Hb := Hb $$ %(midRec 0)
    rw [e2]
    unfold LSx
    rw [← eK]
    ihave Hb := Hb $$ [T S R SA RA D G St Fu Ke Ba]
    · isplitl [T]; · iexact T
      isplitl [S]; · iexact S
      isplitl [R]; · iexact R
      isplitl [SA]; · iexact SA
      isplitl [RA]; · iexact RA
      isplitl [D]; · iexact D
      isplitl [G]; · iexact G
      isplitl [St]; · iexact St
      isplitl [Fu]; · iexact Fu
      isplitl [Ke]; · iexact Ke
      iexact Ba
    ihave Hb := Hb $$ oR
    ihave Hb := Hb $$ [oD]
    · iexact oD
    ihave Hb := Hb $$ [oG]
    · iexact oG
    iexact Hb
  · iexists f
    isplitr
    · ipureintro
      refine Out_same P c v _ f (fun x => ?_) hf
      by_cases hx : x = l
      · subst hx; rw [Function.update_self, hv]; rfl
      · rw [Function.update_of_ne hx]
    · iexact Ho

theorem step_agStart (c : Dev nD) (l : Lane) (v : Lane → Rec) (hv : v l = sumRec') (hok : ∀ l', (v l').r = 15) {α : Type} (k : PUnit → Act F α) (Q : α → sProp 𝕄) :
    iprop(Ctx P K ∗ MS P c v ∗ agAt l.1 c l.2 (bk l.1 c 15) fullShare (agW l.1 c (wv P l.1 15 c))) ⊢ iprop((MS P c (Function.update v l (agRec 15)) -∗ run c (k ⟨⟩) Q)
      -∗ run c (sendAG l.1 l.2 0 c >>= k) Q) := by
  obtain ⟨o, ho⟩ : ∃ o, v (opp l) = o := ⟨_, rfl⟩
  have hor : o.r = 15 := ho ▸ hok (opp l)
  have e1 : LS P c l sumRec' o = LSx P c l 15 15 15 28 (lim o.s) 30 15 17 16 16 := LS_at P c l _ o _ _ _ _ _ _ _ _ _ _ rfl rfl rfl (by rw [hor]; rfl) rfl rfl rfl rfl rfl rfl
  have e2 : LS P c l (agRec 15) o = LSx P c l 16 15 15 28 (lim o.s) 30 15 17 16 16 := LS_at P c l _ o _ _ _ _ _ _ _ _ _ _ rfl rfl rfl (by rw [hor]; rfl) rfl rfl rfl rfl rfl rfl
  have eK : Kep P c l 16 = iprop(agAt l.1 c l.2 (bk l.1 c 15) halfR (agW l.1 c (wv P l.1 15 c)) ∗ Kep P c l 15) :=
    bigSep_Ico_succ_top (show 15 ≤ 15 by omega) _
  unfold MS
  iintro ⟨#HC, ⟨HO, HP, HA, %f, %hf, Ho⟩, Hs⟩ Hk
  ihave HA := (turn_at P c l v _ o hv ho) $$ HA
  rw [e1]
  unfold LSx
  icases HA with ⟨⟨T, S, R, SA, RA, D, G, St, Fu, Ke, Ba⟩, oR, oD, oG, Hb⟩
  iapply (sendAG_lane P K c l 0 15 15 28 (16 + min o.r 14) o.r rfl (by omega) (by omega) (by omega) (by omega)
    (by rw [hor]; exact ⟨by decide, .inr ⟨by decide, by decide, by decide⟩⟩) (fun l => (v l).s) (by show (v l).s = _; rw [hv]; rfl) k Q) $$ [Hs D oR oG SA T S HO]
  · isplitr; · iexact HC
    isplitl [Hs]; · iexact Hs
    unfold Go
    isplitl [D]; · iexact D
    isplitl [oR]; · iexact oR
    isplitl [oG]; · iexact oG
    isplitl [SA]; · iexact SA
    isplitl [T]; · iexact T
    isplitl [S]; · iexact S
    iexact HO
  unfold Go
  iintro ⟨Hs, D, oR, oG, SA, T, S, HO⟩
  iapply Hk
  isplitl [HO]; · rw [upd_s]; iexact HO
  isplitl [HP]; · iexact HP
  isplitr [Ho]
  · ihave Hb := Hb $$ %(agRec 15)
    rw [e2]
    unfold LSx
    rw [eK]
    ihave Hb := Hb $$ [T S R SA RA D G St Fu Ke Ba Hs]
    · isplitl [T]; · iexact T
      isplitl [S]; · iexact S
      isplitl [R]; · iexact R
      isplitl [SA]; · iexact SA
      isplitl [RA]; · iexact RA
      isplitl [D]; · iexact D
      isplitl [G]; · iexact G
      isplitl [St]; · iexact St
      isplitl [Fu]; · iexact Fu
      isplitl [Ke Hs]
      · isplitl [Hs]; · iexact Hs
        iexact Ke
      iexact Ba
    ihave Hb := Hb $$ oR
    ihave Hb := Hb $$ [oD]
    · iexact oD
    ihave Hb := Hb $$ [oG]
    · iexact oG
    iexact Hb
  · iexists f
    isplitr
    · ipureintro
      refine Out_same P c v _ f (fun x => ?_) hf
      by_cases hx : x = l
      · subst hx; rw [Function.update_self, hv]; rfl
      · rw [Function.update_of_ne hx]
    · iexact Ho

end Cert.KernelIdeal.Ring
-- ==== Proof.RunIdeal.Whole.lean ====
/- The body after the barrier: its loops over lanes and hops, each from its step, put together. -/
module

public import proofs.«01_k».proof.Proof.RunIdeal.Spread

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (P : Parts F) (K : GSem nD τ sig → ℕ)

/-! ## Loops -/

/-- What each entry of a list brings. -/
def Bring {β : Type} (X : β → sProp 𝕄) : List β → sProp 𝕄
  | [] => iprop(emp)
  | x :: xs => iprop(X x ∗ Bring X xs)

/-- A loop whose every entry takes its own lane from record `b` to record `a`. -/
theorem each_spec {β α : Type} (c : Dev nD) (g : β → Lane) (X : β → sProp 𝕄) (b a : Rec) (ok : Rec → Prop) (ha : ok a) (f : β → Act F PUnit)
    (step : ∀ (x : β) (v : Lane → Rec), v (g x) = b → (∀ l', ok (v l')) → ∀ (k : PUnit → Act F α) (Q : α → sProp 𝕄),
      iprop(Ctx P K ∗ MS P c v ∗ X x) ⊢ iprop((MS P c (Function.update v (g x) a) -∗ run c (k ⟨⟩) Q) -∗ run c (f x >>= k) Q)) :
    ∀ (xs : List β) (_ : (xs.map g).Nodup) (v : Lane → Rec) (_ : ∀ l', ok (v l')) (_ : ∀ x ∈ xs, v (g x) = b) (k : PUnit → Act F α) (Q : α → sProp 𝕄),
      iprop(Ctx P K ∗ MS P c v ∗ Bring X xs)
        ⊢ iprop((MS P c (fun l => if l ∈ xs.map g then a else v l) -∗ run c (k ⟨⟩) Q) -∗ run c (each f xs >>= k) Q) := by
  intro xs
  induction xs with
  | nil =>
    intro _ v _ _ k Q
    have e : (fun l => if l ∈ ([] : List β).map g then a else v l) = v := by funext l; simp
    rw [e]
    show _ ⊢ iprop(_ -∗ run c (k ⟨⟩) Q)
    iintro ⟨-, H, -⟩ Hk
    iapply Hk
    iexact H
  | cons x xs ih =>
    intro hnd v hok hv k Q
    rw [List.map_cons, List.nodup_cons] at hnd
    have hok' : ∀ l', ok (Function.update v (g x) a l') := fun l' => by
      by_cases h : l' = g x
      · subst h; rw [Function.update_self]; exact ha
      · rw [Function.update_of_ne h]; exact hok l'
    have hv' : ∀ y ∈ xs, Function.update v (g x) a (g y) = b := fun y hy => by
      have hn : g y ≠ g x := fun h => hnd.1 (by rw [← h]; exact List.mem_map_of_mem hy)
      rw [Function.update_of_ne hn]
      exact hv y (List.mem_cons_of_mem x hy)
    have e : (fun l => if l ∈ (x :: xs).map g then a else v l) = fun l => if l ∈ xs.map g then a else Function.update v (g x) a l := by
      funext l
      by_cases h1 : l ∈ xs.map g
      · rw [if_pos h1, if_pos (by rw [List.map_cons]; exact List.mem_cons_of_mem _ h1)]
      · rw [if_neg h1]
        by_cases h2 : l = g x
        · subst h2; rw [Function.update_self, if_pos (by rw [List.map_cons]; exact List.mem_cons_self)]
        · rw [Function.update_of_ne h2, if_neg (by rw [List.map_cons, List.mem_cons]; exact fun h => h.elim h2 h1)]
    rw [e]
    have e2 : each f (x :: xs) >>= k = f x >>= fun _ => each f xs >>= k := by
      show (f x >>= fun _ => each f xs) >>= k = _
      rw [bind_assoc]
    rw [e2]
    show iprop(Ctx P K ∗ MS P c v ∗ X x ∗ Bring X xs) ⊢ _
    iintro ⟨#HC, H, HX, HB⟩ Hk
    iapply (step x v (hv x List.mem_cons_self) hok _ Q) $$ [H HX]
    · isplitr; · iexact HC
      isplitl [H]; · iexact H
      iexact HX
    iintro H
    iapply (ih hnd.2 _ hok' hv' k Q) $$ [H HB]
    · isplitr; · iexact HC
      isplitl [H]; · iexact H
      iexact HB
    iexact Hk

theorem Bring_none {β : Type} (xs : List β) : (iprop(emp) : sProp 𝕄) ⊢ Bring (F := F) (fun _ => iprop(emp)) xs := by
  induction xs with
  | nil => exact Entails.of_eq rfl
  | cons x xs ih =>
    show _ ⊢ iprop(emp ∗ Bring _ xs)
    iintro -
    isplitr; · iempintro
    iapply ih
    iempintro

/-- A loop over all the lanes. -/
theorem all_spec {α : Type} (c : Dev nD) (b a : Rec) (f : Lane → Act F PUnit) (xs : List Lane) (hnd : xs.Nodup) (hall : ∀ l, l ∈ xs)
    (step : ∀ (l : Lane) (v : Lane → Rec), v l = b → (∀ l', v l' = b ∨ v l' = a) → ∀ (k : PUnit → Act F α) (Q : α → sProp 𝕄),
      iprop(Ctx P K ∗ MS P c v) ⊢ iprop((MS P c (Function.update v l a) -∗ run c (k ⟨⟩) Q) -∗ run c (f l >>= k) Q))
    (k : PUnit → Act F α) (Q : α → sProp 𝕄) :
    iprop(Ctx P K ∗ MS P c (fun _ => b)) ⊢ iprop((MS P c (fun _ => a) -∗ run c (k ⟨⟩) Q) -∗ run c (each f xs >>= k) Q) := by
  have h := each_spec P K c id (fun _ => iprop(emp)) b a (fun x => x = b ∨ x = a) (.inr rfl) f
    (fun x v h1 h2 k Q => by
      iintro ⟨#HC, H, -⟩
      iapply (step x v h1 h2 k Q)
      isplitr; · iexact HC
      iexact H) xs (by rw [List.map_id]; exact hnd) (fun _ => b) (fun _ => .inl rfl) (fun _ _ => rfl) k Q
  have e : (fun l => if l ∈ xs.map id then a else b) = fun _ : Lane => a := by
    funext l; rw [List.map_id, if_pos (hall l)]
  rw [e] at h
  iintro ⟨#HC, H⟩
  iapply h
  isplitr; · iexact HC
  isplitl [H]; · iexact H
  iapply (Bring_none (F := F) xs)
  iempintro

/-- A loop over hops: the state depends on how many are done. -/
theorem hops_spec {β α : Type} (c : Dev nD) (S : ℕ → sProp 𝕄) (f : β → Act F PUnit) :
    ∀ (xs : List β) (n : ℕ)
      (_ : ∀ (i : ℕ) (hi : i < xs.length) (k : PUnit → Act F α) (Q : α → sProp 𝕄),
        iprop(Ctx P K ∗ S (n + i)) ⊢ iprop((S (n + i + 1) -∗ run c (k ⟨⟩) Q) -∗ run c (f xs[i] >>= k) Q))
      (k : PUnit → Act F α) (Q : α → sProp 𝕄),
      iprop(Ctx P K ∗ S n) ⊢ iprop((S (n + xs.length) -∗ run c (k ⟨⟩) Q) -∗ run c (each f xs >>= k) Q) := by
  intro xs
  induction xs with
  | nil =>
    intro n _ k Q
    show _ ⊢ iprop((S n -∗ _) -∗ run c (k ⟨⟩) Q)
    iintro ⟨-, H⟩ Hk
    iapply Hk
    iexact H
  | cons x xs ih =>
    intro n step k Q
    have e2 : each f (x :: xs) >>= k = f x >>= fun _ => each f xs >>= k := by
      show (f x >>= fun _ => each f xs) >>= k = _
      rw [bind_assoc]
    rw [e2]
    have h0 := step 0 (by simp) (fun _ => each f xs >>= k) Q
    have h1 := ih (n + 1) (fun i hi k Q => by
      have h := step (i + 1) (by simpa using hi) k Q
      rw [show n + (i + 1) = n + 1 + i by omega] at h
      exact h) k Q
    rw [show n + 1 + xs.length = n + (x :: xs).length by rw [List.length_cons]; omega] at h1
    iintro ⟨#HC, H⟩ Hk
    iapply h0 $$ [H]
    · isplitr; · iexact HC
      iexact H
    iintro H
    iapply h1 $$ [H]
    · isplitr; · iexact HC
      iexact H
    iexact Hk

theorem hops13_at : ∀ i (hi : i < hops13.length), (hops13[i]).val = i := by decide
theorem hops14_at : ∀ i (hi : i < hops14.length), (hops14[i]).val = i := by decide
theorem hops15_at : ∀ i (hi : i < hops15.length), (hops15[i]).val = i := by decide

/-! ## Taking out the slots of the first sends -/

theorem pick (δ : Bool) (S : Fin 4 → sProp 𝕄) :
    (bigSep Finset.univ fun l : Lane => if l.1 = δ then S l.2 else iprop(emp)) ⊢ bigSep Finset.univ S := by
  rw [bigSep_univ_prod]
  refine (bigSep_elim (Finset.mem_univ δ)).trans (Entails.of_eq (bigSep_congr fun j _ => ?_))
  exact if_pos rfl

theorem take (c : Dev nD) (δ : Bool) (b a : Rec) (hs : a.s = b.s) (hr : a.r = b.r) (S : Fin 4 → sProp 𝕄)
    (h : ∀ j o, LS P c (δ, j) b o ⊢ iprop(LS P c (δ, j) a o ∗ S j)) (v : Lane → Rec) (hv : ∀ j, v (δ, j) = b) :
    MS P c v ⊢ iprop(MS P c (fun l => if l.1 = δ then a else v l) ∗ bigSep Finset.univ S) := by
  have hsr : ∀ l, (if l.1 = δ then a else v l).s = (v l).s ∧ (if l.1 = δ then a else v l).r = (v l).r := fun l => by
    by_cases hl : l.1 = δ
    · rw [if_pos hl]; obtain ⟨δ', j⟩ := l; subst hl; rw [hv j]; exact ⟨hs, hr⟩
    · rw [if_neg hl]; exact ⟨rfl, rfl⟩
  have hA : All P c v ⊢ iprop(All P c (fun l => if l.1 = δ then a else v l) ∗ bigSep Finset.univ S) := by
    unfold All
    have h1 : (bigSep Finset.univ fun l : Lane => LS P c l (v l) (v (opp l)))
        ⊢ bigSep Finset.univ fun l : Lane => iprop(LS P c l (if l.1 = δ then a else v l) (if (opp l).1 = δ then a else v (opp l)) ∗ if l.1 = δ then S l.2 else iprop(emp)) := by
      refine bigSep_mono fun l _ => ?_
      have eo : LS P c l (if l.1 = δ then a else v l) (if (opp l).1 = δ then a else v (opp l)) = LS P c l (if l.1 = δ then a else v l) (v (opp l)) := by
        unfold LS; rw [(hsr (opp l)).1, (hsr (opp l)).2]
      rw [eo]
      by_cases hl : l.1 = δ
      · rw [if_pos hl, if_pos hl]
        obtain ⟨δ', j⟩ := l
        have hl : δ' = δ := hl
        subst hl
        rw [hv j]
        exact h j _
      · rw [if_neg hl, if_neg hl]
        exact BI.sep_emp_intro
    refine h1.trans ?_
    rw [bigSep_sep']
    iintro ⟨H1, H2⟩
    isplitl [H1]; · iexact H1
    iapply (pick δ S)
    iexact H2
  have eO : (fun l => (if l.1 = δ then a else v l).s) = fun l => (v l).s := funext fun l => (hsr l).1
  unfold MS
  rw [eO]
  iintro ⟨HO, HP, HA, %f, %hf, Ho⟩
  ihave HA := hA $$ HA
  icases HA with ⟨HA, HS⟩
  isplitr [HS]
  · isplitl [HO]; · iexact HO
    isplitl [HP]; · iexact HP
    isplitl [HA]; · iexact HA
    iexists f
    isplitr
    · ipureintro
      exact Out_same P c v _ f (fun l => (hsr l).2) hf
    · iexact Ho
  · iexact HS

theorem Bring_cols (S : Fin 4 → sProp 𝕄) : bigSep Finset.univ S ⊢ Bring S cols := by
  rw [show (Finset.univ : Finset (Fin 4)) = {0, 1, 2, 3} from by decide, bigSep_insert (by decide), bigSep_insert (by decide), bigSep_insert (by decide), bigSep_singleton]
  show iprop(S 0 ∗ S 1 ∗ S 2 ∗ S 3) ⊢ iprop(S 0 ∗ S 1 ∗ S 2 ∗ S 3 ∗ emp)
  iintro ⟨H0, H1, H2, H3⟩
  isplitl [H0]; · iexact H0
  isplitl [H1]; · iexact H1
  isplitl [H2]; · iexact H2
  isplitl [H3]; · iexact H3
  iempintro

theorem cols_nodup : ∀ δ : Bool, (cols.map fun j => ((δ, j) : Lane)).Nodup := by decide
theorem cols_mem : ∀ (δ : Bool) (l : Lane), l ∈ cols.map (fun j => ((δ, j) : Lane)) ↔ l.1 = δ := by decide
theorem cols_if (δ : Bool) (a b : Rec) (v : Lane → Rec) :
    (fun l => if l ∈ cols.map (fun j => ((δ, j) : Lane)) then a else if l.1 = δ then b else v l) = fun l => if l.1 = δ then a else v l := by
  funext l
  by_cases h : l.1 = δ
  · rw [if_pos ((cols_mem δ l).mpr h), if_pos h]
  · rw [if_neg (fun h' => h ((cols_mem δ l).mp h')), if_neg h, if_neg h]

theorem startRS_spec (c : Dev nD) (δ : Bool) (v : Lane → Rec) (hv : ∀ j, v (δ, j) = zeroRec) (hr : ∀ l, (v l).r = 0) {α : Type} (k : PUnit → Act F α) (Q : α → sProp 𝕄) :
    iprop(Ctx P K ∗ MS P c v) ⊢ iprop((MS P c (fun l => if l.1 = δ then midRec 0 else v l) -∗ run c (k ⟨⟩) Q) -∗ run c (startRS δ c >>= k) Q) := by
  have ht := take P c δ zeroRec zeroRec' rfl rfl (fun j => iprop(∃ f, stAt δ c j 0 fullShare f)) (fun j o => by
    have e : LS P c (δ, j) zeroRec o = LSx P c (δ, j) 0 0 0 (lim o.r) (lim o.s) 16 0 2 15 1 := rfl
    have e' : LS P c (δ, j) zeroRec' o = LSx P c (δ, j) 0 0 0 (lim o.r) (lim o.s) 16 1 2 15 1 := rfl
    have eS : Stg (F := F) c (δ, j) 0 2 = iprop((∃ f, stAt δ c j 0 fullShare f) ∗ Stg (F := F) c (δ, j) 1 2) := bigSep_Ico_succ_bot (by omega) _
    rw [e, e']
    unfold LSx
    rw [eS]
    iintro ⟨H1, H2, H3, H4, H5, H6, H7, ⟨Hs, H8⟩, H9⟩
    isplitr [Hs]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact Hs) v hv
  have hl := each_spec (α := α) P K c (fun j => ((δ, j) : Lane)) (fun j => stAt δ c j 0 fullShare (stW δ c (wv P δ 0 c))) zeroRec' (midRec 0) (fun x => x.r = 0) rfl
    (fun j => sendRS δ j 0 0 c) (fun j v h1 h2 k Q => step_rsStart P K c (δ, j) v h1 h2 k Q) cols (cols_nodup δ) (fun l => if l.1 = δ then zeroRec' else v l)
    (fun l => by by_cases h : l.1 = δ
                 · rw [if_pos h]; rfl
                 · rw [if_neg h]; exact hr l)
    (fun j _ => if_pos rfl) k Q
  rw [cols_if] at hl
  have e : startRS δ c >>= k = rsInit δ c >>= fun _ => each (fun j => sendRS δ j 0 0 c) cols >>= k := by
    unfold startRS; rw [bind_assoc]
  rw [e]
  iintro ⟨#HC, H⟩ Hk
  ihave H := ht $$ H
  icases H with ⟨H, Hs⟩
  unfold MS at hl ⊢
  icases H with ⟨HO, HP, HA, Ho⟩
  iapply (rsInit_spec δ c P _ Q) $$ [HP Hs]
  · isplitl [HP]; · iexact HP
    iexact Hs
  iintro ⟨HP, Hs⟩
  iapply hl $$ [HO HP HA Ho Hs]
  · isplitr; · iexact HC
    isplitr [Hs]
    · isplitl [HO]; · iexact HO
      isplitl [HP]; · iexact HP
      isplitl [HA]; · iexact HA
      iexact Ho
    · iapply (Bring_cols (F := F) _)
      iexact Hs
  iexact Hk

theorem colIn_surj (q : Fin 1024) : ∃ j q', colIn j q' = q :=
  ⟨⟨q.val / 256, by omega⟩, ⟨q.val % 256, Nat.mod_lt _ (by decide)⟩, Fin.ext (by show 256 * (q.val / 256) + q.val % 256 = q.val; omega)⟩

theorem startAG_spec (c : Dev nD) (δ : Bool) (v : Lane → Rec) (hv : ∀ j, v (δ, j) = sumRec 15) (hr : ∀ l, (v l).r = 15) {α : Type} (k : PUnit → Act F α) (Q : α → sProp 𝕄) :
    iprop(Ctx P K ∗ MS P c v) ⊢ iprop((MS P c (fun l => if l.1 = δ then agRec 15 else v l) -∗ run c (k ⟨⟩) Q) -∗ run c (startAG δ c >>= k) Q) := by
  have ht := take P c δ (sumRec 15) sumRec' rfl rfl (fun j => iprop(∃ f, agAt δ c j (bk δ c 15) fullShare f)) (fun j o => by
    have e : LS P c (δ, j) (sumRec 15) o = LSx P c (δ, j) 15 15 15 (lim o.r) (lim o.s) 30 15 17 15 16 := rfl
    have e' : LS P c (δ, j) sumRec' o = LSx P c (δ, j) 15 15 15 (lim o.r) (lim o.s) 30 15 17 16 16 := rfl
    have eS : Ful (F := F) c (δ, j) 15 16 = iprop((∃ f, agAt δ c j (bk δ c 15) fullShare f) ∗ Ful (F := F) c (δ, j) 16 16) := bigSep_Ico_succ_bot (by omega) _
    rw [e, e']
    unfold LSx
    rw [eS]
    iintro ⟨H1, H2, H3, H4, H5, H6, H7, H8, ⟨Hs, H9⟩, H10⟩
    isplitr [Hs]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iexact Hs) v hv
  have hl := each_spec (α := α) P K c (fun j => ((δ, j) : Lane)) (fun j => agAt δ c j (bk δ c 15) fullShare (agW δ c (wv P δ 15 c))) sumRec' (agRec 15) (fun x => x.r = 15) rfl
    (fun j => sendAG δ j 0 c) (fun j v h1 h2 k Q => step_agStart P K c (δ, j) v h1 h2 k Q) cols (cols_nodup δ) (fun l => if l.1 = δ then sumRec' else v l)
    (fun l => by by_cases h : l.1 = δ
                 · rw [if_pos h]; rfl
                 · rw [if_neg h]; exact hr l)
    (fun j _ => if_pos rfl) k Q
  rw [cols_if] at hl
  have e : startAG δ c >>= k = agInit δ c >>= fun _ => each (fun j => sendAG δ j 0 c) cols >>= k := by
    unfold startAG; rw [bind_assoc]
  rw [e]
  iintro ⟨#HC, H⟩ Hk
  ihave H := ht $$ H
  icases H with ⟨H, Hs⟩
  unfold MS at hl ⊢
  icases H with ⟨HO, HP, HA, %f, %hf, Ho⟩
  iapply (agInit_spec δ c P f (fun r q => by
      obtain ⟨j, q', rfl⟩ := colIn_surj q
      exact hf (δ, j) 15 (le_refl _) (by show 15 ≤ (if δ = δ then sumRec' else v (δ, j)).r; rw [if_pos rfl]; exact le_refl _) r q') _ Q) $$ [Ho Hs]
  · isplitl [Ho]; · iexact Ho
    iexact Hs
  iintro ⟨Ho, Hs⟩
  iapply hl $$ [HO HP HA Ho Hs]
  · isplitr; · iexact HC
    isplitr [Hs]
    · isplitl [HO]; · iexact HO
      isplitl [HP]; · iexact HP
      isplitl [HA]; · iexact HA
      iexists f
      isplitr
      · ipureintro; exact hf
      · iexact Ho
    · iapply (Bring_cols (F := F) _)
      iexact Hs
  iexact Hk

/-! ## The body after the barrier -/

def rest (c : Dev nD) : Act F PUnit := do
  startRS true c
  startRS false c
  each (fun l => rsFirst l.1 l.2 c) lanes
  each (fun h => each (fun l => rsMid l.1 l.2 h c) lanes) hops13
  each (fun l => rsLast l.1 l.2 c) lanes
  each (fun l => do waitRS' l.1 l.2 13 c; waitRS' l.1 l.2 14 c) lanes'
  startAG true c
  startAG false c
  each (fun h => each (fun l => agMid l.1 l.2 h c) lanes) hops14
  each (fun l => agLast l.1 l.2 c) lanes
  each (fun l => each (fun h => waitAG' l.1 l.2 h c) hops15) lanes'
theorem body_rest (c : Dev nD) : body (F := F) c = barrier c >>= fun _ => rest c := rfl

theorem lanes_nodup : (lanes : List Lane).Nodup := by decide
theorem lanes_all : ∀ l : Lane, l ∈ (lanes : List Lane) := by decide
theorem lanes'_nodup : (lanes' : List Lane).Nodup := by decide
theorem lanes'_all : ∀ l : Lane, l ∈ (lanes' : List Lane) := by decide

theorem both_if (a b : Rec) : (fun l : Lane => if l.1 = false then a else if l.1 = true then a else b) = fun _ => a := by
  funext l; obtain ⟨δ, j⟩ := l; cases δ <;> rfl

/-- A lane's waits for its all-gather sends. -/
theorem waits_lane (c : Dev nD) (l : Lane) (v : Lane → Rec) (hv : v l = endRec 15) {α : Type} (k : PUnit → Act F α) (Q : α → sProp 𝕄) :
    iprop(Ctx P K ∗ MS P c v) ⊢ iprop((MS P c (Function.update v l (endRec 30)) -∗ run c (k ⟨⟩) Q)
      -∗ run c (each (fun h => waitAG' l.1 l.2 h c) hops15 >>= k) Q) := by
  have h := hops_spec P K c (fun n => MS P c (Function.update v l (endRec (15 + n)))) (fun h => waitAG' l.1 l.2 h c) hops15 0
    (fun i hi k Q => by
      have h := step_agWait P K c l hops15[i] (Function.update v l (endRec (15 + i))) (by rw [Function.update_self, hops15_at]) k Q
      rw [Function.update_idem, hops15_at] at h
      rw [Nat.zero_add]
      exact h) k Q
  have e : Function.update v l (endRec (15 + 0)) = v := by rw [show endRec (15 + 0) = v l from hv.symm]; exact Function.update_eq_self l v
  rw [e] at h
  exact h

theorem rest_spec (c : Dev nD) {α : Type} (k : PUnit → Act F α) (Q : α → sProp 𝕄) :
    iprop(Ctx P K ∗ MS P c (fun _ => zeroRec)) ⊢ iprop((MS P c (fun _ => endRec 30) -∗ run c (k ⟨⟩) Q) -∗ run c (rest c >>= k) Q) := by
  unfold rest
  simp only [bind_assoc]
  iintro ⟨#HC, H⟩ Hk
  iapply (startRS_spec P K c true (fun _ => zeroRec) (fun _ => rfl) (fun _ => rfl) _ Q) $$ [H]
  · isplitr; · iexact HC
    iexact H
  iintro H
  iapply (startRS_spec P K c false (fun l => if l.1 = true then midRec 0 else zeroRec) (fun _ => if_neg Bool.false_ne_true)
    (fun l => by obtain ⟨δ, j⟩ := l; cases δ <;> rfl) _ Q) $$ [H]
  · isplitr; · iexact HC
    iexact H
  rw [both_if]
  iintro H
  iapply (all_spec P K c (midRec 0) (midRec 1) (fun l => rsFirst l.1 l.2 c) lanes lanes_nodup lanes_all (fun l v h1 h2 k Q => step_rsFirst P K c l v h1 h2 k Q) _ Q) $$ [H]
  · isplitr; · iexact HC
    iexact H
  iintro H
  iapply (hops_spec P K c (fun n => MS P c fun _ => midRec (n + 1)) (fun h => each (fun l => rsMid l.1 l.2 h c) lanes) hops13 0
    (fun i hi k Q => all_spec P K c (midRec (0 + i + 1)) (midRec (0 + i + 1 + 1)) (fun l => rsMid l.1 l.2 hops13[i] c) lanes lanes_nodup lanes_all
      (fun l v h1 h2 k Q => by
        have h := step_rsMid P K c l hops13[i] v
        rw [hops13_at] at h
        rw [Nat.zero_add] at h1 h2 ⊢
        exact h h1 h2 k Q) k Q) _ Q) $$ [H]
  · isplitr; · iexact HC
    iexact H
  iintro H
  iapply (all_spec P K c (midRec 14) (sumRec 13) (fun l => rsLast l.1 l.2 c) lanes lanes_nodup lanes_all (fun l v h1 h2 k Q => step_rsLast P K c l v h1 h2 k Q) _ Q) $$ [H]
  · isplitr; · iexact HC
    iexact H
  iintro H
  iapply (all_spec P K c (sumRec 13) (sumRec 15) (fun l => do waitRS' l.1 l.2 13 c; waitRS' l.1 l.2 14 c) lanes' lanes'_nodup lanes'_all
    (fun l v h1 _ k Q => step_rsWait P K c l v h1 k Q) _ Q) $$ [H]
  · isplitr; · iexact HC
    iexact H
  iintro H
  iapply (startAG_spec P K c true (fun _ => sumRec 15) (fun _ => rfl) (fun _ => rfl) _ Q) $$ [H]
  · isplitr; · iexact HC
    iexact H
  iintro H
  iapply (startAG_spec P K c false (fun l => if l.1 = true then agRec 15 else sumRec 15) (fun _ => if_neg Bool.false_ne_true)
    (fun l => by obtain ⟨δ, j⟩ := l; cases δ <;> rfl) _ Q) $$ [H]
  · isplitr; · iexact HC
    iexact H
  rw [both_if]
  iintro H
  iapply (hops_spec P K c (fun n => MS P c fun _ => agRec (15 + n)) (fun h => each (fun l => agMid l.1 l.2 h c) lanes) hops14 0
    (fun i hi k Q => all_spec P K c (agRec (15 + (0 + i))) (agRec (15 + (0 + i) + 1)) (fun l => agMid l.1 l.2 hops14[i] c) lanes lanes_nodup lanes_all
      (fun l v h1 h2 k Q => by
        have h := step_agMid P K c l hops14[i] v
        rw [hops14_at] at h
        rw [Nat.zero_add] at h1 h2 ⊢
        exact h h1 h2 k Q) k Q) _ Q) $$ [H]
  · isplitr; · iexact HC
    iexact H
  iintro H
  iapply (all_spec P K c (agRec 29) (endRec 15) (fun l => agLast l.1 l.2 c) lanes lanes_nodup lanes_all (fun l v h1 h2 k Q => step_agLast P K c l v h1 h2 k Q) _ Q) $$ [H]
  · isplitr; · iexact HC
    iexact H
  iintro H
  iapply (all_spec P K c (endRec 15) (endRec 30) (fun l => each (fun h => waitAG' l.1 l.2 h c) hops15) lanes' lanes'_nodup lanes'_all
    (fun l v h1 _ k Q => waits_lane P K c l v h1 k Q) _ Q) $$ [H]
  · isplitr; · iexact HC
    iexact H
  iexact Hk

end Cert.KernelIdeal.Ring
-- ==== Proof.RunIdeal.Barrier.lean ====
/- The barrier, and with it the whole body of a device. Before the barrier a device holds its own slots; at it, it gives
   each neighbour the slots that neighbour writes to first, and receives the like. -/
module

public import proofs.«01_k».proof.Proof.RunIdeal.Whole

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (P : Parts F) (K : GSem nD τ sig → ℕ)

theorem dev1_eq : ∀ c : Dev nD, (⟨k0_dev1 c, k0_dev1_lt c⟩ : Dev nD) = succ false c := by decide +kernel
theorem dev2_eq : ∀ c : Dev nD, (⟨k0_dev2 c, k0_dev2_lt c⟩ : Dev nD) = succ true c := by decide +kernel

theorem two (S : Bool → sProp 𝕄) : bigSep Finset.univ S = iprop(S true ∗ S false) := by
  rw [show (Finset.univ : Finset Bool) = {true, false} from by decide, bigSep_insert (by decide), bigSep_singleton]
  rfl

/-- A lane's holdings before the barrier; -/
def Pre (c : Dev nD) (l : Lane) : sProp 𝕄 :=
  iprop(Toks (F := F) c l 0 ∗ RCr (F := F) c l 0 ∗ SAt (F := F) c l 0 ∗ RAt (F := F) c l 0 ∗ Grs (F := F) c l 0 16 ∗ Stg (F := F) c l 0 2)
/-- what of them stays; -/
def Low (c : Dev nD) (l : Lane) : sProp 𝕄 :=
  iprop(Toks (F := F) c l 0 ∗ RCr (F := F) c l 0 ∗ SAt (F := F) c l 0 ∗ RAt (F := F) c l 0 ∗ Grs (F := F) c l 15 16 ∗ Stg (F := F) c l 0 2)
/-- what is given away. -/
def Hand (c : Dev nD) (l : Lane) : sProp 𝕄 :=
  iprop((Grs (F := F) c l 0 15) ∗ bigSep (Finset.Ico 0 15) fun n => reached ER (rcell c l (hop n)) (n / 15))

theorem Pre_split (c : Dev nD) (l : Lane) : Pre (F := F) c l ⊢ iprop(Low (F := F) c l ∗ Hand (F := F) c l) := by
  unfold Pre Low Hand
  have e : Grs (F := F) c l 0 16 = iprop(Grs (F := F) c l 0 15 ∗ Grs (F := F) c l 15 16) := Ico_cat (by omega) (by omega) _
  rw [e]
  iintro ⟨H1, H2, H3, H4, ⟨H5, H6⟩, H7⟩
  ihave H4 := (RAt_reached (F := F) c l 0 0 15 (by omega) (by omega)) $$ H4
  icases H4 with ⟨H4, Hr⟩
  isplitr [H5 Hr]
  · isplitl [H1]; · iexact H1
    isplitl [H2]; · iexact H2
    isplitl [H3]; · iexact H3
    isplitl [H4]; · iexact H4
    isplitl [H6]; · iexact H6
    iexact H7
  · isplitl [H5]; · iexact H5
    iexact Hr

theorem hand_pay (c : Dev nD) (d : Bool) : (bigSep Finset.univ fun j : Fin 4 => Hand (F := F) c (d, j)) ⊢ barPay (F := F) (succ (!d) c) d := by
  unfold barPay
  refine bigSep_mono fun j _ => ?_
  have h := give (F := F) c (!d, j) 0 15 (by omega)
  have e : opp (!d, j) = (d, j) := by cases d <;> rfl
  rw [e] at h
  exact h

theorem Low_LS (c : Dev nD) (l : Lane) : iprop(Low (F := F) c l ∗ Dsts (F := F) c l 0 15) ⊢ LS P c l zeroRec zeroRec := by
  have e : LS P c l zeroRec zeroRec = LSx P c l 0 0 0 15 15 16 0 2 15 1 := rfl
  have e1 : SCr (F := F) c l 0 0 = iprop(emp) := Ico_none (by omega) _
  have e2 : Ful (F := F) c l 15 1 = iprop(emp) := Ico_none (by omega) _
  have e3 : Kep P c l 0 = iprop(emp) := Ico_none (by omega) _
  have e4 : Bak P c l 0 = iprop(emp) := Ico_none (by omega) _
  rw [e]
  unfold Low LSx
  rw [e1, e2, e3, e4]
  iintro ⟨⟨H1, H2, H3, H4, H5, H6⟩, H7⟩
  isplitl [H1]; · iexact H1
  isplitr; · iempintro
  isplitl [H2]; · iexact H2
  isplitl [H3]; · iexact H3
  isplitl [H4]; · iexact H4
  isplitl [H7]; · iexact H7
  isplitl [H5]; · iexact H5
  isplitl [H6]; · iexact H6
  isplitr; · iempintro
  isplitr; · iempintro
  iempintro

theorem Low_All (c : Dev nD) : iprop((bigSep Finset.univ fun l : Lane => Low (F := F) c l) ∗ barPay (F := F) c true ∗ barPay (F := F) c false)
    ⊢ All P c (fun _ => zeroRec) := by
  have e : (bigSep Finset.univ fun l : Lane => Dsts (F := F) c l 0 15) = iprop(barPay (F := F) c true ∗ barPay (F := F) c false) := by
    rw [bigSep_univ_prod, two]
    rfl
  have e2 : iprop((bigSep Finset.univ fun l : Lane => Low (F := F) c l) ∗ bigSep Finset.univ fun l : Lane => Dsts (F := F) c l 0 15)
      = bigSep Finset.univ fun l : Lane => iprop(Low (F := F) c l ∗ Dsts (F := F) c l 0 15) := (bigSep_sep' _ _ _).symm
  rw [← e, e2]
  unfold All
  exact bigSep_mono fun l _ => Low_LS P c l

/-! ## The barrier -/

/-- What a device owes when its body starts: its transfers, and a unit to each neighbour's barrier. -/
def O₀ (c : Dev nD) : CellTallies nD τ sig ℕ :=
  (owed c (fun _ => 0) + tallyAt (barCell (succ true c)) 0 1) + tallyAt (barCell (succ false c)) 0 1

/-- What the barrier takes. -/
def BarIn (c : Dev nD) : sProp 𝕄 :=
  iprop(atPos ER (barCell c) 0 ∅ 0 ∗ reached ER (barCell (succ false c)) 0 ∗ reached ER (barCell (succ true c)) 0
    ∗ dutyTok ER (barCell (succ false c)) 0 true ∗ dutyTok ER (barCell (succ true c)) 0 false ∗ cred (tallyAt (barCell c) 0 2))

theorem barrier_spec (c : Dev nD) (W : Waits sig ℕ) {α : Type} (k : PUnit → Act F α) (Q : α → sProp 𝕄) :
    iprop(Ctx P K ∗ BarIn (F := F) c ∗ owes (c : Thread nD τ) (O₀ c) W ∗ barPay (F := F) (succ false c) true ∗ barPay (F := F) (succ true c) false)
      ⊢ iprop((Owe (F := F) c (fun _ => 0) ∗ atPos ER (barCell c) 1 ∅ 0 ∗ barPay (F := F) c true ∗ barPay (F := F) c false -∗ run c (k ⟨⟩) Q)
        -∗ run c (barrier c >>= k) Q) := by
  unfold barrier BarIn
  rw [dev1_eq, dev2_eq]
  show _ ⊢ iprop(_ -∗ run c (.op (.semSignal ((succ false c : Dev nD) : Thread nD τ) barS.sem 1) fun _ =>
    .op (.semSignal ((succ true c : Dev nD) : Thread nD τ) barS.sem 1) fun _ => .op (.semWait barS.sem 2) k) Q)
  iintro ⟨#HC, ⟨Ha, #Hr1, #Hr2, Ht1, Ht2, Hc⟩, HO, Hp1, Hp2⟩ Hk
  iapply (Rounds.wp_signal 𝒱₀ ER (Rd P) (c : Thread nD τ) none (dst := ((succ false c : Dev nD) : Thread nD τ)) (sem := barS.sem) (r := 0) (d := true) (κ := K (barCell (succ false c)))
      (by rw [duties_b]; decide) (amount_b P (succ false c) 0 true) 0 (owed c (fun _ => 0) + tallyAt (barCell (succ true c)) 0 1) rfl) $$ [HO Ht1 Hp1]
  · isplitr; · iapply (Ctx_inv P K (bar_mem (succ false c))); iexact HC
    isplitl [HO]; · iexact HO
    isplitl [Ht1]; · iexact Ht1
    isplitl [Hp1]; · iapply (Entails.of_eq (payload_b P (succ false c) true).symm); iexact Hp1
    iexact Hr1
  iintro HO
  iapply (Rounds.wp_signal 𝒱₀ ER (Rd P) (c : Thread nD τ) none (dst := ((succ true c : Dev nD) : Thread nD τ)) (sem := barS.sem) (r := 0) (d := false) (κ := K (barCell (succ true c)))
      (by rw [duties_b]; decide) (amount_b P (succ true c) 0 false) 0 (owed c (fun _ => 0)) rfl) $$ [HO Ht2 Hp2]
  · isplitr; · iapply (Ctx_inv P K (bar_mem (succ true c))); iexact HC
    isplitl [HO]; · iexact HO
    isplitl [Ht2]; · iexact Ht2
    isplitl [Hp2]; · iapply (Entails.of_eq (payload_b P (succ true c) false).symm); iexact Hp2
    iexact Hr2
  iintro HO
  iapply (Rounds.wp_wait_rest_token 𝒱₀ ER (Rd P) (c : Thread nD τ) none (κ := K (barCell c))
      (wpE_semWait_eq 𝒱₀ (c : Thread nD τ) none Set.univ) (Set.mem_univ _) 0 (O := owed c (fun _ => 0)) (W := W) (R := 0) (m := 0) (T := ∅)
      ((Nat.zero_add _).trans (expect_b P c).symm)) $$ [Hc HO Ha]
  · isplitr; · iapply (Ctx_inv P K (bar_mem c)); iexact HC
    isplitl [Hc]; · iexact Hc
    isplitl [HO]; · iexact HO
    isplitr
    · iapply (Ctx_may P K c (fun _ => 0) (.reg barS.sem) 0 1 (by omega) (le_of_eq (lv_b c 0)) (fun l' => by omega))
      iexact HC
    iexact Ha
  iintro ⟨HO, Ha, -, Hp⟩
  ihave Hp := (Entails.of_eq (rest_b P c)) $$ Hp
  icases Hp with ⟨Hp1, Hp2⟩
  iapply Hk
  isplitl [HO]
  · unfold Owe; iexists _; iexact HO
  isplitl [Ha]; · iexact Ha
  isplitl [Hp1]; · iexact Hp1
  iexact Hp2

/-- The whole body. -/
theorem body_spec (c : Dev nD) {α : Type} (k : PUnit → Act F α) (Q : α → sProp 𝕄) :
    iprop(Ctx P K ∗ BarIn (F := F) c ∗ (∃ W, owes (c : Thread nD τ) (O₀ c) W) ∗ pAt c (P c) ∗ (∃ f, oAt c f) ∗ bigSep Finset.univ fun l : Lane => Pre (F := F) c l)
      ⊢ iprop((MS P c (fun _ => endRec 30) ∗ atPos ER (barCell c) 1 ∅ 0 -∗ run c (k ⟨⟩) Q) -∗ run c (body c >>= k) Q) := by
  have hs : (bigSep Finset.univ fun l : Lane => Pre (F := F) c l)
      ⊢ iprop((bigSep Finset.univ fun l : Lane => Low (F := F) c l) ∗ barPay (F := F) (succ false c) true ∗ barPay (F := F) (succ true c) false) := by
    have hm : (bigSep Finset.univ fun l : Lane => Pre (F := F) c l)
        ⊢ bigSep Finset.univ fun l : Lane => iprop(Low (F := F) c l ∗ Hand (F := F) c l) := bigSep_mono fun l _ => Pre_split (F := F) c l
    refine hm.trans ?_
    have e : (bigSep Finset.univ fun l : Lane => iprop(Low (F := F) c l ∗ Hand (F := F) c l))
        = iprop((bigSep Finset.univ fun l : Lane => Low (F := F) c l) ∗ (bigSep Finset.univ fun j : Fin 4 => Hand (F := F) c (true, j)) ∗ (bigSep Finset.univ fun j : Fin 4 => Hand (F := F) c (false, j))) := by
      rw [bigSep_sep', bigSep_univ_prod (fun l : Lane => Hand (F := F) c l), two]
    rw [e]
    iintro ⟨H1, H2, H3⟩
    isplitl [H1]; · iexact H1
    isplitl [H2]; · iapply (hand_pay (F := F) c true); iexact H2
    iapply (hand_pay (F := F) c false); iexact H3
  rw [body_rest, bind_assoc]
  iintro ⟨#HC, HB, ⟨%W, HO⟩, Hp, ⟨%f, Ho⟩, HL⟩ Hk
  ihave HL := hs $$ HL
  icases HL with ⟨HL, Hp1, Hp2⟩
  iapply (barrier_spec P K c W _ Q) $$ [HB HO Hp1 Hp2]
  · isplitr; · iexact HC
    isplitl [HB]; · iexact HB
    isplitl [HO]; · iexact HO
    isplitl [Hp1]; · iexact Hp1
    iexact Hp2
  iintro ⟨HO, Ha, Hp1, Hp2⟩
  iapply (rest_spec P K c _ Q) $$ [HO Hp Ho HL Hp1 Hp2]
  · isplitr; · iexact HC
    unfold MS
    isplitl [HO]; · iexact HO
    isplitl [Hp]; · iexact Hp
    isplitl [HL Hp1 Hp2]
    · iapply (Low_All P c)
      isplitl [HL]; · iexact HL
      isplitl [Hp1]; · iexact Hp1
      iexact Hp2
    iexists f
    isplitr
    · ipureintro
      intro l n h1 h2
      have h2 : n ≤ 0 := h2
      omega
    · iexact Ho
  iintro H
  iapply Hk
  isplitl [H]; · iexact H
  iexact Ha

end Cert.KernelIdeal.Ring
-- ==== Proof.RunIdeal.Edge.lean ====
/- The two ends of a device's run: whole buffers and opened cells become the lanes' holdings, and at the end the lanes'
   holdings become whole buffers, closed cells and the result. -/
module

public import proofs.«01_k».proof.Proof.RunIdeal.Barrier

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (P : Parts F) (K : GSem nD τ sig → ℕ)

/-! ## Ranges of transfers, by cell and by chunk -/

def shift (a m : ℕ) : Fin m ↪ ℕ := ⟨fun h => a + h.val, fun _ _ h => Fin.ext (Nat.add_left_cancel h)⟩
theorem Ico_shift (a m : ℕ) : Finset.Ico a (a + m) = Finset.univ.map (shift a m) := by
  ext x
  rw [Finset.mem_Ico, Finset.mem_map]
  constructor
  · intro h
    refine ⟨⟨x - a, by omega⟩, Finset.mem_univ _, ?_⟩
    show a + (x - a) = x; omega
  · rintro ⟨h, -, rfl⟩
    have := h.isLt
    show a ≤ a + h.val ∧ a + h.val < a + m; omega

theorem Ico_hop (n : ℕ) (Φ : Fin 15 → ℕ → sProp 𝕄) :
    bigSep (Finset.Ico (15 * n) (15 * n + 15)) (fun i => Φ (hop i) (i / 15)) = bigSep Finset.univ fun h => Φ h n := by
  rw [Ico_shift, bigSep_map]
  refine bigSep_congr fun h _ => ?_
  have hl := h.isLt
  have e1 : hop (15 * n + h.val) = h := Fin.ext (by show (15 * n + h.val) % 15 = h.val; omega)
  have e2 : (15 * n + h.val) / 15 = n := by omega
  show Φ (hop (15 * n + h.val)) ((15 * n + h.val) / 15) = _
  rw [e1, e2]
theorem Ico_hop2 (Φ : Fin 15 → ℕ → sProp 𝕄) :
    bigSep (Finset.Ico 0 30) (fun i => Φ (hop i) (i / 15)) = iprop((bigSep Finset.univ fun h => Φ h 0) ∗ bigSep Finset.univ fun h => Φ h 1) := by
  have h0 := Ico_hop 0 Φ
  have h1 := Ico_hop 1 Φ
  rw [← h0, ← h1]
  exact Ico_cat (by omega) (by omega) _

theorem Ico_bk (δ : Bool) (c : Dev nD) (a b : ℕ) (hab : a + b ≤ 16) (Φ : Fin 16 → sProp 𝕄) :
    bigSep (Finset.Ico a (a + 16)) (fun i => Φ (bk δ c (i + b))) = bigSep Finset.univ Φ := by
  have hi : Function.Injective fun n : Fin 16 => bk δ c (a + n.val + b) := fun n m h => Fin.ext (by
    have := bk_inj δ c _ _ (by omega) (by omega) h
    omega)
  rw [bigSep_univ_equiv (Equiv.ofBijective _ (Finite.injective_iff_bijective.mp hi)) Φ, Ico_shift, bigSep_map]
  rfl

theorem stg0 (c : Dev nD) (l : Lane) : Stg (F := F) c l 0 2 = bigSep Finset.univ fun k : Fin 2 => iprop(∃ f, stAt l.1 c l.2 k fullShare f) := by
  unfold Stg
  rw [Ico_shift 0 2, bigSep_map]
  refine bigSep_congr fun k _ => ?_
  have e : par ((shift 0 2) k) = k := Fin.ext (by have := k.isLt; show (0 + k.val) % 2 = k.val; omega)
  rw [e]
theorem stg15 (c : Dev nD) (l : Lane) : Stg (F := F) c l 15 17 = bigSep Finset.univ fun k : Fin 2 => iprop(∃ f, stAt l.1 c l.2 k fullShare f) := by
  have hi : Function.Injective fun k : Fin 2 => par (15 + k.val) := by decide
  unfold Stg
  rw [bigSep_univ_equiv (Equiv.ofBijective _ (Finite.injective_iff_bijective.mp hi)) (fun k : Fin 2 => iprop(∃ f, stAt (F := F) l.1 c l.2 k fullShare f)), Ico_shift 15 2, bigSep_map]
  rfl

/-! ## Slots and whole buffers -/

/-- The four chunk and send buffers, each at some contents. -/
def AnyAg (δ : Bool) (c : Dev nD) : sProp 𝕄 := iprop(∃ f : Buf (Elt F) ((agM δ).view.loc (c : Thread nD τ)), (agM δ).view.loc (c : Thread nD τ) ↦{fullShare} f)
def AnySt (δ : Bool) (c : Dev nD) : sProp 𝕄 := iprop(∃ f : Buf (Elt F) ((stM δ).view.loc (c : Thread nD τ)), (stM δ).view.loc (c : Thread nD τ) ↦{fullShare} f)

theorem ag_in (δ : Bool) (c : Dev nD) : AnyAg (F := F) δ c ⊢ bigSep Finset.univ fun j : Fin 4 => Grs (F := F) c (δ, j) 0 16 := by
  unfold AnyAg
  iintro ⟨%f, H⟩
  have es : ((agM δ).view.loc (c : Thread nD τ) ↦{fullShare} f : sProp 𝕄)
      = (bigSep Finset.univ fun j : Fin 4 => bigSep Finset.univ fun k : Fin 16 => (agAt δ c j k fullShare f : sProp 𝕄)) := by
    rw [ag_split, bigSep_univ_prod]
  have hs (j : Fin 4) (k : Fin 16) : (agAt δ c j k fullShare f : sProp 𝕄) ⊢ iprop(∃ f, agAt δ c j k fullShare f) := by
    iintro H
    iexists f; iexact H
  have h : (bigSep Finset.univ fun j : Fin 4 => bigSep Finset.univ fun k : Fin 16 => (agAt δ c j k fullShare f : sProp 𝕄))
      ⊢ bigSep Finset.univ fun j : Fin 4 => Grs (F := F) c (δ, j) 0 16 := by
    refine bigSep_mono fun j _ => ?_
    have e : Grs (F := F) c (δ, j) 0 16 = bigSep Finset.univ fun k : Fin 16 => iprop(∃ f, agAt δ c j k fullShare f) :=
      Ico_bk δ c 0 1 (by omega) fun k => iprop(∃ f, agAt δ c j k fullShare f)
    rw [e]
    exact bigSep_mono fun k _ => hs j k
  iapply h
  rw [← es]
  iexact H
theorem st_in (δ : Bool) (c : Dev nD) : AnySt (F := F) δ c ⊢ bigSep Finset.univ fun j : Fin 4 => Stg (F := F) c (δ, j) 0 2 := by
  unfold AnySt
  iintro ⟨%f, H⟩
  have es : ((stM δ).view.loc (c : Thread nD τ) ↦{fullShare} f : sProp 𝕄)
      = (bigSep Finset.univ fun j : Fin 4 => bigSep Finset.univ fun k : Fin 2 => (stAt δ c j k fullShare f : sProp 𝕄)) := by
    rw [st_split, bigSep_univ_prod]
  have hs (j : Fin 4) (k : Fin 2) : (stAt δ c j k fullShare f : sProp 𝕄) ⊢ iprop(∃ f, stAt δ c j k fullShare f) := by
    iintro H
    iexists f; iexact H
  have h : (bigSep Finset.univ fun j : Fin 4 => bigSep Finset.univ fun k : Fin 2 => (stAt δ c j k fullShare f : sProp 𝕄))
      ⊢ bigSep Finset.univ fun j : Fin 4 => Stg (F := F) c (δ, j) 0 2 := by
    refine bigSep_mono fun j _ => ?_
    rw [stg0]
    exact bigSep_mono fun k _ => hs j k
  iapply h
  rw [← es]
  iexact H
theorem ag_out (δ : Bool) (c : Dev nD) : (bigSep Finset.univ fun j : Fin 4 => Ful (F := F) c (δ, j) 15 31) ⊢ AnyAg (F := F) δ c := by
  have e : (bigSep Finset.univ fun j : Fin 4 => Ful (F := F) c (δ, j) 15 31)
      = bigSep Finset.univ fun p : Fin 4 × Fin 16 => iprop(∃ f, agAt (F := F) δ c p.1 p.2 fullShare f) := by
    rw [bigSep_univ_prod]
    exact bigSep_congr fun j _ => Ico_bk δ c 15 0 (by omega) fun k => iprop(∃ f, agAt δ c j k fullShare f)
  rw [e]
  exact ag_join δ c
theorem st_out (δ : Bool) (c : Dev nD) : (bigSep Finset.univ fun j : Fin 4 => Stg (F := F) c (δ, j) 15 17) ⊢ AnySt (F := F) δ c := by
  have e : (bigSep Finset.univ fun j : Fin 4 => Stg (F := F) c (δ, j) 15 17)
      = bigSep Finset.univ fun p : Fin 4 × Fin 2 => iprop(∃ f, stAt (F := F) δ c p.1 p.2 fullShare f) := by
    rw [bigSep_univ_prod]
    exact bigSep_congr fun j _ => stg15 c (δ, j)
  rw [e]
  exact st_join δ c

/-- All four buffers, -/
def Bufs (c : Dev nD) : sProp 𝕄 := iprop((AnySt (F := F) true c ∗ AnySt (F := F) false c) ∗ AnyAg (F := F) true c ∗ AnyAg (F := F) false c)
theorem lanes_two (S : Lane → sProp 𝕄) :
    bigSep Finset.univ S = iprop((bigSep Finset.univ fun j : Fin 4 => S (true, j)) ∗ bigSep Finset.univ fun j : Fin 4 => S (false, j)) := by
  rw [bigSep_univ_prod, two]
theorem bufs_in (c : Dev nD) : Bufs (F := F) c
    ⊢ iprop((bigSep Finset.univ fun l : Lane => Stg (F := F) c l 0 2) ∗ bigSep Finset.univ fun l : Lane => Grs (F := F) c l 0 16) := by
  unfold Bufs
  rw [lanes_two, lanes_two]
  exact BI.sep_mono (BI.sep_mono (st_in true c) (st_in false c)) (BI.sep_mono (ag_in true c) (ag_in false c))
theorem bufs_out (c : Dev nD) : iprop((bigSep Finset.univ fun l : Lane => Stg (F := F) c l 15 17) ∗ bigSep Finset.univ fun l : Lane => Ful (F := F) c l 15 31)
    ⊢ Bufs (F := F) c := by
  unfold Bufs
  rw [lanes_two, lanes_two]
  exact BI.sep_mono (BI.sep_mono (st_out true c) (st_out false c)) (BI.sep_mono (ag_out true c) (ag_out false c))

/-! ## A device's transfer cells -/

theorem cells_lanes (c : Dev nD) (Φ : GSem nD τ sig → sProp 𝕄) :
    bigSep Finset.univ (fun k : Bool × Lane × Fin 15 => Φ ((c : Thread nD τ), osem k))
      = iprop((bigSep Finset.univ fun l : Lane => bigSep Finset.univ fun h : Fin 15 => Φ (rcell c l h))
        ∗ bigSep Finset.univ fun l : Lane => bigSep Finset.univ fun h : Fin 15 => Φ (scell c l h)) := by
  have e (b : Bool) : (bigSep Finset.univ fun x : Lane × Fin 15 => Φ ((c : Thread nD τ), osem (b, x)))
      = bigSep Finset.univ fun l : Lane => bigSep Finset.univ fun h : Fin 15 => Φ ((c : Thread nD τ), osem (b, l, h)) := bigSep_univ_prod _
  rw [bigSep_univ_prod, two, e, e]
  rfl

theorem cells_at (c : Dev nD) (n : ℕ) : bigSep Finset.univ (fun k : Bool × Lane × Fin 15 => Atp (F := F) ((c : Thread nD τ), osem k) n)
    = iprop((bigSep Finset.univ fun l : Lane => RAt (F := F) c l (15 * n)) ∗ bigSep Finset.univ fun l : Lane => SAt (F := F) c l (15 * n)) := by
  have e1 : (bigSep Finset.univ fun l : Lane => RAt (F := F) c l (15 * n)) = bigSep Finset.univ fun l : Lane => bigSep Finset.univ fun h : Fin 15 => Atp (F := F) (rcell c l h) n :=
    bigSep_congr fun l _ => Ico_hop n fun h r => Atp (rcell c l h) r
  have e2 : (bigSep Finset.univ fun l : Lane => SAt (F := F) c l (15 * n)) = bigSep Finset.univ fun l : Lane => bigSep Finset.univ fun h : Fin 15 => Atp (F := F) (scell c l h) n :=
    bigSep_congr fun l _ => Ico_hop n fun h r => Atp (scell c l h) r
  rw [e1, e2]
  exact cells_lanes c fun g => Atp g n

theorem cell_mem (c : Dev nD) (k : Bool × Lane × Fin 15) : ((c : Thread nD τ), osem k) ∈ barCells ∪ scCells :=
  Finset.mem_union_right _ (Finset.mem_map_of_mem scEmb (Finset.mem_univ (c, k)))

/-- The right to open all of them. -/
def Opens (c : Dev nD) : sProp 𝕄 := bigSep Finset.univ fun k : Bool × Lane × Fin 15 => openTok ER ((c : Thread nD τ), osem k)
def Zeros (c : Dev nD) : sProp 𝕄 := bigSep Finset.univ fun k : Bool × Lane × Fin 15 => semVal ((c : Thread nD τ), osem k) 0

theorem open_all (c : Dev nD) : iprop(Ctx P K ∗ Opens (F := F) c ∗ Zeros (F := F) c)
    ⊢ |={Set.univ}=> iprop((bigSep Finset.univ fun l : Lane => RAt (F := F) c l 0) ∗ bigSep Finset.univ fun l : Lane => SAt (F := F) c l 0) := by
  have e := cells_at (F := F) c 0
  rw [Nat.mul_zero] at e
  have e2 : iprop(Opens (F := F) c ∗ Zeros (F := F) c)
      = bigSep Finset.univ fun k : Bool × Lane × Fin 15 => iprop(openTok ER ((c : Thread nD τ), osem k) ∗ (semVal ((c : Thread nD τ), osem k) 0 : sProp 𝕄)) :=
    (bigSep_sep' _ _ _).symm
  rw [← e, e2]
  refine BI.Entails.trans ?_ (BI.bigSep_fupd Finset.univ _)
  refine bigSep_with_persistent (R := Ctx P K) fun k _ => ?_
  iintro ⟨#HC, H1, H2⟩
  imod (Rounds.cell_open ER (Rd P) (g := ((c : Thread nD τ), osem k)) (Set.mem_univ (K ((c : Thread nD τ), osem k)))) $$ [H1 H2] with ⟨Ha, #Hr⟩
  · isplitr; · iapply (Ctx_inv P K (cell_mem c k)); iexact HC
    isplitl [H1] <;> iassumption
  imodintro
  unfold Atp
  isplitl [Ha]; · iexact Ha
  iexact Hr

theorem close_all (c : Dev nD) : iprop(Ctx P K ∗ (bigSep Finset.univ fun l : Lane => RAt (F := F) c l 30) ∗ bigSep Finset.univ fun l : Lane => SAt (F := F) c l 30)
    ⊢ |={Set.univ}=> Zeros (F := F) c := by
  have e := cells_at (F := F) c 2
  have e30 : 15 * 2 = 30 := rfl
  rw [e30] at e
  rw [← e]
  refine BI.Entails.trans ?_ (BI.bigSep_fupd Finset.univ _)
  refine bigSep_with_persistent (R := Ctx P K) fun k _ => ?_
  unfold Atp
  iintro ⟨#HC, Ha, -⟩
  iapply (Rounds.cell_close ER (Rd P) (g := ((c : Thread nD τ), osem k)) (Set.mem_univ (K ((c : Thread nD τ), osem k))) id (fun r hr => duties_late P _ r hr)) $$ [Ha]
  isplitr; · iapply (Ctx_inv P K (cell_mem c k)); iexact HC
  iexact Ha

theorem close_bar (c : Dev nD) : iprop(Ctx P K ∗ atPos ER (barCell c) 1 ∅ 0) ⊢ |={Set.univ}=> (semVal (barCell c) 0 : sProp 𝕄) := by
  iintro ⟨#HC, Ha⟩
  iapply (Rounds.cell_close ER (Rd P) (g := barCell c) (Set.mem_univ (K (barCell c))) id (fun r hr => duties_bar_late P c r hr)) $$ [Ha]
  isplitr; · iapply (Ctx_inv P K (bar_mem c)); iexact HC
  iexact Ha

/-! ## A lane at its end -/

/-- The two halves of a slot that was sent are the slot. -/
theorem rejoin (c : Dev nD) (l : Lane) : iprop(Kep P c l 30 ∗ Bak P c l 30) ⊢ Ful (F := F) c l 15 30 := by
  have e : iprop(Kep P c l 30 ∗ Bak P c l 30) = bigSep (Finset.Ico 15 30) fun i =>
      iprop(agAt l.1 c l.2 (bk l.1 c i) halfR (agW l.1 c (wv P l.1 i c)) ∗ agAt l.1 c l.2 (bk l.1 c i) halfL (agW l.1 c (wv P l.1 i c))) :=
    (bigSep_sep' _ _ _).symm
  rw [e]
  unfold Ful
  refine bigSep_mono fun i _ => ?_
  have es := (pointsTo_share (ℓ := (agM l.1).view.loc (c : Thread nD τ)) (I := agSet l.1 l.2 (bk l.1 c i)) (f := agW l.1 c (wv P l.1 i c)) (Ix := ℕ) (Name := ℕ) (U := UU) (Lvl := ℕ)
    (PosShare.mem_left_op_right fullShare)).2
  have h : iprop(agAt l.1 c l.2 (bk l.1 c i) halfR (agW l.1 c (wv P l.1 i c)) ∗ agAt l.1 c l.2 (bk l.1 c i) halfL (agW l.1 c (wv P l.1 i c)))
      ⊢ iprop(∃ f, agAt l.1 c l.2 (bk l.1 c i) fullShare f) := by
    iintro ⟨H1, H2⟩
    iexists agW l.1 c (wv P l.1 i c)
    iapply es
    isplitl [H2] <;> iassumption
  exact h

theorem LS_done (c : Dev nD) (l : Lane) : LS P c l (endRec 30) (endRec 30)
    ⊢ iprop((RAt (F := F) c l 30 ∗ SAt (F := F) c l 30) ∗ Stg (F := F) c l 15 17 ∗ Ful (F := F) c l 15 31) := by
  have e : LS P c l (endRec 30) (endRec 30) = LSx P c l 30 30 30 30 30 30 15 17 30 31 := rfl
  have e2 : Ful (F := F) c l 15 31 = iprop(Ful (F := F) c l 15 30 ∗ Ful (F := F) c l 30 31) := Ico_cat (by omega) (by omega) _
  rw [e, e2]
  unfold LSx
  iintro ⟨-, -, -, H1, H2, -, -, H3, H4, H5, H6⟩
  isplitl [H1 H2]; · isplitl [H2] <;> iassumption
  isplitl [H3]; · iexact H3
  isplitl [H5 H6]
  · iapply (rejoin P c l)
    isplitl [H5] <;> iassumption
  iexact H4

theorem All_done (c : Dev nD) : All P c (fun _ => endRec 30)
    ⊢ iprop(((bigSep Finset.univ fun l : Lane => RAt (F := F) c l 30) ∗ bigSep Finset.univ fun l : Lane => SAt (F := F) c l 30) ∗ Bufs (F := F) c) := by
  have h : All P c (fun _ => endRec 30) ⊢ bigSep Finset.univ fun l : Lane =>
      iprop((RAt (F := F) c l 30 ∗ SAt (F := F) c l 30) ∗ Stg (F := F) c l 15 17 ∗ Ful (F := F) c l 15 31) := bigSep_mono fun l _ => LS_done P c l
  refine h.trans ?_
  have e : (bigSep Finset.univ fun l : Lane => iprop((RAt (F := F) c l 30 ∗ SAt (F := F) c l 30) ∗ Stg (F := F) c l 15 17 ∗ Ful (F := F) c l 15 31))
      = iprop(((bigSep Finset.univ fun l : Lane => RAt (F := F) c l 30) ∗ bigSep Finset.univ fun l : Lane => SAt (F := F) c l 30)
        ∗ (bigSep Finset.univ fun l : Lane => Stg (F := F) c l 15 17) ∗ bigSep Finset.univ fun l : Lane => Ful (F := F) c l 15 31) := by
    rw [bigSep_sep', bigSep_sep', bigSep_sep']
  rw [e]
  iintro ⟨H1, H2⟩
  isplitl [H1]; · iexact H1
  iapply (bufs_out (F := F) c)
  iexact H2

/-! ## The result -/

def halfOf (x : S2048x2048.Idx) : Bool := decide ((x 1).val < 1024)
def chunkOf (x : S2048x2048.Idx) : Fin 16 := ⟨(x 0).val / 128, by have h0 : (x 0).val < 2048 := (x 0).isLt; omega⟩
def rowOf (x : S2048x2048.Idx) : Fin 128 := ⟨(x 0).val % 128, Nat.mod_lt _ (by decide)⟩
def colAt (x : S2048x2048.Idx) : Fin 1024 := ⟨(x 1).val % 1024, Nat.mod_lt _ (by decide)⟩
theorem ix_parts (x : S2048x2048.Idx) : ix (halfOf x) (chunkOf x) (rowOf x) (colAt x) = x := by
  have h1 : (x 1).val < 2048 := (x 1).isLt
  funext a
  apply Fin.ext
  match a with
  | 0 => show 128 * ((x 0).val / 128) + (x 0).val % 128 = (x 0).val; omega
  | 1 =>
    show colOf (decide ((x 1).val < 1024)) + (x 1).val % 1024 = (x 1).val
    by_cases h : (x 1).val < 1024
    · rw [decide_eq_true h]; simp only [colOf]; omega
    · rw [decide_eq_false h]; simp only [colOf]; omega
theorem colAt_in (q : Fin 1024) : ∃ j p, colIn j p = q :=
  ⟨⟨q.val / 256, by omega⟩, ⟨q.val % 256, Nat.mod_lt _ (by decide)⟩, Fin.ext (by show 256 * (q.val / 256) + q.val % 256 = q.val; omega)⟩

/-- Which transfer made chunk `k` final. -/
theorem num_ex (δ : Bool) (c : Dev nD) (k : Fin 16) : ∃ n, 15 ≤ n ∧ n ≤ 30 ∧ bk δ c n = k := by
  have hi : Function.Injective fun n : Fin 16 => bk δ c (15 + n.val) := fun n m h => Fin.ext (by
    have := bk_inj δ c _ _ (by omega) (by omega) h
    omega)
  obtain ⟨n, hn⟩ := (Finite.injective_iff_surjective.mp hi) k
  exact ⟨15 + n.val, by omega, by omega, hn⟩
def num (δ : Bool) (c : Dev nD) (k : Fin 16) : ℕ := Classical.choose (num_ex δ c k)
theorem num_spec (δ : Bool) (c : Dev nD) (k : Fin 16) : 15 ≤ num δ c k ∧ num δ c k ≤ 30 ∧ bk δ c (num δ c k) = k := Classical.choose_spec (num_ex δ c k)

/-- What a device's result holds in the end. -/
def Res (c : Dev nD) : Mat F := fun x => ov P (halfOf x) (num (halfOf x) c (chunkOf x)) c (rowOf x) (colAt x)

theorem Out_Res (c : Dev nD) (f : Mat F) (h : Out P c (fun _ => endRec 30) f) : f = Res P c := by
  funext x
  obtain ⟨h1, h2, h3⟩ := num_spec (halfOf x) c (chunkOf x)
  obtain ⟨j, p, hp⟩ := colAt_in (colAt x)
  have := h (halfOf x, j) _ h1 h2 (rowOf x) p
  rw [h3, hp, ix_parts] at this
  exact this

/-! ## A device's run from end to end -/

/-- What it starts from, beside the barrier's part and the opened cells. -/
def Work (c : Dev nD) : sProp 𝕄 :=
  iprop((bigSep Finset.univ fun l : Lane => Toks (F := F) c l 0) ∗ bigSep Finset.univ fun l : Lane => RCr (F := F) c l 0)

theorem device_spec (c : Dev nD) {α : Type} (k : PUnit → Act F α) (Q : α → sProp 𝕄) :
    iprop(Ctx P K ∗ BarIn (F := F) c ∗ (∃ W, owes (c : Thread nD τ) (O₀ c) W) ∗ pAt c (P c) ∗ (∃ f, oAt c f) ∗ Bufs (F := F) c ∗ Work (F := F) c
        ∗ (bigSep Finset.univ fun l : Lane => RAt (F := F) c l 0) ∗ bigSep Finset.univ fun l : Lane => SAt (F := F) c l 0)
      ⊢ iprop(((∃ W, owes (c : Thread nD τ) (0 : CellTallies nD τ sig ℕ) W) ∗ pAt c (P c) ∗ oAt c (Res P c) ∗ Bufs (F := F) c ∗ Zeros (F := F) c ∗ semVal (barCell c) 0
          -∗ run c (k ⟨⟩) Q) -∗ run c (body c >>= k) Q) := by
  have hp : iprop((bigSep Finset.univ fun l : Lane => Toks (F := F) c l 0) ∗ (bigSep Finset.univ fun l : Lane => RCr (F := F) c l 0)
        ∗ (bigSep Finset.univ fun l : Lane => SAt (F := F) c l 0) ∗ (bigSep Finset.univ fun l : Lane => RAt (F := F) c l 0)
        ∗ (bigSep Finset.univ fun l : Lane => Grs (F := F) c l 0 16) ∗ bigSep Finset.univ fun l : Lane => Stg (F := F) c l 0 2)
      = bigSep Finset.univ fun l : Lane => Pre (F := F) c l := by
    unfold Pre
    rw [bigSep_sep', bigSep_sep', bigSep_sep', bigSep_sep', bigSep_sep']
  unfold Work
  iintro ⟨#HC, HB, HO, Hp, Ho, Hbufs, ⟨H1, H2⟩, H3, H4⟩ Hk
  ihave Hbufs := (bufs_in (F := F) c) $$ Hbufs
  icases Hbufs with ⟨H5, H6⟩
  iapply (body_spec P K c k Q) $$ [HB HO Hp Ho H1 H2 H3 H4 H5 H6]
  · isplitr; · iexact HC
    isplitl [HB]; · iexact HB
    isplitl [HO]; · iexact HO
    isplitl [Hp]; · iexact Hp
    isplitl [Ho]; · iexact Ho
    rw [← hp]
    isplitl [H1]; · iexact H1
    isplitl [H2]; · iexact H2
    isplitl [H4]; · iexact H4
    isplitl [H3]; · iexact H3
    isplitl [H6]; · iexact H6
    iexact H5
  unfold MS Owe
  iintro ⟨⟨⟨%W, HO⟩, Hp, HA, ⟨%f, %hf, Ho⟩⟩, Hb⟩
  have e0 : owed c (fun l => ((fun _ => endRec 30 : Lane → Rec) l).s) = 0 := owed_end c _ fun _ => rfl
  rw [e0, Out_Res P c f hf]
  ihave HA := (All_done P c) $$ HA
  icases HA with ⟨HA, Hbufs⟩
  imod (close_all P K c) $$ [HA] with HZ
  · isplitr; · iexact HC
    iexact HA
  imod (close_bar P K c) $$ [Hb] with Hb
  · isplitr; · iexact HC
    iexact Hb
  iapply Hk
  isplitl [HO]; · iexists W; iexact HO
  isplitl [Hp]; · iexact Hp
  isplitl [Ho]; · iexact Ho
  isplitl [Hbufs]; · iexact Hbufs
  isplitl [HZ]; · iexact HZ
  iexact Hb

end Cert.KernelIdeal.Ring
-- ==== Proof.RunIdeal.SameBody.lean ====
module

public import proofs.«01_k».proof.Proof.RunIdeal.Steps
public import Idealize.ShloMosaic.Lib.Pipeline.Regions

@[expose] public section

noncomputable section

namespace Cert.KernelIdeal.Ring

open Idealize.ShloMosaic Idealize.ShloMosaic.TcCoe Idealize.SL.Sem
open Cert.KernelIdeal.Gen

variable {F : FTy → Type} [FloatOps F]

set_option maxRecDepth 1000000 in
set_option maxHeartbeats 0 in
/-- The printed body is the one above: both are the same sequence of operations. -/
theorem body_eq : cc0_body (F := F) pM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 = (Prog.lift .deviceId >>= fun c => body c) := by
  chain_rfl

end Cert.KernelIdeal.Ring
-- ==== Proof.RunIdeal.Region.lean ====
/- The kernel's region: its proof data, its body from a device's run, and its entry and exit — what the launch keeps for
   it, its own cells opened, and at the end closed. -/
module

public import proofs.«01_k».proof.Proof.RunIdeal.Edge
public import proofs.«01_k».proof.Proof.RunIdeal.SameBody
public import proofs.«01_k».proof.Proof.Gen.KernelIdeal.Frame
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## The arrays -/

/-- Device `c`'s buffers at launch, after the host product, and after the kernel. -/
def V₀ (c : Dev nD) : Valuation τ sig (Elt F) := fun b => m (c, b)
def V₁ (c : Dev nD) : Valuation τ sig (Elt F) := StableHlo.after hostOps0 (V₀ m c)
/-- The partial products. -/
def part : Parts F := fun c => V₁ m c (Proc.devRef .tc main_v1)
def V₂ (c : Dev nD) : Valuation τ sig (Elt F) := Function.update (V₁ m c) (Proc.devRef .tc main_v2) (Res (part m) c)

/-! ## The region's proof data -/

/-- What a device starts its body with, besides its buffers. -/
def Start (c : Dev nD) : sProp 𝕄 :=
  iprop(∃ K, Ctx (part m) K ∗ BarIn (F := F) c ∗ Work (F := F) c
    ∗ (bigSep Finset.univ fun l : Lane => RAt (F := F) c l 0) ∗ bigSep Finset.univ fun l : Lane => SAt (F := F) c l 0)
def PhiIn (c : Dev nD) : sProp 𝕄 := iprop(Start m c ∗ Bufs (F := F) c ∗ ∃ r, prngReg c r)
def PhiOut (c : Dev nD) : sProp 𝕄 := iprop(Zeros (F := F) c ∗ semVal (barCell c) 0 ∗ Bufs (F := F) c ∗ ∃ r, prngReg c r)

def dat (c : Dev nD) : Pipeline.Dat τ (Elt F) ℕ ℕ UU ℕ cfg0 c where
  A w := V₁ m c (Proc.devRef .tc (Pipeline.arrRef spec0 w))
  after w _ := match w with
    | ⟨0, _⟩ => part m c
    | ⟨1, _⟩ => Res (part m) c
  Φ t := if t.val = 0 then PhiIn m c else PhiOut (F := F) c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat m

theorem Phi_in (c : Dev nD) : (dat m c).Φ t0_0.castSucc = PhiIn m c := by
  show (if (t0_0.castSucc : Fin (cfg0.N + 1)).val = 0 then PhiIn m c else PhiOut (F := F) c) = _
  exact if_pos rfl
theorem Phi_out (c : Dev nD) : (dat m c).Φ t0_0.succ = PhiOut (F := F) c := by
  show (if (t0_0.succ : Fin (cfg0.N + 1)).val = 0 then PhiIn m c else PhiOut (F := F) c) = _
  exact if_neg (by decide)
theorem owed_in (c : Dev nD) : (dat m c).owed t0_0.castSucc = O₀ c := by
  show (if (t0_0.castSucc : Fin (cfg0.N + 1)).val = 0 then O₀ c else 0) = _
  exact if_pos rfl
theorem owed_out (c : Dev nD) : (dat m c).owed t0_0.succ = 0 := by
  show (if (t0_0.succ : Fin (cfg0.N + 1)).val = 0 then O₀ c else 0) = _
  exact if_neg (by decide)

theorem owesAt_of (c : Dev nD) (t : Fin (cfg0.N + 1)) (O : CellTallies nD τ sig ℕ) (h : (dat m c).owed t = O) :
    iprop(∃ W, owes (c : Thread nD τ) O W) ⊢ (dat m c).owesAt 0 t := by
  unfold Pipeline.Dat.owesAt Pipeline.owesWithin Pipeline.Dat.bound
  rw [h]
  iintro ⟨%W, HO⟩
  iexists W
  isplitr
  · ipureintro; exact fun _ _ => Or.inl trivial
  iexact HO
theorem owesAt_to (c : Dev nD) (t : Fin (cfg0.N + 1)) (O : CellTallies nD τ sig ℕ) (h : (dat m c).owed t = O) :
    (dat m c).owesAt 0 t ⊢ iprop(∃ W, owes (c : Thread nD τ) O W) := by
  unfold Pipeline.Dat.owesAt Pipeline.owesWithin
  rw [h]
  iintro ⟨%W, -, HO⟩
  iexists W
  iexact HO

/-! ## Its windows: both whole arrays -/

theorem blk_in (G : Mat F) : ((cfg0.win 0).blk t0_0).view.read (Elt F) G = (cfg0.win 0).cut (cfg0.grid.coords t0_0) G := by
  funext j
  refine congrArg G (funext fun a => Fin.ext ?_)
  match a with
  | ⟨0, _⟩ => exact Nat.add_comm _ _ |>.trans (by show 1 * (j 0).val + 0 * 2048 = (j 0).val; omega)
  | ⟨1, _⟩ => exact Nat.add_comm _ _ |>.trans (by show 1 * (j 1).val + 0 * 2048 = (j 1).val; omega)
theorem blk_out (G : Mat F) : ((cfg0.win 1).blk t0_0).view.read (Elt F) G = (cfg0.win 1).cut (cfg0.grid.coords t0_0) G := by
  funext j
  refine congrArg G (funext fun a => Fin.ext ?_)
  match a with
  | ⟨0, _⟩ => exact Nat.add_comm _ _ |>.trans (by show 1 * (j 0).val + 0 * 2048 = (j 0).val; omega)
  | ⟨1, _⟩ => exact Nat.add_comm _ _ |>.trans (by show 1 * (j 1).val + 0 * 2048 = (j 1).val; omega)

theorem before_in (c : Dev nD) (d : (cfg0.win 0).block.Idx → Elt F (cfg0.win 0).elt) : (dat m c).before 0 t0_0 d = part m c := by
  unfold Pipeline.Dat.before
  rw [if_pos (fetch0_0 t0_0)]
  have e : (dat m c).fetched 0 t0_0 d = (cfg0.win 0).fill (cfg0.grid.coords t0_0) d (((cfg0.win 0).blk t0_0).view.read (Elt F) (part m c)) := rfl
  rw [e, blk_in, Pipeline.fill_of_clip_none 0 (cfg0.grid.coords t0_0) (fun _ => rfl) d (part m c)]
  exact (cfg0.win 0).fill_cut _ _

theorem mem_out (t : Fin cfg0.N) (i : S2048x2048.Idx) : i ∈ ((cfg0.win 1).blk t).view.set := by
  show i ∈ ((View.whole main_v2).slice (win0_1.rect t)).set
  rw [View.set_slice_whole, Rect.mem_set_unit]
  obtain rfl := fin_N0 t
  intro a
  have h := (i a).isLt
  match a with
  | ⟨0, _⟩ => exact ⟨Nat.zero_le _, by show (i 0).val < _; exact h⟩
  | ⟨1, _⟩ => exact ⟨Nat.zero_le _, by show (i 1).val < _; exact h⟩
theorem arr_out (c : Dev nD) : (dat m c).arrAt 1 cfg0.N = Res (part m) c :=
  (dat m c).arrAt_eq_of_cover 1 (Res (part m) c)
    (fun t _ => by
      obtain rfl := fin_N0 t
      have ha : (dat m c).after 1 t0_0 = Res (part m) c := rfl
      unfold Pipeline.Dat.flushed
      rw [ha]
      exact (blk_out (Res (part m) c)).symm)
    fun i => ⟨t0_0, flush0_1 _, mem_out t0_0 i⟩

/-! ## The body -/

theorem body_ob (c : Dev nD) : Pipeline.BodyObligation (dat m c) (defs₀ (F := F)) 𝒱₀ 0 Set.univ := fun t => by
  obtain rfl := fin_N0 t
  rw [bigSep_W0, bigSep_W0]
  simp only [owns_whole_eq]
  rw [Phi_in, Phi_out]
  have hb : defs₀ (F := F) .tc cfg0.body (cfg0.bodyArgs t0_0 (cfg0.slots t0_0)) = Prog.op .deviceId fun c => body c := body_eq
  rw [hb, wp_deviceId, ← bind_pure (body c)]
  unfold PhiIn Start
  iintro ⟨⟨⟨%K, #HC, HB, HW, HR, HS⟩, Hbufs, Hreg⟩, HO, ⟨%d0, %f0, %hf0, H0⟩, ⟨%d1, %f1, %hf1, H1⟩⟩
  rw [before_in] at hf0
  subst hf0
  ihave HO := (owesAt_to m c _ (O₀ c) (owed_in m c)) $$ HO
  iapply (device_spec (part m) K c (fun u => Prog.ret u) _) $$ [HB HW HR HS Hbufs HO H0 H1]
  · isplitr; · iexact HC
    isplitl [HB]; · iexact HB
    isplitl [HO]; · iexact HO
    isplitl [H0]; · iexact H0
    isplitl [H1]; · iexists f1; iexact H1
    isplitl [Hbufs]; · iexact Hbufs
    isplitl [HW]; · iexact HW
    isplitl [HR]; · iexact HR
    iexact HS
  iintro ⟨HO, H0, H1, Hbufs, Hz, Hb0⟩
  unfold run
  rw [wp_ret]
  imodintro
  unfold PhiOut
  isplitl [Hz Hb0 Hbufs Hreg]
  · isplitl [Hz]; · iexact Hz
    isplitl [Hb0]; · iexact Hb0
    isplitl [Hbufs]; · iexact Hbufs
    iexact Hreg
  isplitl [HO]
  · iapply (owesAt_of m c _ 0 (owed_out m c)); iexact HO
  isplitl [H0]
  · iexists _; isplitr; swap; (· iexact H0); ipureintro; rfl
  iexists _; isplitr; swap; (· iexact H1); ipureintro; rfl

/-! ## Entry and exit -/

/-- What the launch keeps for the region, what the region's entry makes of it, and what its exit leaves. -/
def Tk (c : Dev nD) : sProp 𝕄 :=
  iprop((∃ K : GSem nD τ sig → ℕ, bigSep (barCells ∪ scCells) fun g => cellInv ER (Rd (part m)) (K g) g)
    ∗ BarIn (F := F) c ∗ Opens (F := F) c ∗ Work (F := F) c)
def Yk (c : Dev nD) : sProp 𝕄 := semVal (barCell c) 0

theorem opening (c : Dev nD) : iprop(Tk m c ∗ Pipeline.ownSems0 osem c ∗ levAts L lv) ⊢ |={Set.univ}=> Start m c := by
  have e : (Pipeline.ownSems0 osem c : sProp 𝕄) = Zeros c := rfl
  rw [e]
  unfold Tk Start
  iintro ⟨⟨⟨%K, #HI⟩, HB, Hop, HW⟩, Hz, #HL⟩
  ihave HC : Ctx (part m) K $$ []
  · unfold Ctx
    isplitr; · iexact HI
    iexact HL
  icases HC with #HC
  imod (open_all (part m) K c) $$ [Hop Hz] with ⟨HR, HS⟩
  · isplitr; · iexact HC
    isplitl [Hop] <;> iassumption
  imodintro
  iexists K
  isplitr; · iexact HC
  isplitl [HB]; · iexact HB
  isplitl [HW]; · iexact HW
  isplitl [HR] <;> iassumption

theorem rest_bufs (c : Dev nD) : (Pipeline.scopedRest (Pipeline.pin (pcfgs (F := F)) adm 0).spec c : sProp 𝕄) ⊣⊢ Bufs (F := F) c := by
  have e := scopedRest0_eq (Val := Elt F) (Ix := ℕ) (Name := ℕ) (U := UU) (Lvl := ℕ) c
  have e' : (Pipeline.scopedRest (Pipeline.pin (pcfgs (F := F)) adm 0).spec c : sProp 𝕄)
    = iprop(AnySt (F := F) true c ∗ AnySt (F := F) false c ∗ AnyAg (F := F) true c ∗ AnyAg (F := F) false c) := e
  rw [e']
  unfold Bufs
  constructor
  · iintro ⟨H0, H1, H2, H3⟩
    isplitl [H0 H1]
    · isplitl [H0] <;> iassumption
    isplitl [H2] <;> iassumption
  · iintro ⟨⟨H0, H1⟩, H2, H3⟩
    isplitl [H0]; · iexact H0
    isplitl [H1]; · iexact H1
    isplitl [H2] <;> iassumption

theorem entry (c : Dev nD) :
    iprop(Pipeline.scopedRest (Pipeline.pin (pcfgs (F := F)) adm 0).spec c ∗ (∃ r, prngReg c r) ∗ StableHlo.held (c.tc : Thread nD τ) ∅ (V₁ m c) ∗ Start m c)
      ⊢ (pdats m 0 c).Φ 0 := by
  have e : (pdats m 0 c).Φ 0 = PhiIn m c := Phi_in m c
  rw [e]
  unfold PhiIn
  iintro ⟨Hr, Hp, -, HS⟩
  isplitl [HS]; · iexact HS
  isplitl [Hr]; · iapply (rest_bufs c).1; iexact Hr
  iexact Hp

theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ Yk (F := F) c) := by
  have e : (pdats m 0 c).Φ (Fin.last (Pipeline.pin (pcfgs (F := F)) adm 0).N) = PhiOut (F := F) c := Phi_out m c
  have e0 : (Pipeline.ownSems0 osem c : sProp 𝕄) = Zeros c := rfl
  have e1 : (StableHlo.held (c.tc : Thread nD τ) ∅ (V₂ m c) : sProp 𝕄) = BI.emp := bigSep_empty
  rw [e, e0, e1]
  unfold PhiOut Yk
  iintro ⟨Hz, Hb, Hbufs, Hp⟩
  isplitl [Hbufs]; · iapply (rest_bufs c).2; iexact Hbufs
  isplitl [Hp]; · iexact Hp
  isplitr; · iempintro
  isplitl [Hz] <;> iassumption

/-! ## Levels and the kernel's own semaphores -/

theorem dec_stage : ∀ (w : Fin cfg0.W) (s : Fin (cfg0.win w).nbuf), dec (.dma ((cfg0.win w).sem s)) = none := by decide
theorem own_facts : Pipeline.OwnSemFacts (pcfgs (F := F) 0).spec osem where
  isScoped := by decide +kernel
  inj := osem_inj
  disj k w s h := by
    have := dec_osem k
    rw [h] at this
    exact absurd ((dec_stage w s).symm.trans this) (fun h => nomatch h)

theorem O₀_at {c : Dev nD} {g : GSem nD τ sig} {i : ℕ} (h : 0 < O₀ c g i) : i ∈ L g ∧ 0 < lv g i := by
  unfold O₀ at h
  rw [Pi.add_apply, Pi.add_apply, Finsupp.add_apply, Finsupp.add_apply] at h
  rcases Nat.add_pos_iff_pos_or_pos.mp h with h | h
  · rcases Nat.add_pos_iff_pos_or_pos.mp h with h | h
    · obtain ⟨l, j, -, hj, rfl, rfl⟩ := owed_pos h
      exact ⟨mem_L _ _ _ (by omega), by rw [lv_r]; omega⟩
    · rw [tallyAt_apply] at h
      split at h
      · next hg => rw [hg.1, hg.2]; exact ⟨mem_L _ _ _ (by omega), by rw [lv_b]; omega⟩
      · exact absurd h (Nat.lt_irrefl 0)
  · rw [tallyAt_apply] at h
    split at h
    · next hg => rw [hg.1, hg.2]; exact ⟨mem_L _ _ _ (by omega), by rw [lv_b]; omega⟩
    · exact absurd h (Nat.lt_irrefl 0)

theorem cut : Pipeline.LevelCutOwed (pcfgs (F := F)) adm (pdats m) 0 L lv 0 (fun _ => 0) where
  hι c w s := mem_L c _ 0 (by decide)
  hιb c w s := by
    have h := dec_stage w s
    show (match dec (.dma ((cfg0.win w).sem s)) with
      | some (true, _, h) => h.val + 15 * 0 + 2
      | some (false, _, _) => 0
      | none => if (SemLoc.dma ((cfg0.win w).sem s)) = .reg barS.sem then 1 else 0) ≤ 0
    rw [h]
    exact Nat.le_of_eq (if_neg (show SemLoc.dma ((cfg0.win w).sem s) ≠ .reg barS.sem from fun h => nomatch h))
  hD c t g i h := by
    have e : (pdats (F := F) m 0 c).owed t = if t.val = 0 then O₀ c else 0 := rfl
    rw [e] at h
    split at h
    · exact O₀_at h
    · exact absurd h (Nat.lt_irrefl 0)

/-! ## The record -/

/-- The buffers no core scopes. -/
def bufs : Finset (DevRef τ sig) := (StableHlo.tcRefs τ sig).filter fun b => ¬ b.isScoped

theorem arr_at_out (c : Dev nD) : ∀ w : Fin 2, (dat m c).arrAt w cfg0.N = V₂ m c (Proc.devRef .tc (Pipeline.arrRef spec0 w))
  | 0 => by
    rw [(dat m c).arrAt_in 0 rfl _]
    have hn : (Proc.devRef .tc main_v1 : DevRef τ sig) ≠ Proc.devRef .tc main_v2 := StableHlo.devRef_ne_of_ne (by decide)
    exact (Function.update_of_ne hn (Res (part m) c) (V₁ m c)).symm
  | 1 => by
    rw [arr_out]
    exact (Function.update_self (Proc.devRef .tc main_v2) (Res (part m) c) (V₁ m c)).symm

theorem off_out (c : Dev nD) : ∀ b ∈ (bufs \ Pipeline.arrRefs (τ := τ) spec0) \ ∅, V₂ m c b = V₁ m c b := fun b hb => by
  have hn : b ≠ Proc.devRef .tc main_v2 := fun h => by
    subst h
    exact absurd (Finset.mem_sdiff.mp (Finset.mem_sdiff.mp hb).1).2 (not_not.mpr (by decide))
  exact Function.update_of_ne hn _ _

set_option backward.isDefEq.respectTransparency.types false in
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem own_facts ∅ (bufs \ Pipeline.arrRefs spec0) (Finset.empty_subset _)
    launch0.toP rfl (fun c => (body_ob m c).loose) (fun _ => 0) O₀ (fun c => (owed_in m c).trans (zero_add _).symm) (owed_out m) (fun _ => rfl)
    (fun c => (pdats m 0 c).share_full fun _ => rfl) (V₁ m) (V₂ m)
    (off_out m)
    (Tk m) (Yk (F := F)) (Start m) (Yk (F := F)) (opening m) (entry m) (leaving m) (fun c => by iintro H; imodintro; iexact H)
    (fun _ => 0) (cut m) (fun _ => iprop(emp)) (fun c w => rfl) (arr_at_out m)

end Cert.KernelIdeal.Ring
-- ==== Proof.RunIdeal.Deal.lean ====
/- What the launch deals: the tokens of every duty, each to the device that performs it, and the credit of every transfer
   and barrier signal, to the device that waits for it. -/
module

public import proofs.«01_k».proof.Proof.RunIdeal.Region
public import Mathlib.Algebra.BigOperators.Intervals

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## Round the ring -/

/-- Going to the neighbour, of devices, and of devices and lanes in each lane's own direction. -/
def around (δ : Bool) : Dev nD ≃ Dev nD := ⟨succ δ, succ (!δ), succ_succ' δ, succ_succ δ⟩
def aroundLanes : Dev nD × Lane ≃ Dev nD × Lane :=
  ⟨fun p => (succ p.2.1 p.1, p.2), fun p => (succ (!p.2.1) p.1, p.2),
    fun p => Prod.ext (succ_succ' p.2.1 p.1) rfl, fun p => Prod.ext (succ_succ p.2.1 p.1) rfl⟩

theorem lanes_around (Φ : Dev nD → Lane → sProp 𝕄) :
    (bigSep Finset.univ fun c : Dev nD => bigSep Finset.univ fun l : Lane => Φ c l)
      = bigSep Finset.univ fun c : Dev nD => bigSep Finset.univ fun l : Lane => Φ (succ l.1 c) l := by
  have h1 := bigSep_univ_prod (fun p : Dev nD × Lane => Φ p.1 p.2)
  have h2 := bigSep_univ_prod (fun p : Dev nD × Lane => Φ (succ p.2.1 p.1) p.2)
  rw [← h1, ← h2]
  exact bigSep_univ_equiv aroundLanes fun p : Dev nD × Lane => Φ p.1 p.2

/-! ## Tokens -/

def barTok : Dev nD × Bool ↪ GSem nD τ sig × ℕ × Bool :=
  ⟨fun p => (barCell p.1, 0, p.2), fun _ _ h =>
    Prod.ext (congrArg (fun t : GSem nD τ sig × ℕ × Bool => t.1.1.1) h) (congrArg (fun t : GSem nD τ sig × ℕ × Bool => t.2.2) h)⟩
def runTok : Dev nD × (Bool × Lane × Fin 15) × Fin 2 ↪ GSem nD τ sig × ℕ × Bool :=
  ⟨fun p => (((p.1 : Thread nD τ), osem p.2.1), p.2.2.val, true), fun _ _ h =>
    Prod.ext (congrArg (fun t : GSem nD τ sig × ℕ × Bool => t.1.1.1) h)
      (Prod.ext (osem_inj (congrArg (fun t : GSem nD τ sig × ℕ × Bool => t.1.2) h)) (Fin.ext (congrArg (fun t : GSem nD τ sig × ℕ × Bool => t.2.1) h)))⟩
def toks : Finset (GSem nD τ sig × ℕ × Bool) := Finset.univ.map barTok ∪ Finset.univ.map runTok
theorem toks_disjoint : Disjoint (Finset.univ.map barTok) (Finset.univ.map runTok) := by
  rw [Finset.disjoint_left]
  intro x h1 h2
  obtain ⟨p, -, rfl⟩ := Finset.mem_map.mp h1
  obtain ⟨q, -, h⟩ := Finset.mem_map.mp h2
  exact absurd ((dec_osem q.2.1).symm.trans (congrArg (fun t : GSem nD τ sig × ℕ × Bool => dec t.1.2) h)) (fun h => nomatch h)

/-- A transfer's token; those of a device's own send cells and receive cells in a round, and of its neighbours'. -/
def tok (g : GSem nD τ sig) (r : ℕ) : sProp 𝕄 := dutyTok ER g r true
def sToks (c : Dev nD) (r : ℕ) : sProp 𝕄 := bigSep Finset.univ fun l : Lane => bigSep Finset.univ fun h : Fin 15 => tok (F := F) (scell c l h) r
def rToks (c : Dev nD) (r : ℕ) : sProp 𝕄 := bigSep Finset.univ fun l : Lane => bigSep Finset.univ fun h : Fin 15 => tok (F := F) (rcell c l h) r
def nToks (c : Dev nD) (r : ℕ) : sProp 𝕄 := bigSep Finset.univ fun l : Lane => bigSep Finset.univ fun h : Fin 15 => tok (F := F) (rcell (succ l.1 c) l h) r

theorem rToks_around (r : ℕ) : (bigSep Finset.univ fun c : Dev nD => rToks (F := F) c r) = bigSep Finset.univ fun c : Dev nD => nToks (F := F) c r :=
  lanes_around fun c l => bigSep Finset.univ fun h : Fin 15 => tok (F := F) (rcell c l h) r
theorem lanes_toks (c : Dev nD) : (bigSep Finset.univ fun l : Lane => Toks (F := F) c l 0)
    = iprop((sToks c 0 ∗ sToks (F := F) c 1) ∗ nToks c 0 ∗ nToks (F := F) c 1) := by
  have e (l : Lane) : Toks (F := F) c l 0
      = iprop(((bigSep Finset.univ fun h : Fin 15 => tok (scell c l h) 0) ∗ bigSep Finset.univ fun h : Fin 15 => tok (F := F) (scell c l h) 1)
        ∗ (bigSep Finset.univ fun h : Fin 15 => tok (rcell (succ l.1 c) l h) 0) ∗ bigSep Finset.univ fun h : Fin 15 => tok (F := F) (rcell (succ l.1 c) l h) 1) := by
    have h1 := Ico_hop2 fun h r => tok (F := F) (scell c l h) r
    have h2 := Ico_hop2 fun h r => tok (F := F) (rcell (succ l.1 c) l h) r
    rw [← h1, ← h2]
    unfold Toks tok
    rw [bigSep_sep']
  rw [bigSep_congr fun l _ => e l, bigSep_sep', bigSep_sep', bigSep_sep']
  rfl
theorem run_toks : (bigSep (Finset.univ.map runTok) fun x => (dutyTok ER x.1 x.2.1 x.2.2 : sProp 𝕄))
    = bigSep Finset.univ fun c : Dev nD => iprop((rToks c 0 ∗ sToks (F := F) c 0) ∗ rToks c 1 ∗ sToks (F := F) c 1) := by
  rw [bigSep_map, bigSep_univ_prod]
  refine bigSep_congr fun c _ => ?_
  have h0 : (bigSep Finset.univ fun k : Bool × Lane × Fin 15 => tok (F := F) ((c : Thread nD τ), osem k) 0) = iprop(rToks c 0 ∗ sToks c 0) :=
    cells_lanes c fun g => tok g 0
  have h1 : (bigSep Finset.univ fun k : Bool × Lane × Fin 15 => tok (F := F) ((c : Thread nD τ), osem k) 1) = iprop(rToks c 1 ∗ sToks c 1) :=
    cells_lanes c fun g => tok g 1
  rw [← h0, ← h1, ← bigSep_sep', bigSep_univ_prod]
  exact bigSep_congr fun k _ => BI.bigSep_fin_two fun r : Fin 2 => tok (F := F) ((c : Thread nD τ), osem k) r.val

/-- The tokens of the signals a device sends. -/
def barToks (c : Dev nD) : sProp 𝕄 := iprop(dutyTok ER (barCell (succ false c)) 0 true ∗ dutyTok ER (barCell (succ true c)) 0 false)

theorem bar_toks : (bigSep (Finset.univ.map barTok) fun x => (dutyTok ER x.1 x.2.1 x.2.2 : sProp 𝕄)) = bigSep Finset.univ fun c : Dev nD => barToks (F := F) c := by
  rw [bigSep_map, bigSep_univ_prod]
  have e (c : Dev nD) : (bigSep Finset.univ fun d : Bool => (dutyTok ER (barTok (c, d)).1 (barTok (c, d)).2.1 (barTok (c, d)).2.2 : sProp 𝕄))
    = iprop(dutyTok ER (barCell c) 0 true ∗ dutyTok ER (barCell c) 0 false) := two fun d => dutyTok ER (barCell c) 0 d
  rw [bigSep_congr fun c _ => e c, bigSep_sep']
  unfold barToks
  rw [bigSep_sep', bigSep_univ_equiv (around false) fun c : Dev nD => (dutyTok ER (barCell c) 0 true : sProp 𝕄),
    bigSep_univ_equiv (around true) fun c : Dev nD => (dutyTok ER (barCell c) 0 false : sProp 𝕄)]
  rfl

theorem deal_toks : (bigSep toks fun x => (dutyTok ER x.1 x.2.1 x.2.2 : sProp 𝕄))
    ⊢ bigSep Finset.univ fun c : Dev nD => iprop(barToks (F := F) c ∗ bigSep Finset.univ fun l : Lane => Toks (F := F) c l 0) := by
  unfold toks
  have e : (bigSep (Finset.univ.map barTok ∪ Finset.univ.map runTok) fun x => (dutyTok ER x.1 x.2.1 x.2.2 : sProp 𝕄))
    = iprop((bigSep (Finset.univ.map barTok) fun x => dutyTok ER x.1 x.2.1 x.2.2) ∗ bigSep (Finset.univ.map runTok) fun x => dutyTok ER x.1 x.2.1 x.2.2) :=
    bigSep_union toks_disjoint
  rw [e, bar_toks, run_toks, bigSep_congr fun c _ => congrArg (fun X => iprop(barToks (F := F) c ∗ X)) (lanes_toks (F := F) c)]
  rw [bigSep_sep', bigSep_sep', bigSep_sep', bigSep_sep', bigSep_sep', bigSep_sep', bigSep_sep', rToks_around, rToks_around]
  iintro ⟨HB, ⟨HN0, HS0⟩, HN1, HS1⟩
  isplitl [HB]; · iexact HB
  isplitl [HS0 HS1]
  · isplitl [HS0] <;> iassumption
  isplitl [HN0] <;> iassumption

/-! ## Credit -/

theorem rcell_inj {c d : Dev nD} {l l' : Lane} {h h' : Fin 15} (e : rcell c l h = rcell d l' h') : c = d ∧ l = l' ∧ h = h' := by
  have e1 : c = d := congrArg (fun g : GSem nD τ sig => g.1.1) e
  have e2 := congrArg (fun g : GSem nD τ sig => dec g.2) e
  have e3 : some (true, l, h) = some (true, l', h') := (dec_r l h).symm.trans (e2.trans (dec_r l' h'))
  have e4 := Option.some.inj e3
  exact ⟨e1, congrArg (fun k : Bool × Lane × Fin 15 => k.2.1) e4, congrArg (fun k : Bool × Lane × Fin 15 => k.2.2) e4⟩
theorem rcell_ne_bar (c d : Dev nD) (l : Lane) (h : Fin 15) : rcell c l h ≠ barCell d := fun e => nomatch congrArg Prod.snd e

theorem sum_hop (a : ℕ) (h : Fin 15) (i : ℕ) :
    (∑ j ∈ Finset.Ico (15 * a) (15 * a + 15), if h = hop j ∧ i = j / 15 then N else 0) = if i = a then N else 0 := by
  have hh := h.isLt
  rw [Finset.sum_eq_single (15 * a + h.val)]
  · have e1 : h = hop (15 * a + h.val) := Fin.ext (by show h.val = (15 * a + h.val) % 15; omega)
    have e2 : (15 * a + h.val) / 15 = a := by omega
    rw [e2]
    by_cases hi : i = a
    · rw [if_pos ⟨e1, hi⟩, if_pos hi]
    · rw [if_neg (fun x => hi x.2), if_neg hi]
  · intro j hj hne
    rw [Finset.mem_Ico] at hj
    refine if_neg fun x => hne ?_
    have e : h.val = j % 15 := congrArg Fin.val x.1
    omega
  · intro hn
    exact absurd (Finset.mem_Ico.mpr ⟨by omega, by omega⟩) hn

theorem owed_r (c d : Dev nD) (l : Lane) (h : Fin 15) (i : ℕ) :
    O₀ d (rcell c l h) i = if d = succ (!l.1) c then (if i = 0 then N else 0) + (if i = 1 then N else 0) else 0 := by
  unfold O₀
  rw [Pi.add_apply, Pi.add_apply, Finsupp.add_apply, Finsupp.add_apply, tallyAt_ne_cell (rcell_ne_bar _ _ _ _), tallyAt_ne_cell (rcell_ne_bar _ _ _ _),
    Finsupp.zero_apply, Nat.add_zero, Nat.add_zero]
  unfold owed
  rw [tallies_sum_apply]
  have other (l' : Lane) (j : ℕ) (hn : ¬ (c = succ l'.1 d ∧ l = l')) : owe1 d l' j (rcell c l h) i = 0 := by
    unfold owe1
    rw [tallyAt_apply]
    exact if_neg fun x => hn ⟨(rcell_inj x.1).1, (rcell_inj x.1).2.1⟩
  by_cases hd : d = succ (!l.1) c
  · have hc : c = succ l.1 d := by rw [hd, succ_succ]
    rw [if_pos hd, Finset.sum_eq_single l]
    · rw [tallies_sum_apply, ← Finset.sum_Ico_consecutive _ (show 0 ≤ 15 by decide) (show 15 ≤ 30 by decide)]
      have e (j : ℕ) : owe1 d l j (rcell c l h) i = if h = hop j ∧ i = j / 15 then N else 0 := by
        unfold owe1
        rw [tallyAt_apply, ← hc]
        by_cases x : h = hop j ∧ i = j / 15
        · rw [if_pos x, if_pos ⟨by rw [x.1], x.2⟩]
        · rw [if_neg x, if_neg fun y => x ⟨(rcell_inj y.1).2.2, y.2⟩]
      rw [Finset.sum_congr rfl fun j _ => e j, Finset.sum_congr rfl fun j _ => e j]
      exact congrArg₂ (· + ·) (sum_hop 0 h i) (sum_hop 1 h i)
    · intro l' _ hne
      rw [tallies_sum_apply]
      exact Finset.sum_eq_zero fun j _ => other l' j fun x => hne x.2.symm
    · intro hn; exact absurd (Finset.mem_univ l) hn
  · rw [if_neg hd]
    refine Finset.sum_eq_zero fun l' _ => ?_
    rw [tallies_sum_apply]
    refine Finset.sum_eq_zero fun j _ => other l' j fun x => hd ?_
    obtain ⟨x1, x2⟩ := x
    subst x2
    rw [x1, succ_succ']

theorem owed_b (c d : Dev nD) (i : ℕ) :
    O₀ d (barCell c) i = (if d = succ false c then (if i = 0 then 1 else 0) else 0) + (if d = succ true c then (if i = 0 then 1 else 0) else 0) := by
  have h0 : owed d (fun _ => 0) (barCell c) i = 0 := by
    by_contra hn
    obtain ⟨l, j, -, -, hg, -⟩ := owed_pos (Nat.pos_of_ne_zero hn)
    exact rcell_ne_bar _ _ _ _ hg.symm
  have e (δ : Bool) : (tallyAt (barCell (succ δ d)) 0 1 : CellTallies nD τ sig ℕ) (barCell c) i = if d = succ (!δ) c then (if i = 0 then 1 else 0) else 0 := by
    rw [tallyAt_apply]
    by_cases hd : d = succ (!δ) c
    · have hc : succ δ d = c := by rw [hd, succ_succ]
      rw [if_pos hd, hc]
      by_cases hi : i = 0
      · rw [if_pos ⟨rfl, hi⟩, if_pos hi]
      · rw [if_neg (fun x => hi x.2), if_neg hi]
    · rw [if_neg hd]
      refine if_neg fun x => hd ?_
      have hc : c = succ δ d := congrArg (fun g : GSem nD τ sig => g.1.1) x.1
      rw [hc, succ_succ']
  unfold O₀
  rw [Pi.add_apply, Pi.add_apply, Finsupp.add_apply, Finsupp.add_apply, h0, Nat.zero_add, e, e]
  rfl

theorem credit_r (c : Dev nD) (l : Lane) (h : Fin 15) :
    tallyOn (rcell c l h) (launchCredit (Pipeline.owing O₀) 0 (rcell c l h)) = (tallyAt (rcell c l h) 0 N + tallyAt (rcell c l h) 1 N : CellTallies nD τ sig ℕ) := by
  unfold tallyAt
  rw [← tallyOn_add]
  refine congrArg _ (Finsupp.ext fun i => ?_)
  rw [Pipeline.launchCredit_owing, Finset.sum_congr rfl fun d _ => owed_r c d l h i, Finset.sum_ite_eq' Finset.univ (succ (!l.1) c), if_pos (Finset.mem_univ _),
    Finsupp.add_apply, Finsupp.single_apply, Finsupp.single_apply]
  exact congrArg₂ (· + ·) (if_congr eq_comm rfl rfl) (if_congr eq_comm rfl rfl)
theorem credit_b (c : Dev nD) :
    tallyOn (barCell c) (launchCredit (Pipeline.owing O₀) 0 (barCell c)) = (tallyAt (barCell c) 0 2 : CellTallies nD τ sig ℕ) := by
  unfold tallyAt
  refine congrArg _ (Finsupp.ext fun i => ?_)
  rw [Pipeline.launchCredit_owing, Finset.sum_congr rfl fun d _ => owed_b c d i, Finset.sum_add_distrib, Finset.sum_ite_eq' Finset.univ (succ false c),
    Finset.sum_ite_eq' Finset.univ (succ true c), if_pos (Finset.mem_univ _), if_pos (Finset.mem_univ _), Finsupp.single_apply]
  by_cases hi : i = 0
  · rw [if_pos hi, if_pos hi.symm]
  · rw [if_neg hi, if_neg fun x => hi x.symm, Nat.add_zero]

def semEmb : (Bool × Lane × Fin 15) ↪ SemLoc sig := ⟨osem, osem_inj⟩
theorem sems_sub : Finset.univ.map semEmb ⊆ Finset.univ.erase (SemLoc.reg barS.sem : SemLoc sig) := fun sm h => by
  obtain ⟨k, -, rfl⟩ := Finset.mem_map.mp h
  exact Finset.mem_erase.mpr ⟨fun e => (nomatch (dec_osem k).symm.trans (congrArg dec e)), Finset.mem_univ _⟩

theorem lanes_cred (c : Dev nD) : (bigSep Finset.univ fun l : Lane => bigSep Finset.univ fun h : Fin 15 =>
      (cred (tallyOn (rcell c l h) (launchCredit (Pipeline.owing O₀) 0 (rcell c l h))) : sProp 𝕄)) = bigSep Finset.univ fun l : Lane => RCr (F := F) c l 0 := by
  refine bigSep_congr fun l _ => ?_
  have e : RCr (F := F) c l 0 = _ := Ico_hop2 fun h r => (cred (tallyAt (rcell c l h) r N) : sProp 𝕄)
  rw [e, ← bigSep_sep']
  refine bigSep_congr fun h _ => ?_
  rw [credit_r]
  exact BI.equiv_iff.mp ⟨(cred_add _ _).1, (cred_add _ _).2⟩

/-- What a device is dealt of the credit. -/
theorem deal_cred (c : Dev nD) : (Pipeline.launchCred O₀ c : sProp 𝕄)
    ⊢ iprop(cred (tallyAt (barCell c) 0 2) ∗ bigSep Finset.univ fun l : Lane => RCr (F := F) c l 0) := by
  have hs := bigSep_subset sems_sub (Φ := fun sm : SemLoc sig =>
    (cred (tallyOn ((c.tc : Thread nD τ), sm) (launchCredit (Pipeline.owing O₀) 0 ((c.tc : Thread nD τ), sm))) : sProp 𝕄))
  have hm := cells_lanes (F := F) c fun g => cred (tallyOn g (launchCredit (Pipeline.owing O₀) 0 g))
  rw [lanes_cred] at hm
  unfold Pipeline.launchCred
  rw [bigSep_univ_at _ (SemLoc.reg barS.sem), credit_b]
  rw [bigSep_map] at hs
  exact sep_mono_right (hs.trans ((Entails.of_eq hm).trans (BI.sep_and.trans and_elimL)))

end Cert.KernelIdeal.Ring
-- ==== Proof.RunIdeal.Launch.lean ====
/- The run of the whole program: every cell's record made at launch, everything dealt to the devices, the host product and
   the kernel run, and the final memory read. -/
module

public import proofs.«01_k».proof.Proof.RunIdeal.Deal
public import Idealize.ShloMosaic.Lib.Pipeline.Kit
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The buffers and counters a launch deals -/

theorem dealt_bufs (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem dealt_sems (c : Dev nD) : (unscopedSems0 c : sProp 𝕄) = semVal (barCell c) 0 := by
  unfold unscopedSems0
  rw [show (Finset.univ.filter fun sm : SemLoc sig => ¬ sm.isScoped .tc) = {SemLoc.reg barS.sem} from by decide, BI.bigSep_singleton]
theorem held_bufs (c : Dev nD) (W : Valuation τ sig (Elt F)) : (StableHlo.held (c : Thread nD τ) bufs W : sProp 𝕄)
    = iprop(((c : Thread nD τ).loc main_arg0 ↦{fullShare} W main_arg0) ∗ ((c : Thread nD τ).loc main_arg1 ↦{fullShare} W main_arg1)
      ∗ ((c : Thread nD τ).loc main_v1 ↦{fullShare} W main_v1) ∗ ((c : Thread nD τ).loc main_v2 ↦{fullShare} W main_v2)) := by
  unfold StableHlo.held
  rw [bigSep_eq_bigSepL_of_eq [Proc.devRef .tc main_arg0, Proc.devRef .tc main_arg1, Proc.devRef .tc main_v1, Proc.devRef .tc main_v2] (by decide) (by decide)]
  rfl

theorem cells_disjoint : Disjoint (barCells : Finset (GSem nD τ sig)) scCells := by
  rw [Finset.disjoint_left]
  intro g h1 h2
  obtain ⟨c, -, rfl⟩ := Finset.mem_map.mp h1
  obtain ⟨ck, -, h⟩ := Finset.mem_map.mp h2
  exact absurd ((dec_osem ck.2).symm.trans (congrArg (fun g : GSem nD τ sig => dec g.2) h)) (fun h => nomatch h)

/-! ## The segments -/

/-- What rides beside the buffers through the host product. -/
def Rest (c : Dev nD) : sProp 𝕄 := iprop(Tk m c ∗ (∃ r, prngReg c r) ∗ ∃ W, owes (c : Thread nD τ) (O₀ c) W)

theorem ops_in : ∀ op ∈ (hostOps0 : List (HloOp τ sig (Elt F))), op.bufs ⊆ bufs := fun op hop => by
  have e : op.bufs = {Proc.devRef .tc main_arg0, Proc.devRef .tc main_arg1, Proc.devRef .tc main_v1} := by
    have h := List.mem_singleton.mp hop
    rw [h]
    exact StableHlo.binary_bufs ..
  rw [e]
  decide
theorem ops_fresh : ∀ op ∈ (hostOps0 : List (HloOp τ sig (Elt F))), op.fresh = ∅ := List.forall_iff_forall_mem.mp hostOps0_fresh

def seg : Pipeline.HostSeg (Name := ℕ) (U := UU) (pcfgs (F := F)) defs₀ 𝒱₀ L lv :=
  Pipeline.HostSeg.ofOps _ _ _ _ _ bufs hostOps0 ops_in ops_fresh (V₀ m) (Rest m)

def segs : List (Pipeline.Seg (pcfgs (F := F)) adm (pdats m) 0 defs₀ 𝒱₀ L lv) := [.host (seg m), .region (reg m)]
theorem main_eq (c : Dev nD) : main (F := F) c = Pipeline.Seg.run (segs m) := main_segs adm (pdats m) 0 𝒱₀ L lv (seg m) (reg m) rfl c

theorem arr_sub : Pipeline.arrRefs (τ := τ) spec0 ⊆ bufs := by decide

theorem reg_pre (c : Dev nD) : (seg m).post c ⊢ (reg m).pre c := by
  show iprop(StableHlo.held (c.tc : Thread nD τ) bufs (V₁ m c) ∗ Rest m c)
    ⊢ iprop(StableHlo.held (c.tc : Thread nD τ) (Pipeline.arrRefs (τ := τ) spec0) (V₁ m c) ∗ (∃ r, prngReg c r)
      ∗ (StableHlo.held (c.tc : Thread nD τ) (bufs \ Pipeline.arrRefs (τ := τ) spec0) (V₁ m c) ∗ emp) ∗ Tk m c ∗ ∃ Wd, owes (c : Thread nD τ) (0 + O₀ c) Wd)
  rw [StableHlo.held_sub_split (c.tc : Thread nD τ) arr_sub, zero_add]
  unfold Rest
  iintro ⟨⟨Ha, Hb⟩, HK, Hp, HO⟩
  isplitl [Ha]; · iexact Ha
  isplitl [Hp]; · iexact Hp
  isplitl [Hb]
  · isplitl [Hb]; · iexact Hb
    iempintro
  isplitl [HK] <;> iassumption

/-- What a device holds at the start and at the end. -/
abbrev First (c : Dev nD) : sProp 𝕄 := iprop(StableHlo.held (c : Thread nD τ) bufs (V₀ m c) ∗ Rest m c)
abbrev Last (c : Dev nD) : sProp 𝕄 := iprop(StableHlo.held (c : Thread nD τ) bufs (V₂ m c) ∗ semVal (barCell c) 0)

theorem reg_post (c : Dev nD) : (reg m).post c ⊢ iprop(Last m c ∗ ∃ W, owes (c : Thread nD τ) (0 : CellTallies nD τ sig ℕ) W) := by
  show iprop(StableHlo.held (c.tc : Thread nD τ) (Pipeline.arrRefs (τ := τ) spec0) (V₂ m c) ∗ (∃ r, prngReg c r)
      ∗ (StableHlo.held (c.tc : Thread nD τ) (bufs \ Pipeline.arrRefs (τ := τ) spec0) (V₂ m c) ∗ emp) ∗ Yk c ∗ ∃ Wd, owes (c : Thread nD τ) (0 : CellTallies nD τ sig ℕ) Wd)
    ⊢ iprop((StableHlo.held (c.tc : Thread nD τ) bufs (V₂ m c) ∗ semVal (barCell c) 0) ∗ ∃ W, owes (c : Thread nD τ) (0 : CellTallies nD τ sig ℕ) W)
  rw [StableHlo.held_sub_split (c.tc : Thread nD τ) arr_sub]
  unfold Yk
  iintro ⟨Ha, -, ⟨Hb, -⟩, Hz, HO⟩
  isplitr [HO]
  · isplitl [Ha Hb]
    · isplitl [Ha] <;> iassumption
    iexact Hz
  iexact HO

/-! ## The launch -/

/-- The launch's ghost element; the protocol's part lies with device 0 until all devices are dealt theirs. -/
def u₀ : UU :=
  (initOf (Pipeline.cells (Pipeline.pin (pcfgs (F := F)) adm) cellOf_inj) (Pipeline.launchToks (Pipeline.pin (pcfgs (F := F)) adm) cellOf_inj),
    launchOf barCells scCells toks)
def parked (X : sProp 𝕄) (c : Dev nD) : sProp 𝕄 := if c = 0 then X else iprop(emp)
theorem parked_all (X : sProp 𝕄) : bigSep Finset.univ (parked X) = X := by
  have h (c : Dev nD) (hc : c ∈ Finset.univ.erase (0 : Dev nD)) : parked X c = (BI.emp : sProp 𝕄) := if_neg (Finset.ne_of_mem_erase hc)
  have h0 : parked X 0 = X := if_pos rfl
  rw [bigSep_univ_at _ (0 : Dev nD), bigSep_congr h, BI.bigSep_emp_const, h0]
  exact BI.equiv_iff.mp sep_emp
def Pool : sProp 𝕄 := BI.own (ER (launchOf barCells scCells toks))

/-- The records all devices share. -/
def shared (κ : GSem nD τ sig → ℕ) : sProp 𝕄 :=
  iprop((bigSep (barCells ∪ scCells) fun g => cellInv ER (Rd (part m)) (κ g) g) ∗ bigSep barCells fun g => reached ER g 0)
instance shared_persistent (κ : GSem nD τ sig → ℕ) : BI.Persistent (shared m κ) := by unfold shared; infer_instance
theorem shared_reached (c : Dev nD) : (bigSep barCells fun g => (reached ER g 0 : sProp 𝕄)) ⊢ reached ER (barCell c) 0 :=
  bigSep_elim (Finset.mem_map_of_mem barEmb (Finset.mem_univ c))

/-- A device's own part of the protocol, and the rest it is dealt. -/
def own (c : Dev nD) : sProp 𝕄 :=
  iprop(atPos ER (barCell c) 0 ∅ 0 ∗ Opens (F := F) c ∗ barToks (F := F) c ∗ bigSep Finset.univ fun l : Lane => Toks (F := F) c l 0)
def held (c : Dev nD) : sProp 𝕄 :=
  iprop(StableHlo.held (c : Thread nD τ) bufs (V₀ m c) ∗ (cred (tallyAt (barCell c) 0 2) ∗ bigSep Finset.univ fun l : Lane => RCr (F := F) c l 0)
    ∗ owes (c : Thread nD τ) (O₀ c) ∅ ∗ ∃ r, prngReg c r)

theorem first_intro (κ : GSem nD τ sig → ℕ) (c : Dev nD) : iprop(shared m κ ∗ own (F := F) c ∗ held m c) ⊢ First m c := by
  unfold held own First Rest Tk shared barToks BarIn Work
  iintro ⟨⟨#HI, #HR⟩, ⟨Hat, Hop, ⟨Ht, Hf⟩, HT⟩, Hh, ⟨Hcb, Hcr⟩, HO, Hp⟩
  isplitl [Hh]; · iexact Hh
  isplitr [HO Hp]
  · isplitr; · iexists κ; iexact HI
    isplitl [Hat Ht Hf Hcb]
    · isplitl [Hat]; · iexact Hat
      isplitr; · iapply (shared_reached (F := F) (succ false c)); iexact HR
      isplitr; · iapply (shared_reached (F := F) (succ true c)); iexact HR
      isplitl [Ht]; · iexact Ht
      isplitl [Hf] <;> iassumption
    isplitl [Hop]; · iexact Hop
    isplitl [HT] <;> iassumption
  · isplitl [Hp]; · iexact Hp
    iexists ∅; iexact HO

/-- What the launch deals a device. -/
def dealt (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ parked (Pool (F := F)) c)
theorem dealt_one (c : Dev nD) : dealt m ρ c ⊢ (iprop(held m c ∗ semVal (barCell c) 0 ∗ parked (Pool (F := F)) c) : sProp 𝕄) := by
  have e : (unscopedBufs c (fun b => m ((c : Thread nD τ).loc b)) : sProp 𝕄) = StableHlo.held (c : Thread nD τ) bufs (V₀ m c) := dealt_bufs c (V₀ m c)
  unfold dealt held
  rw [e, dealt_sems]
  iintro ⟨Hh, Hs, HO, Hcr, Hp, HG⟩
  ihave Hc := (deal_cred (F := F) c) $$ Hcr
  isplitr [Hs HG]
  · isplitl [Hh]; · iexact Hh
    isplitl [Hc]; · iexact Hc
    isplitl [HO]; · iexact HO
    iexists (ρ c); iexact Hp
  isplitl [Hs] <;> iassumption
theorem dealt_all : bigSep Finset.univ (dealt m ρ)
    ⊢ (iprop((bigSep Finset.univ fun c : Dev nD => held m c) ∗ (bigSep Finset.univ fun c : Dev nD => semVal (barCell c) 0) ∗ Pool (F := F)) : sProp 𝕄) := by
  have h : bigSep Finset.univ (dealt m ρ)
      ⊢ (bigSep Finset.univ fun c : Dev nD => iprop(held m c ∗ semVal (barCell c) 0 ∗ parked (Pool (F := F)) c) : sProp 𝕄) := bigSep_mono fun c _ => dealt_one m ρ c
  have e := parked_all (Pool (F := F))
  rw [bigSep_sep', bigSep_sep', e] at h
  exact h

theorem bars_in : bigSep Finset.univ (fun c : Dev nD => (semVal (barCell c) 0 : sProp 𝕄)) ⊢ bigSep barCells (fun g => (semVal g 0 : sProp 𝕄)) := by
  unfold barCells
  rw [bigSep_map]
  exact BI.Entails.refl _
theorem bars_out : bigSep barCells (fun g => (atPos ER g 0 ∅ 0 : sProp 𝕄)) ⊢ bigSep Finset.univ (fun c : Dev nD => (atPos ER (barCell c) 0 ∅ 0 : sProp 𝕄)) := by
  unfold barCells
  rw [bigSep_map]
  exact BI.Entails.refl _
theorem opens_out : bigSep scCells (fun g => (openTok ER g : sProp 𝕄)) ⊢ bigSep Finset.univ fun c : Dev nD => Opens (F := F) c := by
  unfold scCells
  rw [bigSep_map, bigSep_univ_prod]
  exact BI.Entails.refl _

/-- Records made for any cells, those with counters at hand and those opened later. -/
theorem fund (S Sd : Finset (GSem nD τ sig)) (hS : Disjoint S Sd) (T : Finset (GSem nD τ sig × ℕ × Bool)) :
    iprop((bigSep S fun g => (semVal g 0 : sProp 𝕄)) ∗ BI.own (ER (launchOf S Sd T)))
      ⊢ |={Set.univ}=> ∃ κ : GSem nD τ sig → ℕ, ((bigSep (S ∪ Sd) fun g => cellInv ER (Rd (part m)) (κ g) g) ∗ bigSep S fun g => reached ER g 0)
        ∗ (bigSep S fun g => atPos ER g 0 ∅ 0) ∗ (bigSep Sd fun g => openTok ER g) ∗ bigSep T fun x => dutyTok ER x.1 x.2.1 x.2.2 := by
  iintro H
  imod (Rounds.fund_launch ER (Rd (part m)) hS (fun g _ h => h) T) $$ H with ⟨%κ, -, #Hinv, #Hr, Hat, Hopen, Htok⟩
  imodintro
  iexists κ
  isplitr
  · isplitr; · iexact Hinv
    iexact Hr
  isplitl [Hat]; · iexact Hat
  isplitl [Hopen] <;> iassumption

/-- What the devices are dealt of the protocol, from the records' making. -/
theorem own_deal : iprop((bigSep barCells fun g => (atPos ER g 0 ∅ 0 : sProp 𝕄)) ∗ (bigSep scCells fun g => openTok ER g) ∗ bigSep toks fun x => dutyTok ER x.1 x.2.1 x.2.2)
    ⊢ bigSep Finset.univ fun c : Dev nD => own (F := F) c := by
  unfold own
  rw [bigSep_sep', bigSep_sep']
  iintro ⟨Hat, Hopen, Htok⟩
  isplitl [Hat]; · iapply (bars_out (F := F)) $$ Hat
  isplitl [Hopen]; · iapply (opens_out (F := F)) $$ Hopen
  iapply (deal_toks (F := F)) $$ Htok

theorem pool_made : iprop((bigSep Finset.univ fun c : Dev nD => (semVal (barCell c) 0 : sProp 𝕄)) ∗ Pool (F := F))
    ⊢ |={Set.univ}=> ∃ κ, shared m κ ∗ bigSep Finset.univ fun c : Dev nD => own (F := F) c := by
  unfold Pool shared
  iintro ⟨Hv, Hu⟩
  ihave Hv := (bars_in (F := F)) $$ Hv
  imod (fund m barCells scCells cells_disjoint toks) $$ [Hv Hu] with ⟨%κ, #HS, Hr⟩
  · isplitl [Hv] <;> iassumption
  imodintro
  iexists κ
  isplitr; · iexact HS
  iapply (own_deal (F := F)) $$ Hr

theorem init : iprop(bigSep Finset.univ (dealt m ρ) ∗ levAts L lv) ⊢ (|={Set.univ}=> bigSep Finset.univ (First m) : sProp 𝕄) := by
  iintro ⟨H, -⟩
  ihave H' := (dealt_all m ρ) $$ H
  icases H' with ⟨HB, HP⟩
  imod (pool_made m) $$ HP with ⟨%κ, #HS, Ho⟩
  imodintro
  iapply (bigSep_with_persistent (R := shared m κ) (Φ := fun c => iprop(own (F := F) c ∗ held m c)) fun c _ => first_intro m κ c)
  isplitr; · iexact HS
  rw [bigSep_sep']
  isplitl [Ho] <;> iassumption

/-! ## The run -/

theorem V₁_arg0 (c : Dev nD) : V₁ m c main_arg0 = m ((c : Thread nD τ).loc main_arg0) := V_main_arg0 m c
theorem V₁_arg1 (c : Dev nD) : V₁ m c main_arg1 = m ((c : Thread nD τ).loc main_arg1) := V_main_arg1 m c
theorem V₂_arg0 (c : Dev nD) : V₂ m c main_arg0 = m ((c : Thread nD τ).loc main_arg0) := by
  have hn : (Proc.devRef .tc main_arg0 : DevRef τ sig) ≠ Proc.devRef .tc main_v2 := StableHlo.devRef_ne_of_ne (by decide)
  exact (Function.update_of_ne hn (Res (part m) c) (V₁ m c)).trans (V₁_arg0 m c)
theorem V₂_arg1 (c : Dev nD) : V₂ m c main_arg1 = m ((c : Thread nD τ).loc main_arg1) := by
  have hn : (Proc.devRef .tc main_arg1 : DevRef τ sig) ≠ Proc.devRef .tc main_v2 := StableHlo.devRef_ne_of_ne (by decide)
  exact (Function.update_of_ne hn (Res (part m) c) (V₁ m c)).trans (V₁_arg1 m c)
theorem V₂_res (c : Dev nD) : V₂ m c main_v2 = Res (part m) c := by
  unfold V₂
  exact Function.update_self ..

theorem only_bar : ∀ sm : SemLoc sig, sm.isScoped .tc = false → sm = .reg barS.sem := by decide

set_option backward.isDefEq.respectTransparency.types false in
/-- From any memory with zero counters the program ends, its arguments as they were, each device's result as the ring of
    partial products makes it, and every counter at zero. -/
theorem run_all : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = Res (part m) c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked Pool) (u₀ := u₀ (F := F))
    (hu₀ := by
      rw [parked_all]
      unfold u₀ Pool
      iintro Hu
      ihave H := (ownU_pair _ _) $$ Hu
      icases H with ⟨HP, HX⟩
      imodintro
      isplitl [HP] <;> iassumption)
    (T₀ := First m) (Tₙ := Last m)
    (hch := ⟨fun c => .rfl, fun c => reg_pre m c, fun c => reg_post m c⟩)
    (hinit := by have h := init m ρ; unfold dealt at h; exact h)
    (QY := fun c s => (s.mem ((c : Thread nD τ).loc main_arg0) = V₂ m c main_arg0 ∧ s.mem ((c : Thread nD τ).loc main_arg1) = V₂ m c main_arg1
      ∧ s.mem ((c : Thread nD τ).loc main_v2) = V₂ m c main_v2) ∧ s.sem (barCell c) = 0)
    (hfin := fun c s' => by
      dsimp only [Last]; rw [held_bufs]
      iintro ⟨⟨⟨Hx, Hy, -, Hz⟩, Hb0⟩, HSI⟩
      icombine HSI Hx gives %hx
      icombine HSI Hy gives %hy
      icombine HSI Hz gives %hz
      icombine HSI Hb0 gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => by
        obtain ⟨⟨hx, hy, hz⟩, -⟩ := h c
        exact ⟨hx.trans (V₂_arg0 m c), hy.trans (V₂_arg1 m c), hz.trans (V₂_res m c)⟩,
      sem_eq_zero hs fun c sm hsm => by
        obtain rfl := only_bar sm hsm
        exact (h c).2⟩)

end Cert.KernelIdeal.Ring
-- ==== Proof.RunIdeal.Value.lean ====
/- The result over the extended reals: every device ends with the sum, over all the devices, of their partial products, and
   that sum is the product of the whole matrices. -/
module

public import proofs.«01_k».proof.Proof.RunIdeal.Launch
public import Idealize.ShloMosaic.Lib.StackMember
public import Idealize.ShloMosaic.Lib.Layout
public import Mathlib.Algebra.BigOperators.Fin

@[expose] public section

noncomputable section

namespace Cert.KernelIdeal.Ring

open Idealize.ShloMosaic Idealize.ShloMosaic.TcCoe Idealize.ShloMosaic.ValueIdx
open Cert.KernelIdeal.Gen

/-! ## Round the ring -/

/-- The device `j` places before `c` in a direction's ring. -/
def before (δ : Bool) (j : ℕ) (c : Dev nD) : Dev nD := (succ (!δ))^[j] c
theorem before_succ (δ : Bool) (j : ℕ) (c : Dev nD) : before δ (j + 1) c = before δ j (succ (!δ) c) := rfl

theorem before_val (δ : Bool) (j : ℕ) (c : Dev nD) : (before δ j c).val = (c.val + j * (if δ then 15 else 1)) % 16 := by
  have hc : c.val < 16 := c.isLt
  induction j generalizing c with
  | zero => show c.val = _; omega
  | succ j ih =>
    have h := succ_val (!δ) c
    rw [before_succ, ih (succ (!δ) c) (succ (!δ) c).isLt, h]
    cases δ <;> simp only [ahead, Bool.not_true, Bool.not_false, if_true, Bool.false_eq_true, if_false] <;> omega

theorem before_all (δ : Bool) (c : Dev nD) : Function.Bijective fun j : Fin 16 => before δ j.val c := by
  refine Finite.injective_iff_bijective.mp fun j j' h => Fin.ext ?_
  have hj := j.isLt
  have hj' := j'.isLt
  have h1 := before_val δ j.val c
  have h2 := before_val δ j'.val c
  have h3 : (before δ j.val c).val = (before δ j'.val c).val := congrArg Fin.val h
  cases δ <;> simp only [if_true, Bool.false_eq_true, if_false] at h1 h2 <;> omega

theorem sum_before (δ : Bool) (c : Dev nD) (f : Dev nD → EReal) : ∑ j ∈ Finset.range 16, f (before δ j c) = ∑ d, f d := by
  rw [Finset.sum_range fun j => f (before δ j c)]
  exact (before_all δ c).sum_comp f

/-! ## The sum a transfer carries -/

variable (P : Parts Ideal)

/-- A partial product's entry, and an entry a transfer carries, as extended reals. -/
def share (x : S2048x2048.Idx) (c : Dev nD) : EReal := P c x
def carried (δ : Bool) (i : ℕ) (c : Dev nD) (r : Fin 128) (q : Fin 1024) : EReal := wv P δ i c r q

theorem bk_back (δ : Bool) (c : Dev nD) (n : ℕ) (hn : n < 40) : bk δ (succ (!δ) c) n = bk δ c (n + 1) := by
  have h := bk_succ δ (succ (!δ) c) n hn
  rw [succ_succ] at h
  exact h.symm

theorem acc_carried (δ : Bool) (i : ℕ) (c : Dev nD) (r : Fin 128) (q : Fin 1024) :
    (acc P δ i c r q : EReal) = share P (ix δ (bk δ c (i + 1)) r q) c + carried P δ i (succ (!δ) c) r q := rfl
theorem carried_acc (δ : Bool) (i : ℕ) (hi : i < 15) (c : Dev nD) (r : Fin 128) (q : Fin 1024) : carried P δ (i + 1) c r q = acc P δ i c r q :=
  wv_acc P δ i hi c r q

/-- Before it is full: the partial products of the devices behind. -/
theorem carried_some (δ : Bool) (r : Fin 128) (q : Fin 1024) (i : ℕ) (hi : i ≤ 15) (c : Dev nD) :
    carried P δ i c r q = ∑ j ∈ Finset.range (i + 1), share P (ix δ (bk δ c i) r q) (before δ j c) := by
  induction i generalizing c with
  | zero => rw [Finset.sum_range_one]; rfl
  | succ i ih =>
    have e := Finset.sum_range_succ' (fun j => share P (ix δ (bk δ c (i + 1)) r q) (before δ j c)) (i + 1)
    rw [carried_acc P δ i (by omega), acc_carried, ih (by omega), bk_back δ c i (by omega), e, add_comm]
    rfl
/-- Once it is full: those of all the devices. -/
theorem carried_all (δ : Bool) (r : Fin 128) (q : Fin 1024) (n : ℕ) (hn : n ≤ 15) (c : Dev nD) :
    carried P δ (15 + n) c r q = ∑ d, share P (ix δ (bk δ c (15 + n)) r q) d := by
  induction n generalizing c with
  | zero => rw [carried_some P δ r q 15 (Nat.le_refl _)]; exact sum_before δ c _
  | succ n ih =>
    have e : carried P δ (15 + (n + 1)) c r q = carried P δ (15 + n) (succ (!δ) c) r q :=
      congrFun (congrFun (wv_pass P δ (15 + n) (by omega) c) r) q
    rw [e, ih (by omega), bk_back δ c (15 + n) (by omega)]
    rfl

theorem Res_sum (c : Dev nD) (x : S2048x2048.Idx) : (Res P c x : EReal) = ∑ d, share P x d := by
  obtain ⟨h1, h2, h3⟩ := num_spec (halfOf x) c (chunkOf x)
  unfold Res
  by_cases hn : num (halfOf x) c (chunkOf x) = 15
  · have e : (ov P (halfOf x) (num (halfOf x) c (chunkOf x)) c (rowOf x) (colAt x) : EReal) = carried P (halfOf x) 15 c (rowOf x) (colAt x) := by
      unfold ov
      rw [if_pos hn]
      exact (carried_acc P (halfOf x) 14 (by decide) c (rowOf x) (colAt x)).symm
    rw [hn] at h3
    refine e.trans ((carried_all P (halfOf x) (rowOf x) (colAt x) 0 (by decide) c).trans ?_)
    rw [Nat.add_zero, h3, ix_parts]
  · obtain ⟨n, hn'⟩ : ∃ n, num (halfOf x) c (chunkOf x) = 15 + n + 1 := ⟨num (halfOf x) c (chunkOf x) - 16, by omega⟩
    have e : (ov P (halfOf x) (num (halfOf x) c (chunkOf x)) c (rowOf x) (colAt x) : EReal)
        = carried P (halfOf x) (15 + n) (succ (!halfOf x) c) (rowOf x) (colAt x) := by
      unfold ov
      rw [if_neg hn, hn']
      rfl
    rw [hn'] at h3
    refine e.trans ((carried_all P (halfOf x) (rowOf x) (colAt x) n (by omega) (succ (!halfOf x) c)).trans ?_)
    rw [bk_back _ _ _ (by omega), h3, ix_parts]

/-! ## The partial products, and the whole one -/

variable (m : (ℓ : Loc nD τ sig) → Buf (Elt Ideal) ℓ)

theorem part_eq (c : Dev nD) : part m c = Host.dotGeneral (F := Ideal) (φ₁ := .bf16) (φ₂ := .bf16) (DotDims.plain 2048 1024 2048) none
    (m ((c : Thread nD τ).loc main_arg0) : FVec Ideal ⟨2, ![2048, 1024]⟩ .bf16) (m ((c : Thread nD τ).loc main_arg1) : FVec Ideal ⟨2, ![1024, 2048]⟩ .bf16) := by
  unfold part V₁ hostOps0
  rw [StableHlo.after_cons, StableHlo.after_nil, StableHlo.binary_result]
  rfl

/-- A device's arguments, as extended reals. -/
def arg0 (c : Dev nD) (a : Fin 2048) (k : Fin 1024) : EReal := m ((c : Thread nD τ).loc main_arg0) (ix2 a k)
def arg1 (c : Dev nD) (k : Fin 1024) (b : Fin 2048) : EReal := m ((c : Thread nD τ).loc main_arg1) (ix2 k b)

theorem part_entry (c : Dev nD) (a b : Fin 2048) : share (part m) (ix2 a b) c = ∑ k : Fin 1024, arg0 m c a k * arg1 m c k b := by
  unfold share
  rw [part_eq]
  exact StackMember.dotGeneral_plain_apply none _ _ a b

/-- A contraction cut in blocks. -/
theorem sum_blocks (f : Fin 16384 → EReal) : ∑ d : Fin 16, ∑ k : Fin 1024, f ⟨d.val * 1024 + k.val, by omega⟩ = ∑ i, f i := by
  rw [← Fintype.sum_prod_type' (fun (d : Fin 16) (k : Fin 1024) => f ⟨d.val * 1024 + k.val, by omega⟩)]
  refine Fintype.sum_equiv (finProdFinEquiv (m := 16) (n := 1024)) _ f fun p => congrArg f (Fin.ext ?_)
  show p.1.val * 1024 + p.2.val = p.2.val + 1024 * p.1.val
  omega

theorem Res_whole (A : FVec Ideal ⟨2, ![2048, 16384]⟩ .bf16) (B : FVec Ideal ⟨2, ![16384, 2048]⟩ .bf16)
    (hA : ∀ c : Dev nD, m ((c : Thread nD τ).loc main_arg0) = Layout.block ⟨2, ![2048, 1024]⟩ ⟨2, ![2048, 16384]⟩ 1 16 c A)
    (hB : ∀ c : Dev nD, m ((c : Thread nD τ).loc main_arg1) = Layout.block ⟨2, ![1024, 2048]⟩ ⟨2, ![16384, 2048]⟩ 0 16 c B)
    (c : Dev nD) (a b : Fin 2048) : (Res (part m) c (ix2 a b) : EReal) = ∑ i : Fin 16384, (A (ix2 a i) * B (ix2 i b) : EReal) := by
  rw [Res_sum, ← sum_blocks fun i => (A (ix2 a i) * B (ix2 i b) : EReal)]
  refine Finset.sum_congr rfl fun d _ => (part_entry m d a b).trans (Finset.sum_congr rfl fun k _ => ?_)
  unfold arg0 arg1
  rw [hA d, hB d]
  refine congrArg₂ (fun x y : EReal => x * y) (congrArg A (funext fun s => Fin.ext ?_)) (congrArg B (funext fun s => Fin.ext ?_))
  · match s with
    | 0 => rfl
    | 1 => rfl
  · match s with
    | 0 => rfl
    | 1 => rfl

end Cert.KernelIdeal.Ring
-- ==== Proof.RunIdeal.Against.lean ====
/- The two programs over the extended reals: the reference's array is the whole product, entry by entry, and so is what every
   device of the kernel ends with. -/
module

public import proofs.«01_k».proof.Proof.RunIdeal.Value
public import proofs.«01_k».proof.Proof.Gen.ReferenceIdeal.Run
public import Idealize.ShloMosaic.Lib.Quiescent

@[expose] public section

noncomputable section

namespace Cert.KernelIdeal.Ring

open Idealize.ShloMosaic Idealize.ShloMosaic.TcCoe Idealize.ShloMosaic.ValueIdx Idealize.SL.Sem
open Cert.KernelIdeal.Gen Cert.ReferenceIdeal.Gen

/-- What the reference computes of its arguments: a format change is the identity here, so only the product is left. -/
def whole (A : FVec Ideal ⟨2, ![2048, 16384]⟩ .bf16) (B : FVec Ideal ⟨2, ![16384, 2048]⟩ .bf16) : FVec Ideal ⟨2, ![2048, 2048]⟩ .f32 :=
  Host.dotGeneral (F := Ideal) (φ₁ := .f32) (φ₂ := .f32) (DotDims.plain 2048 16384 2048) none
    (extf .f32 A (by decide)) (extf .f32 B (by decide))

theorem whole_entry (A : FVec Ideal ⟨2, ![2048, 16384]⟩ .bf16) (B : FVec Ideal ⟨2, ![16384, 2048]⟩ .bf16) (a b : Fin 2048) :
    (whole A B (ix2 a b) : EReal) = ∑ i : Fin 16384, (A (ix2 a i) * B (ix2 i b) : EReal) :=
  StackMember.dotGeneral_plain_apply none _ _ a b

/-- Every device's result is the reference's. -/
theorem Res_eq_whole (m : (ℓ : Loc nD τ sig) → Buf (Elt Ideal) ℓ)
    (A : FVec Ideal ⟨2, ![2048, 16384]⟩ .bf16) (B : FVec Ideal ⟨2, ![16384, 2048]⟩ .bf16)
    (hA : ∀ c : Dev nD, m ((c : Thread nD τ).loc main_arg0) = Layout.block ⟨2, ![2048, 1024]⟩ ⟨2, ![2048, 16384]⟩ 1 16 c A)
    (hB : ∀ c : Dev nD, m ((c : Thread nD τ).loc main_arg1) = Layout.block ⟨2, ![1024, 2048]⟩ ⟨2, ![16384, 2048]⟩ 0 16 c B)
    (c : Dev nD) : Res (part m) c = whole A B := by
  funext x
  obtain ⟨a, b, rfl⟩ : ∃ (a b : Fin 2048), x = ix2 a b := ⟨x 0, x 1, eq_ix2 x⟩
  exact (Res_whole m A B hA hB c a b).trans (whole_entry A B a b).symm

/-- The reference runs, ends with the whole product and leaves its arguments and every counter as they were. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_v4)
            = whole (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).1.trans rfl, (h c).2⟩, sem_eq_zero_of_no_sems (by decide) r.2⟩)
    (Cert.ReferenceIdeal.Value.run (F := Ideal) m ρ)

end Cert.KernelIdeal.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run.Launch
public import proofs.«01_k».proof.Proof.RunIdeal.Launch
public import proofs.«01_k».proof.Proof.RunIdeal.Value
public import proofs.«01_k».proof.Proof.RunIdeal.Against
public import Idealize.ShloMosaic.Adequacy
public import Idealize.ShloMosaic.Init

@[expose] public section

noncomputable section

namespace Cert.Proof

open Idealize.ShloMosaic Idealize.SL.Sem

/-- The kernel runs and comes to rest. -/
theorem kernel_rests : quiescent_Kernel (hKernel := Cert.Kernel.Gen.facts) := fun m g _ =>
  (θ_run Cert.Kernel.defs _ _).mono (fun _ h => ⟨fun c => ⟨(h.1 c).1, (h.1 c).2.1⟩, h.2⟩) (Cert.Kernel.Ring.run_all m g)

/-- So does the idealized kernel. -/
theorem ideal_rests : quiescent_KernelIdeal (hKernelIdeal := Cert.KernelIdeal.Gen.facts) := fun m g _ =>
  (θ_run Cert.KernelIdeal.defs _ _).mono (fun _ h => ⟨fun c => ⟨(h.1 c).1, (h.1 c).2.1⟩, h.2⟩) (Cert.KernelIdeal.Ring.run_all m g)

/-- So does the reference. -/
theorem reference_rests : quiescent_ReferenceIdeal (hReferenceIdeal := Cert.ReferenceIdeal.Gen.facts) := fun m g _ =>
  (θ_run Cert.ReferenceIdeal.defs _ _).mono (fun _ h => ⟨fun c => (h.1 c).2, h.2⟩) (Cert.KernelIdeal.Ring.reference_run m g)

/-- Every device of the kernel ends with the reference's array. -/
theorem same_array : algebraic_KernelIdeal_ReferenceIdeal (hKernelIdeal := Cert.KernelIdeal.Gen.facts)
    (hReferenceIdeal := Cert.ReferenceIdeal.Gen.facts) := fun m g m' g' _ hm =>
  ⟨_, (θ_run Cert.KernelIdeal.defs _ _).mono
      (fun _ h c => ⟨(h.1 c).2.2.trans
        (Cert.KernelIdeal.Ring.Res_eq_whole m _ _ (fun d => (hm d).1) (fun d => (hm d).2) c), (h.1 c).1, (h.1 c).2.1⟩)
      (Cert.KernelIdeal.Ring.run_all m g),
    (θ_run Cert.ReferenceIdeal.defs _ _).mono (fun _ h => h.1 0) (Cert.KernelIdeal.Ring.reference_run m' g')⟩

theorem claim : Cert.Claim :=
  ⟨Cert.Kernel.Gen.facts, Cert.KernelIdeal.Gen.facts, Cert.ReferenceIdeal.Gen.facts,
    kernel_rests, ideal_rests, reference_rests, trivial, same_array⟩

end Cert.Proof

end
